-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v57) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "qscale" .f32 0x3E38AA3B#32 (((Real.log 256)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v81) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v299) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x16384x1024 : Shape := ⟨3, ![2, 16384, 1024]⟩
abbrev S2x16384x256 : Shape := ⟨3, ![2, 16384, 256]⟩
abbrev S2x3x1024 : Shape := ⟨3, ![2, 3, 1024]⟩
abbrev S16 : Shape := ⟨1, ![16]⟩
abbrev S1024x1024 : Shape := ⟨2, ![1024, 1024]⟩
abbrev S_ : Shape := ⟨0, ![]⟩
abbrev S2x16384x128 : Shape := ⟨3, ![2, 16384, 128]⟩
abbrev S2x16384x64 : Shape := ⟨3, ![2, 16384, 64]⟩
abbrev S2x16384x512 : Shape := ⟨3, ![2, 16384, 512]⟩
abbrev S1x128x384 : Shape := ⟨3, ![1, 128, 384]⟩
abbrev S16x1x1 : Shape := ⟨3, ![16, 1, 1]⟩
abbrev S16x128x384 : Shape := ⟨3, ![16, 128, 384]⟩
abbrev S1x128x128 : Shape := ⟨3, ![1, 128, 128]⟩
abbrev S16x128x128 : Shape := ⟨3, ![16, 128, 128]⟩
abbrev S17x128x128 : Shape := ⟨3, ![17, 128, 128]⟩
abbrev S1x512x1024 : Shape := ⟨3, ![1, 512, 1024]⟩
abbrev S1x128x512 : Shape := ⟨3, ![1, 128, 512]⟩
abbrev S1x512x512 : Shape := ⟨3, ![1, 512, 512]⟩
abbrev S1x3x1024 : Shape := ⟨3, ![1, 3, 1024]⟩
abbrev S768x512 : Shape := ⟨2, ![768, 512]⟩
abbrev S512x1024 : Shape := ⟨2, ![512, 1024]⟩
abbrev S128x512 : Shape := ⟨2, ![128, 512]⟩
abbrev S512x512 : Shape := ⟨2, ![512, 512]⟩
abbrev S128x128 : Shape := ⟨2, ![128, 128]⟩
abbrev S384x128 : Shape := ⟨2, ![384, 128]⟩
abbrev S128x384 : Shape := ⟨2, ![128, 384]⟩
abbrev S1 : Shape := ⟨1, ![1]⟩
abbrev S128 : Shape := ⟨1, ![128]⟩
abbrev S128x1 : Shape := ⟨2, ![128, 1]⟩
abbrev S1x1x1024 : Shape := ⟨3, ![1, 1, 1024]⟩
abbrev S1x1024 : Shape := ⟨2, ![1, 1024]⟩

abbrev nBuf : Space → Nat
  | .hbm => 67
  | .vmem => 27
  | .smem => 1
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x256, .f32⟩
  | .hbm, ⟨3, _⟩ => ⟨S2x16384x256, .f32⟩
  | .hbm, ⟨4, _⟩ => ⟨S2x3x1024, .f32⟩
  | .hbm, ⟨5, _⟩ => ⟨S16, .f32⟩
  | .hbm, ⟨6, _⟩ => ⟨S1024x1024, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x1024, .f32⟩
  | .hbm, ⟨13, _⟩ => ⟨S2x16384x1024, .f32⟩
  | .hbm, ⟨14, _⟩ => ⟨S2x16384x1024, .bf16⟩
  | .hbm, ⟨15, _⟩ => ⟨S2x16384x128, .f32⟩
  | .hbm, ⟨16, _⟩ => ⟨S2x16384x64, .f32⟩
  | .hbm, ⟨17, _⟩ => ⟨S2x16384x64, .f32⟩
  | .hbm, ⟨18, _⟩ => ⟨S2x16384x128, .f32⟩
  | .hbm, ⟨19, _⟩ => ⟨S2x16384x128, .f32⟩
  | .hbm, ⟨20, _⟩ => ⟨S2x16384x64, .f32⟩
  | .hbm, ⟨21, _⟩ => ⟨S2x16384x64, .f32⟩
  | .hbm, ⟨22, _⟩ => ⟨S2x16384x128, .f32⟩
  | .hbm, ⟨23, _⟩ => ⟨S2x16384x512, .f32⟩
  | .hbm, ⟨24, _⟩ => ⟨S2x16384x512, .bf16⟩
  | .hbm, ⟨25, _⟩ => ⟨S2x16384x128, .f32⟩
  | .hbm, ⟨26, _⟩ => ⟨S2x16384x64, .f32⟩
  | .hbm, ⟨27, _⟩ => ⟨S2x16384x64, .f32⟩
  | .hbm, ⟨28, _⟩ => ⟨S2x16384x128, .f32⟩
  | .hbm, ⟨29, _⟩ => ⟨S2x16384x128, .f32⟩
  | .hbm, ⟨30, _⟩ => ⟨S2x16384x64, .f32⟩
  | .hbm, ⟨31, _⟩ => ⟨S2x16384x64, .f32⟩
  | .hbm, ⟨32, _⟩ => ⟨S2x16384x128, .f32⟩
  | .hbm, ⟨33, _⟩ => ⟨S2x16384x512, .f32⟩
  | .hbm, ⟨34, _⟩ => ⟨S2x16384x512, .bf16⟩
  | .hbm, ⟨35, _⟩ => ⟨S1024x1024, .bf16⟩
  | .hbm, ⟨36, _⟩ => ⟨S1x128x384, .i32⟩
  | .hbm, ⟨37, _⟩ => ⟨S1x128x384, .i32⟩
  | .hbm, ⟨38, _⟩ => ⟨S_, .i32⟩
  | .hbm, ⟨39, _⟩ => ⟨S1x128x384, .i32⟩
  | .hbm, ⟨40, _⟩ => ⟨S1x128x384, .i32⟩
  | .hbm, ⟨41, _⟩ => ⟨S1x128x384, .i32⟩
  | .hbm, ⟨42, _⟩ => ⟨S1x128x384, .i32⟩
  | .hbm, ⟨43, _⟩ => ⟨S16x1x1, .f32⟩
  | .hbm, ⟨44, _⟩ => ⟨S16x1x1, .f32⟩
  | .hbm, ⟨45, _⟩ => ⟨S1x128x384, .f32⟩
  | .hbm, ⟨46, _⟩ => ⟨S16x128x384, .f32⟩
  | .hbm, ⟨47, _⟩ => ⟨S16x128x384, .f32⟩
  | .hbm, ⟨48, _⟩ => ⟨S16x128x384, .f32⟩
  | .hbm, ⟨49, _⟩ => ⟨S16x128x384, .f32⟩
  | .hbm, ⟨50, _⟩ => ⟨S16x128x384, .f32⟩
  | .hbm, ⟨51, _⟩ => ⟨S_, .i32⟩
  | .hbm, ⟨52, _⟩ => ⟨S1x128x384, .i32⟩
  | .hbm, ⟨53, _⟩ => ⟨S1x128x384, .i1⟩
  | .hbm, ⟨54, _⟩ => ⟨S_, .f32⟩
  | .hbm, ⟨55, _⟩ => ⟨S_, .f32⟩
  | .hbm, ⟨56, _⟩ => ⟨S16x128x384, .i1⟩
  | .hbm, ⟨57, _⟩ => ⟨S16x128x384, .f32⟩
  | .hbm, ⟨58, _⟩ => ⟨S16x128x384, .f32⟩
  | .hbm, ⟨59, _⟩ => ⟨S_, .f32⟩
  | .hbm, ⟨60, _⟩ => ⟨S1x128x128, .f32⟩
  | .hbm, ⟨61, _⟩ => ⟨S16x128x128, .f32⟩
  | .hbm, ⟨62, _⟩ => ⟨S17x128x128, .f32⟩
  | .hbm, ⟨63, _⟩ => ⟨S16x128x128, .f32⟩
  | .hbm, ⟨64, _⟩ => ⟨S16x128x128, .f32⟩
  | .hbm, ⟨65, _⟩ => ⟨S17x128x128, .f32⟩
  | .hbm, ⟨66, _⟩ => ⟨S2x16384x1024, .f32⟩
  | .local _ .vmem, ⟨0, _⟩ => ⟨S17x128x128, .f32⟩
  | .local _ .vmem, ⟨1, _⟩ => ⟨S16x128x128, .f32⟩
  | .local _ .vmem, ⟨2, _⟩ => ⟨S17x128x128, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x128x512, .bf16⟩
  | .local _ .vmem, ⟨8, _⟩ => ⟨S1x128x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x128x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x128x512, .bf16⟩
  | .local _ .vmem, ⟨18, _⟩ => ⟨S1x128x512, .bf16⟩
  | .local _ .vmem, ⟨19, _⟩ => ⟨S1x3x1024, .f32⟩
  | .local _ .vmem, ⟨20, _⟩ => ⟨S1x3x1024, .f32⟩
  | .local _ .vmem, ⟨21, _⟩ => ⟨S1024x1024, .bf16⟩
  | .local _ .vmem, ⟨22, _⟩ => ⟨S1x512x1024, .f32⟩
  | .local _ .vmem, ⟨23, _⟩ => ⟨S1x512x1024, .f32⟩
  | .local _ .vmem, ⟨24, _⟩ => ⟨S768x512, .bf16⟩
  | .local _ .vmem, ⟨25, _⟩ => ⟨S768x512, .bf16⟩
  | .local _ .vmem, ⟨26, _⟩ => ⟨S512x1024, .bf16⟩
  | .local _ .smem, ⟨0, _⟩ => ⟨S16, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_v0 : Ref sig .tc := ⟨.hbm, 16, rfl⟩
abbrev main_call0_v1 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_v0 : Ref sig .tc := ⟨.hbm, 26, rfl⟩
abbrev main_call2_v1 : Ref sig .tc := ⟨.hbm, 27, rfl⟩
abbrev main_v12 : Ref sig .tc := ⟨.hbm, 28, rfl⟩
abbrev main_v13 : Ref sig .tc := ⟨.hbm, 29, rfl⟩
abbrev main_call3_v0 : Ref sig .tc := ⟨.hbm, 30, rfl⟩
abbrev main_call3_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c4_i32 : BitVec 32 := 4#32
  let v33 : BitVec 32 := Scalar.addi c0_i32 c4_i32
  let c1_i32 : BitVec 32 := 1#32
  ⟨c0_i32, v33, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  v48
def k0_off1 (k0_t1 : Fin k0_t1_loop.trips) : Fin 3 → Nat :=
  let c0_42 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v56 : Index := Scalar.indexCast v49
  let c0_43 : Index := 0#32
  ![0, v56.toNat, 0]
def k0_off2 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v61 : Index := Scalar.indexCast v49
  let c0_45 : Index := 0#32
  ![v61.toNat, 0]
def k0_off3 (i : grid0.Coords) (k0_t1 : Fin k0_t1_loop.trips) (c0_i32_40 : BitVec 32) (c0_i32_41 : BitVec 32) (c0_i32_47 : BitVec 32) : Fin 3 → Nat :=
  let arg1 : BitVec 32 := BitVec.ofNat 32 (i 1).val
  let v50 : BitVec 1 := Scalar.cmpi .eq arg1 c0_i32_40
  let c0_i32 : BitVec 32 := 0#32
  let c1_i32 : BitVec 32 := 1#32
  let arg20 : BitVec 32 := Scf.iv c0_i32 c1_i32 k0_t1
  let v51 : BitVec 1 := Scalar.cmpi .eq arg20 c0_i32_41
  let v52 : BitVec 1 := Scalar.andi v50 v51
  let c16_i32 : BitVec 32 := 16#32
  let v64 : BitVec 32 := Scalar.select v52 c16_i32 c0_i32_47
  let v65 : Index := Scalar.indexCast v64
  let c0_48 : Index := 0#32
  let c0_49 : Index := 0#32
  ![v65.toNat, 0, 0]
def k0_off3_at (r : Fin 32) : BitVec 32 × BitVec 32 × BitVec 32 :=
  if r.val < 16 then
    if r.val < 8 then
      if r.val < 4 then
        if r.val < 2 then
          if r.val < 1 then
            (0#32, 0#32, 0#32)
          else
            (31#32, 3#32, 0#32)
        else
          if r.val < 3 then
            (0#32, 0#32, 1#32)
          else
            (31#32, 3#32, 1#32)
      else
        if r.val < 6 then
          if r.val < 5 then
            (0#32, 0#32, 2#32)
          else
            (31#32, 3#32, 2#32)
        else
          if r.val < 7 then
            (0#32, 0#32, 3#32)
          else
            (31#32, 3#32, 3#32)
    else
      if r.val < 12 then
        if r.val < 10 then
          if r.val < 9 then
            (0#32, 0#32, 4#32)
          else
            (31#32, 3#32, 4#32)
        else
          if r.val < 11 then
            (0#32, 0#32, 5#32)
          else
            (31#32, 3#32, 5#32)
      else
        if r.val < 14 then
          if r.val < 13 then
            (0#32, 0#32, 6#32)
          else
            (31#32, 3#32, 6#32)
        else
          if r.val < 15 then
            (0#32, 0#32, 7#32)
          else
            (31#32, 3#32, 7#32)
  else
    if r.val < 24 then
      if r.val < 20 then
        if r.val < 18 then
          if r.val < 17 then
            (0#32, 0#32, 8#32)
          else
            (31#32, 3#32, 8#32)
        else
          if r.val < 19 then
            (0#32, 0#32, 9#32)
          else
            (31#32, 3#32, 9#32)
      else
        if r.val < 22 then
          if r.val < 21 then
            (0#32, 0#32, 10#32)
          else
            (31#32, 3#32, 10#32)
        else
          if r.val < 23 then
            (0#32, 0#32, 11#32)
          else
            (31#32, 3#32, 11#32)
    else
      if r.val < 28 then
        if r.val < 26 then
          if r.val < 25 then
            (0#32, 0#32, 12#32)
          else
            (31#32, 3#32, 12#32)
        else
          if r.val < 27 then
            (0#32, 0#32, 13#32)
          else
            (31#32, 3#32, 13#32)
      else
        if r.val < 30 then
          if r.val < 29 then
            (0#32, 0#32, 14#32)
          else
            (31#32, 3#32, 14#32)
        else
          if r.val < 31 then
            (0#32, 0#32, 15#32)
          else
            (31#32, 3#32, 15#32)
def k0_off4 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v81 : Index := Scalar.indexCast v49
  let c256 : Index := 256#32
  ![v81.toNat, 256]
def k0_off5 (k0_t1 : Fin k0_t1_loop.trips) : Fin 3 → Nat :=
  let c0_71 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v96 : Index := Scalar.indexCast v49
  let c128_72 : Index := 128#32
  ![0, v96.toNat, 128]
def k0_off6 (k0_t1 : Fin k0_t1_loop.trips) : Fin 3 → Nat :=
  let c0_101 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v136 : Index := Scalar.indexCast v49
  let c256_102 : Index := 256#32
  ![0, v136.toNat, 256]
def k0_off7 (k0_t1 : Fin k0_t1_loop.trips) : Fin 3 → Nat :=
  let c0_136 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v197 : Index := Scalar.indexCast v49
  let c384 : Index := 384#32
  ![0, v197.toNat, 384]
def k0_off8 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v240 : Index := Scalar.indexCast v49
  let c0_155 : Index := 0#32
  ![v240.toNat, 0]
def k0_off9 (k0_t1 : Fin k0_t1_loop.trips) : Fin 3 → Nat :=
  let c0_176 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v285 : Index := Scalar.indexCast v49
  let c512 : Index := 512#32
  ![0, v285.toNat, 512]
def k0_off10 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v290 : Index := Scalar.indexCast v49
  let c128_178 : Index := 128#32
  ![v290.toNat, 128]
def k0_off11 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v328 : Index := Scalar.indexCast v49
  let c128_195 : Index := 128#32
  ![v328.toNat, 128]
def k0_off12 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v337 : Index := Scalar.indexCast v49
  let c384_199 : Index := 384#32
  ![v337.toNat, 384]
def k0_off13 (k0_t1 : Fin k0_t1_loop.trips) : Fin 3 → Nat :=
  let c0_216 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v373 : Index := Scalar.indexCast v49
  let c640_217 : Index := 640#32
  ![0, v373.toNat, 640]
def k0_off14 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v416 : Index := Scalar.indexCast v49
  let c256_236 : Index := 256#32
  ![v416.toNat, 256]
def k0_off15 (k0_t1 : Fin k0_t1_loop.trips) : Fin 3 → Nat :=
  let c0_257 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v461 : Index := Scalar.indexCast v49
  let c768 : Index := 768#32
  ![0, v461.toNat, 768]
def k0_off16 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v504 : Index := Scalar.indexCast v49
  let c384_276 : Index := 384#32
  ![v504.toNat, 384]
def k0_off17 (k0_t1 : Fin k0_t1_loop.trips) : Fin 3 → Nat :=
  let c0_297 : Index := 0#32
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v549 : Index := Scalar.indexCast v49
  let c896 : Index := 896#32
  ![0, v549.toNat, 896]
def k0_off18 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v592 : Index := Scalar.indexCast v49
  let c512_316 : Index := 512#32
  ![v592.toNat, 512]
def k0_off19 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v660 : Index := Scalar.indexCast v49
  let c640_343 : Index := 640#32
  ![v660.toNat, 640]
def k0_off20 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v708 : Index := Scalar.indexCast v49
  let c768_356 : Index := 768#32
  ![v708.toNat, 768]
def k0_off21 (k0_t1 : Fin k0_t1_loop.trips) : Fin 2 → Nat :=
  let c0_i32 : BitVec 32 := 0#32
  let c1_i32 : BitVec 32 := 1#32
  let arg20 : BitVec 32 := Scf.iv c0_i32 c1_i32 k0_t1
  let c128_i32 : BitVec 32 := 128#32
  let v48 : BitVec 32 := Scalar.muli arg20 c128_i32
  let v49 : BitVec 32 := v48
  let v756 : Index := Scalar.indexCast v49
  let c896_369 : Index := 896#32
  ![v756.toNat, 896]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S17x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S17x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x3x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x1024 : Shape := ⟨3, ![2, 16384, 1024]⟩
abbrev S2x16384x256 : Shape := ⟨3, ![2, 16384, 256]⟩
abbrev S2x3x1024 : Shape := ⟨3, ![2, 3, 1024]⟩
abbrev S16 : Shape := ⟨1, ![16]⟩
abbrev S1024x1024 : Shape := ⟨2, ![1024, 1024]⟩
abbrev S2x128x128x4x4x64 : Shape := ⟨6, ![2, 128, 128, 4, 4, 64]⟩
abbrev S2x16384x4x64 : Shape := ⟨4, ![2, 16384, 4, 64]⟩
abbrev S_ : Shape := ⟨0, ![]⟩
abbrev S2x16640x4x64 : Shape := ⟨4, ![2, 16640, 4, 64]⟩
abbrev S2x130x128x4x64 : Shape := ⟨5, ![2, 130, 128, 4, 64]⟩
abbrev S2x128x128x4x64 : Shape := ⟨5, ![2, 128, 128, 4, 64]⟩
abbrev S2x128x384x4x64 : Shape := ⟨5, ![2, 128, 384, 4, 64]⟩
abbrev S2x128x4x384x128x4 : Shape := ⟨6, ![2, 128, 4, 384, 128, 4]⟩
abbrev S2x128x4x4x128x384 : Shape := ⟨6, ![2, 128, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S128x1x1 : Shape := ⟨3, ![128, 1, 1]⟩
abbrev S1x1x384 : Shape := ⟨3, ![1, 1, 384]⟩
abbrev S128x1x384 : Shape := ⟨3, ![128, 1, 384]⟩
abbrev S1x128x384 : Shape := ⟨3, ![1, 128, 384]⟩
abbrev S128x128x384 : Shape := ⟨3, ![128, 128, 384]⟩
abbrev S4x4 : Shape := ⟨2, ![4, 4]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S1x128x1x1x128x384 : Shape := ⟨6, ![1, 128, 1, 1, 128, 384]⟩
abbrev S1x1x4x4x128x384 : Shape := ⟨6, ![1, 1, 4, 4, 128, 384]⟩
abbrev S1x1x4x4x1 : Shape := ⟨5, ![1, 1, 4, 4, 1]⟩
abbrev S2x128x4x4x128 : Shape := ⟨5, ![2, 128, 4, 4, 128]⟩
abbrev S2x128x4x4x128x1 : Shape := ⟨6, ![2, 128, 4, 4, 128, 1]⟩
abbrev S2x128x4x64x4x128 : Shape := ⟨6, ![2, 128, 4, 64, 4, 128]⟩
abbrev S2x128x128x4x4 : Shape := ⟨5, ![2, 128, 128, 4, 4]⟩
abbrev S2x128x128x4x4x1 : Shape := ⟨6, ![2, 128, 128, 4, 4, 1]⟩
abbrev S2x1x1024 : Shape := ⟨3, ![2, 1, 1024]⟩
abbrev S2x1024 : Shape := ⟨2, ![2, 1024]⟩

abbrev nBuf : Space → Nat
  | .hbm => 118
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x256, .f32⟩
  | .hbm, ⟨3, _⟩ => ⟨S2x16384x256, .f32⟩
  | .hbm, ⟨4, _⟩ => ⟨S2x3x1024, .f32⟩
  | .hbm, ⟨5, _⟩ => ⟨S16, .f32⟩
  | .hbm, ⟨6, _⟩ => ⟨S1024x1024, .f32⟩
  | .hbm, ⟨7, _⟩ => ⟨S16, .f32⟩
  | .hbm, ⟨8, _⟩ => ⟨S2x128x128x4x4x64, .f32⟩
  | .hbm, ⟨9, _⟩ => ⟨S2x16384x4x64, .f32⟩
  | .hbm, ⟨10, _⟩ => ⟨S2x16384x4x64, .f32⟩
  | .hbm, ⟨11, _⟩ => ⟨S_, .i32⟩
  | .hbm, ⟨12, _⟩ => ⟨S_, .f32⟩
  | .hbm, ⟨13, _⟩ => ⟨S2x16640x4x64, .f32⟩
  | .hbm, ⟨14, _⟩ => ⟨S2x130x128x4x64, .f32⟩
  | .hbm, ⟨15, _⟩ => ⟨S2x128x128x4x64, .f32⟩
  | .hbm, ⟨16, _⟩ => ⟨S2x128x128x4x64, .f32⟩
  | .hbm, ⟨17, _⟩ => ⟨S2x128x128x4x64, .f32⟩
  | .hbm, ⟨18, _⟩ => ⟨S2x128x384x4x64, .f32⟩
  | .hbm, ⟨19, _⟩ => ⟨S_, .i32⟩
  | .hbm, ⟨20, _⟩ => ⟨S_, .f32⟩
  | .hbm, ⟨21, _⟩ => ⟨S2x16640x4x64, .f32⟩
  | .hbm, ⟨22, _⟩ => ⟨S2x130x128x4x64, .f32⟩
  | .hbm, ⟨23, _⟩ => ⟨S2x128x128x4x64, .f32⟩
  | .hbm, ⟨24, _⟩ => ⟨S2x128x128x4x64, .f32⟩
  | .hbm, ⟨25, _⟩ => ⟨S2x128x128x4x64, .f32⟩
  | .hbm, ⟨26, _⟩ => ⟨S2x128x384x4x64, .f32⟩
  | .hbm, ⟨27, _⟩ => ⟨S2x128x4x384x128x4, .f32⟩
  | .hbm, ⟨28, _⟩ => ⟨S2x128x4x4x128x384, .f32⟩
  | .hbm, ⟨29, _⟩ => ⟨S_, .f32⟩
  | .hbm, ⟨30, _⟩ => ⟨S2x128x4x4x128x384, .f32⟩
  | .hbm, ⟨31, _⟩ => ⟨S2x128x4x4x128x384, .f32⟩
  | .hbm, ⟨32, _⟩ => ⟨S128, .i32⟩
  | .hbm, ⟨33, _⟩ => ⟨S128x1, .i32⟩
  | .hbm, ⟨34, _⟩ => ⟨S384, .i32⟩
  | .hbm, ⟨35, _⟩ => ⟨S1x384, .i32⟩
  | .hbm, ⟨36, _⟩ => ⟨S_, .i32⟩
  | .hbm, ⟨37, _⟩ => ⟨S1x384, .i32⟩
  | .hbm, ⟨38, _⟩ => ⟨S1x384, .i32⟩
  | .hbm, ⟨39, _⟩ => ⟨S128x384, .i32⟩
  | .hbm, ⟨40, _⟩ => ⟨S128x384, .i32⟩
  | .hbm, ⟨41, _⟩ => ⟨S128x384, .i32⟩
  | .hbm, ⟨42, _⟩ => ⟨S128, .i32⟩
  | .hbm, ⟨43, _⟩ => ⟨S128x1x1, .i32⟩
  | .hbm, ⟨44, _⟩ => ⟨S_, .i32⟩
  | .hbm, ⟨45, _⟩ => ⟨S128x1x1, .i32⟩
  | .hbm, ⟨46, _⟩ => ⟨S128x1x1, .i32⟩
  | .hbm, ⟨47, _⟩ => ⟨S_, .i32⟩
  | .hbm, ⟨48, _⟩ => ⟨S128x1x1, .i32⟩
  | .hbm, ⟨49, _⟩ => ⟨S128x1x1, .i32⟩
  | .hbm, ⟨50, _⟩ => ⟨S1x1x384, .i32⟩
  | .hbm, ⟨51, _⟩ => ⟨S128x1x384, .i32⟩
  | .hbm, ⟨52, _⟩ => ⟨S128x1x384, .i32⟩
  | .hbm, ⟨53, _⟩ => ⟨S128x1x384, .i32⟩
  | .hbm, ⟨54, _⟩ => ⟨S128x384, .i32⟩
  | .hbm, ⟨55, _⟩ => ⟨S1x128x384, .i32⟩
  | .hbm, ⟨56, _⟩ => ⟨S_, .i32⟩
  | .hbm, ⟨57, _⟩ => ⟨S1x128x384, .i32⟩
  | .hbm, ⟨58, _⟩ => ⟨S1x128x384, .i1⟩
  | .hbm, ⟨59, _⟩ => ⟨S_, .i32⟩
  | .hbm, ⟨60, _⟩ => ⟨S128x1x384, .i32⟩
  | .hbm, ⟨61, _⟩ => ⟨S128x1x384, .i1⟩
  | .hbm, ⟨62, _⟩ => ⟨S128x128x384, .i1⟩
  | .hbm, ⟨63, _⟩ => ⟨S128x128x384, .i1⟩
  | .hbm, ⟨64, _⟩ => ⟨S128x128x384, .i1⟩
  | .hbm, ⟨65, _⟩ => ⟨S_, .i32⟩
  | .hbm, ⟨66, _⟩ => ⟨S128x1x384, .i32⟩
  | .hbm, ⟨67, _⟩ => ⟨S128x1x384, .i1⟩
  | .hbm, ⟨68, _⟩ => ⟨S128x128x384, .i1⟩
  | .hbm, ⟨69, _⟩ => ⟨S128x128x384, .i1⟩
  | .hbm, ⟨70, _⟩ => ⟨S4x4, .f32⟩
  | .hbm, ⟨71, _⟩ => ⟨S4x4x1x1, .f32⟩
  | .hbm, ⟨72, _⟩ => ⟨S4x4x1x1, .f32⟩
  | .hbm, ⟨73, _⟩ => ⟨S128x384, .i32⟩
  | .hbm, ⟨74, _⟩ => ⟨S128x384, .f32⟩
  | .hbm, ⟨75, _⟩ => ⟨S1x1x128x384, .f32⟩
  | .hbm, ⟨76, _⟩ => ⟨S4x4x128x384, .f32⟩
  | .hbm, ⟨77, _⟩ => ⟨S4x4x128x384, .f32⟩
  | .hbm, ⟨78, _⟩ => ⟨S4x4x128x384, .f32⟩
  | .hbm, ⟨79, _⟩ => ⟨S1x128x1x1x128x384, .i1⟩
  | .hbm, ⟨80, _⟩ => ⟨S1x1x4x4x128x384, .f32⟩
  | .hbm, ⟨81, _⟩ => ⟨S2x128x4x4x128x384, .f32⟩
  | .hbm, ⟨82, _⟩ => ⟨S2x128x4x4x128x384, .f32⟩
  | .hbm, ⟨83, _⟩ => ⟨S_, .f32⟩
  | .hbm, ⟨84, _⟩ => ⟨S_, .f32⟩
  | .hbm, ⟨85, _⟩ => ⟨S2x128x4x4x128x384, .i1⟩
  | .hbm, ⟨86, _⟩ => ⟨S2x128x4x4x128x384, .f32⟩
  | .hbm, ⟨87, _⟩ => ⟨S2x128x4x4x128x384, .f32⟩
  | .hbm, ⟨88, _⟩ => ⟨S4x4, .f32⟩
  | .hbm, ⟨89, _⟩ => ⟨S1x1x4x4x1, .f32⟩
  | .hbm, ⟨90, _⟩ => ⟨S_, .f32⟩
  | .hbm, ⟨91, _⟩ => ⟨S2x128x4x4x128, .f32⟩
  | .hbm, ⟨92, _⟩ => ⟨S2x128x4x4x128, .f32⟩
  | .hbm, ⟨93, _⟩ => ⟨S2x128x4x4x128, .f32⟩
  | .hbm, ⟨94, _⟩ => ⟨S2x128x4x4x128x1, .f32⟩
  | .hbm, ⟨95, _⟩ => ⟨S2x128x4x4x128x384, .f32⟩
  | .hbm, ⟨96, _⟩ => ⟨S2x128x4x4x128x384, .f32⟩
  | .hbm, ⟨97, _⟩ => ⟨S2x128x4x4x128x384, .f32⟩
  | .hbm, ⟨98, _⟩ => ⟨S_, .f32⟩
  | .hbm, ⟨99, _⟩ => ⟨S2x128x4x4x128, .f32⟩
  | .hbm, ⟨100, _⟩ => ⟨S2x128x4x4x128, .f32⟩
  | .hbm, ⟨101, _⟩ => ⟨S2x128x4x4x128, .f32⟩
  | .hbm, ⟨102, _⟩ => ⟨S2x128x4x4x128, .f32⟩
  | .hbm, ⟨103, _⟩ => ⟨S2x128x4x4x128, .f32⟩
  | .hbm, ⟨104, _⟩ => ⟨S2x128x4x64x4x128, .f32⟩
  | .hbm, ⟨105, _⟩ => ⟨S2x128x128x4x4x64, .f32⟩
  | .hbm, ⟨106, _⟩ => ⟨S2x128x128x4x4, .f32⟩
  | .hbm, ⟨107, _⟩ => ⟨S2x128x128x4x4x1, .f32⟩
  | .hbm, ⟨108, _⟩ => ⟨S2x128x128x4x4x64, .f32⟩
  | .hbm, ⟨109, _⟩ => ⟨S2x128x128x4x4x64, .f32⟩
  | .hbm, ⟨110, _⟩ => ⟨S2x16384x1024, .f32⟩
  | .hbm, ⟨111, _⟩ => ⟨S2x16384x1024, .f32⟩
  | .hbm, ⟨112, _⟩ => ⟨S2x1x1024, .f32⟩
  | .hbm, ⟨113, _⟩ => ⟨S2x1024, .f32⟩
  | .hbm, ⟨114, _⟩ => ⟨S2x1x1024, .f32⟩
  | .hbm, ⟨115, _⟩ => ⟨S2x16384x1024, .f32⟩
  | .hbm, ⟨116, _⟩ => ⟨S2x16384x1024, .f32⟩
  | .hbm, ⟨117, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_c_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S1x1x1024 : Shape := ⟨3, ![1, 1, 1024]⟩
abbrev S1x1024 : Shape := ⟨2, ![1, 1024]⟩
abbrev S1x1024x1024 : Shape := ⟨3, ![1, 1024, 1024]⟩
abbrev S1x3x1024 : Shape := ⟨3, ![1, 3, 1024]⟩
abbrev S1x1x1024x5632 : Shape := ⟨4, ![1, 1, 1024, 5632]⟩
abbrev S1x1x2816x1024 : Shape := ⟨4, ![1, 1, 2816, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S1x1x1024, .f32⟩
  | .hbm, ⟨7, _⟩ => ⟨S1024, .f32⟩
  | .hbm, ⟨8, _⟩ => ⟨S2x2x1024x5632, .bf16⟩
  | .hbm, ⟨9, _⟩ => ⟨S2x2x2816x1024, .bf16⟩
  | .hbm, ⟨10, _⟩ => ⟨S1x1024, .f32⟩
  | .hbm, ⟨11, _⟩ => ⟨S1x1024, .f32⟩
  | .hbm, ⟨12, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024 : Shape := ⟨1, ![1024]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x1024 : Shape := ⟨2, ![2, 1024]⟩
abbrev S2x16384x5632 : Shape := ⟨3, ![2, 16384, 5632]⟩
abbrev S2x16384x2816 : Shape := ⟨3, ![2, 16384, 2816]⟩

abbrev nBuf : Space → Nat
  | .hbm => 80
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x2x1024x5632, .f32⟩
  | .hbm, ⟨4, _⟩ => ⟨S2x2x2816x1024, .f32⟩
  | .hbm, ⟨5, _⟩ => ⟨S1024, .f32⟩
  | .hbm, ⟨6, _⟩ => ⟨S1x1x1024, .f32⟩
  | .hbm, ⟨7, _⟩ => ⟨S1024, .f32⟩
  | .hbm, ⟨8, _⟩ => ⟨S1x1x1024x5632, .f32⟩
  | .hbm, ⟨9, _⟩ => ⟨S1024x5632, .f32⟩
  | .hbm, ⟨10, _⟩ => ⟨S1x1x2816x1024, .f32⟩
  | .hbm, ⟨11, _⟩ => ⟨S2816x1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S2x1x1024, .f32⟩
  | .hbm, ⟨29, _⟩ => ⟨S2x1024, .f32⟩
  | .hbm, ⟨30, _⟩ => ⟨S2x1x1024, .f32⟩
  | .hbm, ⟨31, _⟩ => ⟨S2x1024, .f32⟩
  | .hbm, ⟨32, _⟩ => ⟨S2x1x1024, .f32⟩
  | .hbm, ⟨33, _⟩ => ⟨S_, .f32⟩
  | .hbm, ⟨34, _⟩ => ⟨S2x1x1024, .f32⟩
  | .hbm, ⟨35, _⟩ => ⟨S2x1x1024, .f32⟩
  | .hbm, ⟨36, _⟩ => ⟨S2x16384x1024, .f32⟩
  | .hbm, ⟨37, _⟩ => ⟨S2x16384x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x1x1024, .f32⟩
  | .hbm, ⟨42, _⟩ => ⟨S2x1024, .f32⟩
  | .hbm, ⟨43, _⟩ => ⟨S2x1x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x16384x5632, .f32⟩
  | .hbm, ⟨48, _⟩ => ⟨S2x16384x2816, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S_, .f32⟩
  | .hbm, ⟨53, _⟩ => ⟨S2x16384x2816, .f32⟩
  | .hbm, ⟨54, _⟩ => ⟨S2x16384x2816, .f32⟩
  | .hbm, ⟨55, _⟩ => ⟨S_, .f32⟩
  | .hbm, ⟨56, _⟩ => ⟨S2x16384x2816, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x1024, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S_, .f32⟩
  | .hbm, ⟨66, _⟩ => ⟨S2x16384, .f32⟩
  | .hbm, ⟨67, _⟩ => ⟨S2x16384x1, .f32⟩
  | .hbm, ⟨68, _⟩ => ⟨S_, .f32⟩
  | .hbm, ⟨69, _⟩ => ⟨S2x16384x1, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S2x16384x1, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024x1536 : Shape := ⟨2, ![1024, 1536]⟩
abbrev S1x1x1024 : Shape := ⟨3, ![1, 1, 1024]⟩
abbrev S1024 : Shape := ⟨1, ![1024]⟩
abbrev S1x1024 : Shape := ⟨2, ![1, 1024]⟩
abbrev S2x16384x512 : Shape := ⟨3, ![2, 16384, 512]⟩
abbrev S1x512x1024 : Shape := ⟨3, ![1, 512, 1024]⟩
abbrev S1x3x1024 : Shape := ⟨3, ![1, 3, 1024]⟩
abbrev S1x1x1024x5632 : Shape := ⟨4, ![1, 1, 1024, 5632]⟩
abbrev S1x1x2816x1024 : Shape := ⟨4, ![1, 1, 2816, 1024]⟩
abbrev S1x512x512 : Shape := ⟨3, ![1, 512, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024x2816 : Shape := ⟨4, ![1, 1, 1024, 2816]⟩
abbrev S1024x2816 : Shape := ⟨2, ![1024, 2816]⟩
abbrev S256x2816 : Shape := ⟨2, ![256, 2816]⟩
abbrev S2816x1024 : Shape := ⟨2, ![2816, 1024]⟩
abbrev S256x1536 : Shape := ⟨2, ![256, 1536]⟩
abbrev S256x256 : Shape := ⟨2, ![256, 256]⟩
abbrev S256x128 : Shape := ⟨2, ![256, 128]⟩
abbrev S256x512 : Shape := ⟨2, ![256, 512]⟩
abbrev S1x256x512 : Shape := ⟨3, ![1, 256, 512]⟩

abbrev nBuf : Space → Nat
  | .hbm => 20
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1024x1536, .f32⟩
  | .hbm, ⟨7, _⟩ => ⟨S1x1x1024, .f32⟩
  | .hbm, ⟨8, _⟩ => ⟨S1024, .f32⟩
  | .hbm, ⟨9, _⟩ => ⟨S2x2x1024x5632, .bf16⟩
  | .hbm, ⟨10, _⟩ => ⟨S2x2x2816x1024, .bf16⟩
  | .hbm, ⟨11, _⟩ => ⟨S1x1x1024, .f32⟩
  | .hbm, ⟨12, _⟩ => ⟨S1024, .f32⟩
  | .hbm, ⟨13, _⟩ => ⟨S1024x1536, .bf16⟩
  | .hbm, ⟨14, _⟩ => ⟨S1x1024, .f32⟩
  | .hbm, ⟨15, _⟩ => ⟨S1x1024, .f32⟩
  | .hbm, ⟨16, _⟩ => ⟨S2x16384x1024, .f32⟩
  | .hbm, ⟨17, _⟩ => ⟨S2x16384x1024, .bf16⟩
  | .hbm, ⟨18, _⟩ => ⟨S2x16384x512, .bf16⟩
  | .hbm, ⟨19, _⟩ => ⟨S2x16384x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x3x1024, .f32⟩
  | .local _ .vmem, ⟨8, _⟩ => ⟨S1x3x1024, .f32⟩
  | .local _ .vmem, ⟨9, _⟩ => ⟨S1x1024, .f32⟩
  | .local _ .vmem, ⟨10, _⟩ => ⟨S1024x1536, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .bf16⟩
  | .local _ .vmem, ⟨14, _⟩ => ⟨S1x512x1024, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel3Ideal.lean ====
variable {F : FTy → Type} [FloatOps F] [Named F]
def κ : String → Option EReal := fun
  | "qscale" => some (((Real.log 256)⁻¹ : ℝ) : EReal)
  | _ => none
-- ==== Reference3Ideal.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024x1536 : Shape := ⟨2, ![1024, 1536]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x1024 : Shape := ⟨2, ![2, 1024]⟩
abbrev S2x16384x5632 : Shape := ⟨3, ![2, 16384, 5632]⟩
abbrev S2x16384x2816 : Shape := ⟨3, ![2, 16384, 2816]⟩
abbrev S2x16384x1536 : Shape := ⟨3, ![2, 16384, 1536]⟩
abbrev S2x16384x256 : Shape := ⟨3, ![2, 16384, 256]⟩
abbrev S2x16384x2x2x64 : Shape := ⟨5, ![2, 16384, 2, 2, 64]⟩
abbrev S2x16384x512 : Shape := ⟨3, ![2, 16384, 512]⟩

abbrev nBuf : Space → Nat
  | .hbm => 118
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1024x1536, .f32⟩
  | .hbm, ⟨7, _⟩ => ⟨S1x1x1024, .f32⟩
  | .hbm, ⟨8, _⟩ => ⟨S1024, .f32⟩
  | .hbm, ⟨9, _⟩ => ⟨S1x1x1024x5632, .f32⟩
  | .hbm, ⟨10, _⟩ => ⟨S1024x5632, .f32⟩
  | .hbm, ⟨11, _⟩ => ⟨S1x1x2816x1024, .f32⟩
  | .hbm, ⟨12, _⟩ => ⟨S2816x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x1x1024, .f32⟩
  | .hbm, ⟨40, _⟩ => ⟨S2x16384x1024, .f32⟩
  | .hbm, ⟨41, _⟩ => ⟨S2x16384x1024, .f32⟩
  | .hbm, ⟨42, _⟩ => ⟨S2x1x1024, .f32⟩
  | .hbm, ⟨43, _⟩ => ⟨S2x1024, .f32⟩
  | .hbm, ⟨44, _⟩ => ⟨S2x1x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x16384x5632, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S_, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S1024, .f32⟩
  | .hbm, ⟨67, _⟩ => ⟨S2x16384x1024, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S2x16384x1, .f32⟩
  | .hbm, ⟨78, _⟩ => ⟨S2x16384x1024, .f32⟩
  | .hbm, ⟨79, _⟩ => ⟨S2x16384x1024, .f32⟩
  | .hbm, ⟨80, _⟩ => ⟨S1x1x1024, .f32⟩
  | .hbm, ⟨81, _⟩ => ⟨S2x16384x1024, .f32⟩
  | .hbm, ⟨82, _⟩ => ⟨S2x16384x1024, .f32⟩
  | .hbm, ⟨83, _⟩ => ⟨S2x1x1024, .f32⟩
  | .hbm, ⟨84, _⟩ => ⟨S2x1024, .f32⟩
  | .hbm, ⟨85, _⟩ => ⟨S2x1x1024, .f32⟩
  | .hbm, ⟨86, _⟩ => ⟨S2x1024, .f32⟩
  | .hbm, ⟨87, _⟩ => ⟨S2x1x1024, .f32⟩
  | .hbm, ⟨88, _⟩ => ⟨S_, .f32⟩
  | .hbm, ⟨89, _⟩ => ⟨S2x1x1024, .f32⟩
  | .hbm, ⟨90, _⟩ => ⟨S2x1x1024, .f32⟩
  | .hbm, ⟨91, _⟩ => ⟨S2x16384x1024, .f32⟩
  | .hbm, ⟨92, _⟩ => ⟨S2x16384x1024, .f32⟩
  | .hbm, ⟨93, _⟩ => ⟨S2x1x1024, .f32⟩
  | .hbm, ⟨94, _⟩ => ⟨S2x16384x1024, .f32⟩
  | .hbm, ⟨95, _⟩ => ⟨S2x16384x1024, .f32⟩
  | .hbm, ⟨96, _⟩ => ⟨S2x16384x1536, .f32⟩
  | .hbm, ⟨97, _⟩ => ⟨S2x16384x1024, .f32⟩
  | .hbm, ⟨98, _⟩ => ⟨S2x16384x256, .f32⟩
  | .hbm, ⟨99, _⟩ => ⟨S2x16384x256, .f32⟩
  | .hbm, ⟨100, _⟩ => ⟨S_, .f32⟩
  | .hbm, ⟨101, _⟩ => ⟨S2x16384x1024, .f32⟩
  | .hbm, ⟨102, _⟩ => ⟨S2x16384x1024, .f32⟩
  | .hbm, ⟨103, _⟩ => ⟨S_, .f32⟩
  | .hbm, ⟨104, _⟩ => ⟨S_, .f32⟩
  | .hbm, ⟨105, _⟩ => ⟨S2x16384x1024, .f32⟩
  | .hbm, ⟨106, _⟩ => ⟨S2x16384x1024, .f32⟩
  | .hbm, ⟨107, _⟩ => ⟨S2x16384x1024, .bf16⟩
  | .hbm, ⟨108, _⟩ => ⟨S2x16384x2x2x64, .f32⟩
  | .hbm, ⟨109, _⟩ => ⟨S2x16384x2x2x64, .f32⟩
  | .hbm, ⟨110, _⟩ => ⟨S2x16384x256, .f32⟩
  | .hbm, ⟨111, _⟩ => ⟨S2x16384x512, .f32⟩
  | .hbm, ⟨112, _⟩ => ⟨S2x16384x512, .bf16⟩
  | .hbm, ⟨113, _⟩ => ⟨S2x16384x2x2x64, .f32⟩
  | .hbm, ⟨114, _⟩ => ⟨S2x16384x2x2x64, .f32⟩
  | .hbm, ⟨115, _⟩ => ⟨S2x16384x256, .f32⟩
  | .hbm, ⟨116, _⟩ => ⟨S2x16384x512, .f32⟩
  | .hbm, ⟨117, _⟩ => ⟨S2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_cst_9 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩

abbrev nD : Nat := 1
abbrev τ : Topo := Topo.v7x

variable {F : FTy → Type} [FloatOps F]
-- ==== Kernel4.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024x2560 : Shape := ⟨2, ![1024, 2560]⟩
abbrev S1024x1024 : Shape := ⟨2, ![1024, 1024]⟩
abbrev S1024x1536 : Shape := ⟨2, ![1024, 1536]⟩
abbrev S1536x1024 : Shape := ⟨2, ![1536, 1024]⟩
abbrev S1x1x1024 : Shape := ⟨3, ![1, 1, 1024]⟩
abbrev S1024 : Shape := ⟨1, ![1024]⟩
abbrev S1x1024 : Shape := ⟨2, ![1, 1024]⟩
abbrev S2x16384x512 : Shape := ⟨3, ![2, 16384, 512]⟩
abbrev S2x1536x16384 : Shape := ⟨3, ![2, 1536, 16384]⟩
abbrev S1x512x1024 : Shape := ⟨3, ![1, 512, 1024]⟩
abbrev S1x3x1024 : Shape := ⟨3, ![1, 3, 1024]⟩
abbrev S1x1x1024x5632 : Shape := ⟨4, ![1, 1, 1024, 5632]⟩
abbrev S1x1x2816x1024 : Shape := ⟨4, ![1, 1, 2816, 1024]⟩
abbrev S1x512x512 : Shape := ⟨3, ![1, 512, 512]⟩
abbrev S1x1536x512 : Shape := ⟨3, ![1, 1536, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024x2816 : Shape := ⟨4, ![1, 1, 1024, 2816]⟩
abbrev S1024x2816 : Shape := ⟨2, ![1024, 2816]⟩
abbrev S256x2816 : Shape := ⟨2, ![256, 2816]⟩
abbrev S2816x1024 : Shape := ⟨2, ![2816, 1024]⟩
abbrev S256x512 : Shape := ⟨2, ![256, 512]⟩
abbrev S1x256x512 : Shape := ⟨3, ![1, 256, 512]⟩
abbrev S1536x256 : Shape := ⟨2, ![1536, 256]⟩
abbrev S1x1536x256 : Shape := ⟨3, ![1, 1536, 256]⟩

abbrev nBuf : Space → Nat
  | .hbm => 23
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1024x2560, .f32⟩
  | .hbm, ⟨7, _⟩ => ⟨S1024x1024, .f32⟩
  | .hbm, ⟨8, _⟩ => ⟨S1024x1024, .bf16⟩
  | .hbm, ⟨9, _⟩ => ⟨S1024x1536, .f32⟩
  | .hbm, ⟨10, _⟩ => ⟨S1536x1024, .f32⟩
  | .hbm, ⟨11, _⟩ => ⟨S1536x1024, .bf16⟩
  | .hbm, ⟨12, _⟩ => ⟨S1x1x1024, .f32⟩
  | .hbm, ⟨13, _⟩ => ⟨S1024, .f32⟩
  | .hbm, ⟨14, _⟩ => ⟨S2x2x1024x5632, .bf16⟩
  | .hbm, ⟨15, _⟩ => ⟨S2x2x2816x1024, .bf16⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S2x16384x1024, .f32⟩
  | .hbm, ⟨21, _⟩ => ⟨S2x16384x512, .f32⟩
  | .hbm, ⟨22, _⟩ => ⟨S2x1536x16384, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x3x1024, .f32⟩
  | .local _ .vmem, ⟨8, _⟩ => ⟨S1x3x1024, .f32⟩
  | .local _ .vmem, ⟨9, _⟩ => ⟨S1x1024, .f32⟩
  | .local _ .vmem, ⟨10, _⟩ => ⟨S1024x1024, .bf16⟩
  | .local _ .vmem, ⟨11, _⟩ => ⟨S1536x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x512x512, .f32⟩
  | .local _ .vmem, ⟨15, _⟩ => ⟨S1x512x512, .f32⟩
  | .local _ .vmem, ⟨16, _⟩ => ⟨S1x1536x512, .f32⟩
  | .local _ .vmem, ⟨17, _⟩ => ⟨S1x1536x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1536x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1536x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2x16384x1024 : Shape := ⟨3, ![2, 16384, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1024x2560 : Shape := ⟨2, ![1024, 2560]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S2x1x1024 : Shape := ⟨3, ![2, 1, 1024]⟩
abbrev S2x1024 : Shape := ⟨2, ![2, 1024]⟩
abbrev S2x16384x5632 : Shape := ⟨3, ![2, 16384, 5632]⟩
abbrev S2x16384x2816 : Shape := ⟨3, ![2, 16384, 2816]⟩
abbrev S2x16384x2560 : Shape := ⟨3, ![2, 16384, 2560]⟩
abbrev S2x16384x512 : Shape := ⟨3, ![2, 16384, 512]⟩
abbrev S2x16384x1536 : Shape := ⟨3, ![2, 16384, 1536]⟩
abbrev S2x1536x16384 : Shape := ⟨3, ![2, 1536, 16384]⟩

abbrev nBuf : Space → Nat
  | .hbm => 111
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1024x2560, .f32⟩
  | .hbm, ⟨7, _⟩ => ⟨S1x1x1024, .f32⟩
  | .hbm, ⟨8, _⟩ => ⟨S1024, .f32⟩
  | .hbm, ⟨9, _⟩ => ⟨S1x1x1024x5632, .f32⟩
  | .hbm, ⟨10, _⟩ => ⟨S1024x5632, .f32⟩
  | .hbm, ⟨11, _⟩ => ⟨S1x1x2816x1024, .f32⟩
  | .hbm, ⟨12, _⟩ => ⟨S2816x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x1024, .f32⟩
  | .hbm, ⟨33, _⟩ => ⟨S2x1x1024, .f32⟩
  | .hbm, ⟨34, _⟩ => ⟨S_, .f32⟩
  | .hbm, ⟨35, _⟩ => ⟨S2x1x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x1x1024, .f32⟩
  | .hbm, ⟨40, _⟩ => ⟨S2x16384x1024, .f32⟩
  | .hbm, ⟨41, _⟩ => ⟨S2x16384x1024, .f32⟩
  | .hbm, ⟨42, _⟩ => ⟨S2x1x1024, .f32⟩
  | .hbm, ⟨43, _⟩ => ⟨S2x1024, .f32⟩
  | .hbm, ⟨44, _⟩ => ⟨S2x1x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x16384x5632, .f32⟩
  | .hbm, ⟨49, _⟩ => ⟨S2x16384x2816, .f32⟩
  | .hbm, ⟨50, _⟩ => ⟨S2x16384x2816, .f32⟩
  | .hbm, ⟨51, _⟩ => ⟨S2x16384x2816, .f32⟩
  | .hbm, ⟨52, _⟩ => ⟨S2x16384x2816, .f32⟩
  | .hbm, ⟨53, _⟩ => ⟨S_, .f32⟩
  | .hbm, ⟨54, _⟩ => ⟨S2x16384x2816, .f32⟩
  | .hbm, ⟨55, _⟩ => ⟨S2x16384x2816, .f32⟩
  | .hbm, ⟨56, _⟩ => ⟨S_, .f32⟩
  | .hbm, ⟨57, _⟩ => ⟨S2x16384x2816, .f32⟩
  | .hbm, ⟨58, _⟩ => ⟨S2x16384x2816, .f32⟩
  | .hbm, ⟨59, _⟩ => ⟨S2x16384x2816, .f32⟩
  | .hbm, ⟨60, _⟩ => ⟨S2x16384x2816, .f32⟩
  | .hbm, ⟨61, _⟩ => ⟨S2x16384x1024, .f32⟩
  | .hbm, ⟨62, _⟩ => ⟨S2x16384x1024, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S1024, .f32⟩
  | .hbm, ⟨67, _⟩ => ⟨S2x16384x1024, .f32⟩
  | .hbm, ⟨68, _⟩ => ⟨S_, .f32⟩
  | .hbm, ⟨69, _⟩ => ⟨S2x16384, .f32⟩
  | .hbm, ⟨70, _⟩ => ⟨S2x16384x1, .f32⟩
  | .hbm, ⟨71, _⟩ => ⟨S_, .f32⟩
  | .hbm, ⟨72, _⟩ => ⟨S2x16384x1, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S2x16384x1, .f32⟩
  | .hbm, ⟨78, _⟩ => ⟨S2x16384x1024, .f32⟩
  | .hbm, ⟨79, _⟩ => ⟨S2x16384x1024, .f32⟩
  | .hbm, ⟨80, _⟩ => ⟨S1x1x1024, .f32⟩
  | .hbm, ⟨81, _⟩ => ⟨S2x16384x1024, .f32⟩
  | .hbm, ⟨82, _⟩ => ⟨S2x16384x1024, .f32⟩
  | .hbm, ⟨83, _⟩ => ⟨S2x1x1024, .f32⟩
  | .hbm, ⟨84, _⟩ => ⟨S2x1024, .f32⟩
  | .hbm, ⟨85, _⟩ => ⟨S2x1x1024, .f32⟩
  | .hbm, ⟨86, _⟩ => ⟨S2x1024, .f32⟩
  | .hbm, ⟨87, _⟩ => ⟨S2x1x1024, .f32⟩
  | .hbm, ⟨88, _⟩ => ⟨S_, .f32⟩
  | .hbm, ⟨89, _⟩ => ⟨S2x1x1024, .f32⟩
  | .hbm, ⟨90, _⟩ => ⟨S2x1x1024, .f32⟩
  | .hbm, ⟨91, _⟩ => ⟨S2x16384x1024, .f32⟩
  | .hbm, ⟨92, _⟩ => ⟨S2x16384x1024, .f32⟩
  | .hbm, ⟨93, _⟩ => ⟨S2x1x1024, .f32⟩
  | .hbm, ⟨94, _⟩ => ⟨S2x16384x1024, .f32⟩
  | .hbm, ⟨95, _⟩ => ⟨S2x16384x1024, .f32⟩
  | .hbm, ⟨96, _⟩ => ⟨S2x16384x2560, .f32⟩
  | .hbm, ⟨97, _⟩ => ⟨S2x16384x1024, .f32⟩
  | .hbm, ⟨98, _⟩ => ⟨S2x16384x512, .f32⟩
  | .hbm, ⟨99, _⟩ => ⟨S2x16384x512, .f32⟩
  | .hbm, ⟨100, _⟩ => ⟨S2x16384x512, .f32⟩
  | .hbm, ⟨101, _⟩ => ⟨S2x16384x512, .f32⟩
  | .hbm, ⟨102, _⟩ => ⟨S_, .f32⟩
  | .hbm, ⟨103, _⟩ => ⟨S2x16384x512, .f32⟩
  | .hbm, ⟨104, _⟩ => ⟨S2x16384x512, .f32⟩
  | .hbm, ⟨105, _⟩ => ⟨S_, .f32⟩
  | .hbm, ⟨106, _⟩ => ⟨S2x16384x512, .f32⟩
  | .hbm, ⟨107, _⟩ => ⟨S2x16384x512, .f32⟩
  | .hbm, ⟨108, _⟩ => ⟨S2x16384x512, .f32⟩
  | .hbm, ⟨109, _⟩ => ⟨S2x16384x1536, .f32⟩
  | .hbm, ⟨110, _⟩ => ⟨S2x1536x16384, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_cst : Ref sig .tc := ⟨.hbm, 102, rfl⟩
abbrev main_call1_v4 : Ref sig .tc := ⟨.hbm, 103, rfl⟩
abbrev main_call1_v5 : Ref sig .tc := ⟨.hbm, 104, rfl⟩
abbrev main_call1_cst_0 : Ref sig .tc := ⟨.hbm, 105, rfl⟩
abbrev main_call1_v6 : Ref sig .tc := ⟨.hbm, 106, rfl⟩
abbrev main_call1_v7 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x16384x512 : Shape := ⟨3, ![2, 16384, 512]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S31x512 : Shape := ⟨2, ![31, 512]⟩
abbrev S512 : Shape := ⟨1, ![512]⟩
abbrev S1024x1024 : Shape := ⟨2, ![1024, 1024]⟩
abbrev S2x512x16384 : Shape := ⟨3, ![2, 512, 16384]⟩
abbrev S512x1024 : Shape := ⟨2, ![512, 1024]⟩
abbrev S1x1x1024 : Shape := ⟨3, ![1, 1, 1024]⟩
abbrev S1024 : Shape := ⟨1, ![1024]⟩
abbrev S2x1x1024 : Shape := ⟨3, ![2, 1, 1024]⟩
abbrev S1x1024 : Shape := ⟨2, ![1, 1024]⟩
abbrev S1x512 : Shape := ⟨2, ![1, 512]⟩
abbrev S1x512x1024 : Shape := ⟨3, ![1, 512, 1024]⟩
abbrev S1x3x1024 : Shape := ⟨3, ![1, 3, 1024]⟩
abbrev S1x1x1024x5632 : Shape := ⟨4, ![1, 1, 1024, 5632]⟩
abbrev S1x1x2816x1024 : Shape := ⟨4, ![1, 1, 2816, 1024]⟩
abbrev S1x16x512 : Shape := ⟨3, ![1, 16, 512]⟩
abbrev S1x512x512 : Shape := ⟨3, ![1, 512, 512]⟩
abbrev S544x512 : Shape := ⟨2, ![544, 512]⟩
abbrev S7x536x512 : Shape := ⟨3, ![7, 536, 512]⟩
abbrev S16x512 : Shape := ⟨2, ![16, 512]⟩
abbrev S512x512 : Shape := ⟨2, ![512, 512]⟩
abbrev S536x512 : Shape := ⟨2, ![536, 512]⟩
abbrev S1x536x512 : Shape := ⟨3, ![1, 536, 512]⟩
abbrev S512x1 : Shape := ⟨2, ![512, 1]⟩
abbrev S1x1x1024x2816 : Shape := ⟨4, ![1, 1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 29
  | .vmem => 27
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S2x16384x512, .f32⟩
  | .hbm, ⟨3, _⟩ => ⟨S2x3x1024, .f32⟩
  | .hbm, ⟨4, _⟩ => ⟨S2x3x1024, .f32⟩
  | .hbm, ⟨5, _⟩ => ⟨S2x3x1024, .f32⟩
  | .hbm, ⟨6, _⟩ => ⟨S2x2x1024x5632, .f32⟩
  | .hbm, ⟨7, _⟩ => ⟨S2x2x2816x1024, .f32⟩
  | .hbm, ⟨8, _⟩ => ⟨S31x512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S2x512x16384, .f32⟩
  | .hbm, ⟨14, _⟩ => ⟨S2x512x16384, .bf16⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1x1x1024, .f32⟩
  | .hbm, ⟨20, _⟩ => ⟨S1024, .f32⟩
  | .hbm, ⟨21, _⟩ => ⟨S2x2x1024x5632, .bf16⟩
  | .hbm, ⟨22, _⟩ => ⟨S2x2x2816x1024, .bf16⟩
  | .hbm, ⟨23, _⟩ => ⟨S2x1x1024, .f32⟩
  | .hbm, ⟨24, _⟩ => ⟨S1x1024, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1x1x1024x5632, .bf16⟩
  | .local _ .vmem, ⟨6, _⟩ => ⟨S1x1x2816x1024, .bf16⟩
  | .local _ .vmem, ⟨7, _⟩ => ⟨S1x16x512, .f32⟩
  | .local _ .vmem, ⟨8, _⟩ => ⟨S1x16x512, .f32⟩
  | .local _ .vmem, ⟨9, _⟩ => ⟨S1x512x512, .f32⟩
  | .local _ .vmem, ⟨10, _⟩ => ⟨S1x512x512, .f32⟩
  | .local _ .vmem, ⟨11, _⟩ => ⟨S1x16x512, .f32⟩
  | .local _ .vmem, ⟨12, _⟩ => ⟨S1x16x512, .f32⟩
  | .local _ .vmem, ⟨13, _⟩ => ⟨S1x512x512, .bf16⟩
  | .local _ .vmem, ⟨14, _⟩ => ⟨S1x512x512, .bf16⟩
  | .local _ .vmem, ⟨15, _⟩ => ⟨S1x1x1024, .f32⟩
  | .local _ .vmem, ⟨16, _⟩ => ⟨S1x1x1024, .f32⟩
  | .local _ .vmem, ⟨17, _⟩ => ⟨S512x1024, .bf16⟩
  | .local _ .vmem, ⟨18, _⟩ => ⟨S512x1024, .bf16⟩
  | .local _ .vmem, ⟨19, _⟩ => ⟨S31x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512x1024, .f32⟩
  | .local _ .vmem, ⟨24, _⟩ => ⟨S1x512x1024, .f32⟩
  | .local _ .vmem, ⟨25, _⟩ => ⟨S544x512, .f32⟩
  | .local _ .vmem, ⟨26, _⟩ => ⟨S7x536x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S31x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference5Ideal.lean ====
abbrev S2x16384x1024 : Shape := ⟨3, ![2, 16384, 1024]⟩
abbrev S2x16384x512 : Shape := ⟨3, ![2, 16384, 512]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S31x512 : Shape := ⟨2, ![31, 512]⟩
abbrev S512 : Shape := ⟨1, ![512]⟩
abbrev S1024x1024 : Shape := ⟨2, ![1024, 1024]⟩
abbrev S_ : Shape := ⟨0, ![]⟩
abbrev S2x16414x512 : Shape := ⟨3, ![2, 16414, 512]⟩
abbrev S1x512 : Shape := ⟨2, ![1, 512]⟩
abbrev S1x1x512 : Shape := ⟨3, ![1, 1, 512]⟩
abbrev S2x16384 : Shape := ⟨2, ![2, 16384]⟩
abbrev S2x16384x1 : Shape := ⟨3, ![2, 16384, 1]⟩
abbrev S2x1x1024 : Shape := ⟨3, ![2, 1, 1024]⟩
abbrev S2x1024 : Shape := ⟨2, ![2, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩

abbrev nBuf : Space → Nat
  | .hbm => 342
  | .vmem => 0
  | .smem => 0
  | _ => 0

abbrev hbmTy0_0 (i : Nat) : BufTy := match i % 128 with
  | 0 => ⟨S2x16384x1024, .f32⟩
  | 1 => ⟨S2x16384x512, .f32⟩
  | 2 => ⟨S2x16384x512, .f32⟩
  | 3 => ⟨S2x3x1024, .f32⟩
  | 4 => ⟨S2x3x1024, .f32⟩
  | 5 => ⟨S2x3x1024, .f32⟩
  | 6 => ⟨S2x2x1024x5632, .f32⟩
  | 7 => ⟨S2x2x2816x1024, .f32⟩
  | 8 => ⟨S31x512, .f32⟩
  | 9 => ⟨S512, .f32⟩
  | 10 => ⟨S512, .f32⟩
  | 11 => ⟨S512, .f32⟩
  | 12 => ⟨S1024x1024, .f32⟩
  | 13 => ⟨S_, .i32⟩
  | 14 => ⟨S_, .f32⟩
  | 15 => ⟨S2x16414x512, .f32⟩
  | 16 => ⟨S2x16384x512, .f32⟩
  | 17 => ⟨S1x512, .f32⟩
  | 18 => ⟨S512, .f32⟩
  | 19 => ⟨S1x1x512, .f32⟩
  | 20 => ⟨S2x16384x512, .f32⟩
  | 21 => ⟨S2x16384x512, .f32⟩
  | 22 => ⟨S_, .f32⟩
  | 23 => ⟨S2x16384x512, .f32⟩
  | 24 => ⟨S2x16384x512, .f32⟩
  | 25 => ⟨S2x16384x512, .f32⟩
  | 26 => ⟨S1x512, .f32⟩
  | 27 => ⟨S512, .f32⟩
  | 28 => ⟨S1x1x512, .f32⟩
  | 29 => ⟨S2x16384x512, .f32⟩
  | 30 => ⟨S2x16384x512, .f32⟩
  | 31 => ⟨S2x16384x512, .f32⟩
  | 32 => ⟨S2x16384x512, .f32⟩
  | 33 => ⟨S1x512, .f32⟩
  | 34 => ⟨S512, .f32⟩
  | 35 => ⟨S1x1x512, .f32⟩
  | 36 => ⟨S2x16384x512, .f32⟩
  | 37 => ⟨S2x16384x512, .f32⟩
  | 38 => ⟨S2x16384x512, .f32⟩
  | 39 => ⟨S2x16384x512, .f32⟩
  | 40 => ⟨S1x512, .f32⟩
  | 41 => ⟨S512, .f32⟩
  | 42 => ⟨S1x1x512, .f32⟩
  | 43 => ⟨S2x16384x512, .f32⟩
  | 44 => ⟨S2x16384x512, .f32⟩
  | 45 => ⟨S2x16384x512, .f32⟩
  | 46 => ⟨S2x16384x512, .f32⟩
  | 47 => ⟨S1x512, .f32⟩
  | 48 => ⟨S512, .f32⟩
  | 49 => ⟨S1x1x512, .f32⟩
  | 50 => ⟨S2x16384x512, .f32⟩
  | 51 => ⟨S2x16384x512, .f32⟩
  | 52 => ⟨S2x16384x512, .f32⟩
  | 53 => ⟨S2x16384x512, .f32⟩
  | 54 => ⟨S1x512, .f32⟩
  | 55 => ⟨S512, .f32⟩
  | 56 => ⟨S1x1x512, .f32⟩
  | 57 => ⟨S2x16384x512, .f32⟩
  | 58 => ⟨S2x16384x512, .f32⟩
  | 59 => ⟨S2x16384x512, .f32⟩
  | 60 => ⟨S2x16384x512, .f32⟩
  | 61 => ⟨S1x512, .f32⟩
  | 62 => ⟨S512, .f32⟩
  | 63 => ⟨S1x1x512, .f32⟩
  | 64 => ⟨S2x16384x512, .f32⟩
  | 65 => ⟨S2x16384x512, .f32⟩
  | 66 => ⟨S2x16384x512, .f32⟩
  | 67 => ⟨S2x16384x512, .f32⟩
  | 68 => ⟨S1x512, .f32⟩
  | 69 => ⟨S512, .f32⟩
  | 70 => ⟨S1x1x512, .f32⟩
  | 71 => ⟨S2x16384x512, .f32⟩
  | 72 => ⟨S2x16384x512, .f32⟩
  | 73 => ⟨S2x16384x512, .f32⟩
  | 74 => ⟨S2x16384x512, .f32⟩
  | 75 => ⟨S1x512, .f32⟩
  | 76 => ⟨S512, .f32⟩
  | 77 => ⟨S1x1x512, .f32⟩
  | 78 => ⟨S2x16384x512, .f32⟩
  | 79 => ⟨S2x16384x512, .f32⟩
  | 80 => ⟨S2x16384x512, .f32⟩
  | 81 => ⟨S2x16384x512, .f32⟩
  | 82 => ⟨S1x512, .f32⟩
  | 83 => ⟨S512, .f32⟩
  | 84 => ⟨S1x1x512, .f32⟩
  | 85 => ⟨S2x16384x512, .f32⟩
  | 86 => ⟨S2x16384x512, .f32⟩
  | 87 => ⟨S2x16384x512, .f32⟩
  | 88 => ⟨S2x16384x512, .f32⟩
  | 89 => ⟨S1x512, .f32⟩
  | 90 => ⟨S512, .f32⟩
  | 91 => ⟨S1x1x512, .f32⟩
  | 92 => ⟨S2x16384x512, .f32⟩
  | 93 => ⟨S2x16384x512, .f32⟩
  | 94 => ⟨S2x16384x512, .f32⟩
  | 95 => ⟨S2x16384x512, .f32⟩
  | 96 => ⟨S1x512, .f32⟩
  | 97 => ⟨S512, .f32⟩
  | 98 => ⟨S1x1x512, .f32⟩
  | 99 => ⟨S2x16384x512, .f32⟩
  | 100 => ⟨S2x16384x512, .f32⟩
  | 101 => ⟨S2x16384x512, .f32⟩
  | 102 => ⟨S2x16384x512, .f32⟩
  | 103 => ⟨S1x512, .f32⟩
  | 104 => ⟨S512, .f32⟩
  | 105 => ⟨S1x1x512, .f32⟩
  | 106 => ⟨S2x16384x512, .f32⟩
  | 107 => ⟨S2x16384x512, .f32⟩
  | 108 => ⟨S2x16384x512, .f32⟩
  | 109 => ⟨S2x16384x512, .f32⟩
  | 110 => ⟨S1x512, .f32⟩
  | 111 => ⟨S512, .f32⟩
  | 112 => ⟨S1x1x512, .f32⟩
  | 113 => ⟨S2x16384x512, .f32⟩
  | 114 => ⟨S2x16384x512, .f32⟩
  | 115 => ⟨S2x16384x512, .f32⟩
  | 116 => ⟨S2x16384x512, .f32⟩
  | 117 => ⟨S1x512, .f32⟩
  | 118 => ⟨S512, .f32⟩
  | 119 => ⟨S1x1x512, .f32⟩
  | 120 => ⟨S2x16384x512, .f32⟩
  | 121 => ⟨S2x16384x512, .f32⟩
  | 122 => ⟨S2x16384x512, .f32⟩
  | 123 => ⟨S2x16384x512, .f32⟩
  | 124 => ⟨S1x512, .f32⟩
  | 125 => ⟨S512, .f32⟩
  | 126 => ⟨S1x1x512, .f32⟩
  | 127 => ⟨S2x16384x512, .f32⟩
  | _ => ⟨S2x16384x1024, .f32⟩

abbrev hbmTy0_1 (i : Nat) : BufTy := match i % 128 with
  | 0 => ⟨S2x16384x512, .f32⟩
  | 1 => ⟨S2x16384x512, .f32⟩
  | 2 => ⟨S2x16384x512, .f32⟩
  | 3 => ⟨S1x512, .f32⟩
  | 4 => ⟨S512, .f32⟩
  | 5 => ⟨S1x1x512, .f32⟩
  | 6 => ⟨S2x16384x512, .f32⟩
  | 7 => ⟨S2x16384x512, .f32⟩
  | 8 => ⟨S2x16384x512, .f32⟩
  | 9 => ⟨S2x16384x512, .f32⟩
  | 10 => ⟨S1x512, .f32⟩
  | 11 => ⟨S512, .f32⟩
  | 12 => ⟨S1x1x512, .f32⟩
  | 13 => ⟨S2x16384x512, .f32⟩
  | 14 => ⟨S2x16384x512, .f32⟩
  | 15 => ⟨S2x16384x512, .f32⟩
  | 16 => ⟨S2x16384x512, .f32⟩
  | 17 => ⟨S1x512, .f32⟩
  | 18 => ⟨S512, .f32⟩
  | 19 => ⟨S1x1x512, .f32⟩
  | 20 => ⟨S2x16384x512, .f32⟩
  | 21 => ⟨S2x16384x512, .f32⟩
  | 22 => ⟨S2x16384x512, .f32⟩
  | 23 => ⟨S2x16384x512, .f32⟩
  | 24 => ⟨S1x512, .f32⟩
  | 25 => ⟨S512, .f32⟩
  | 26 => ⟨S1x1x512, .f32⟩
  | 27 => ⟨S2x16384x512, .f32⟩
  | 28 => ⟨S2x16384x512, .f32⟩
  | 29 => ⟨S2x16384x512, .f32⟩
  | 30 => ⟨S2x16384x512, .f32⟩
  | 31 => ⟨S1x512, .f32⟩
  | 32 => ⟨S512, .f32⟩
  | 33 => ⟨S1x1x512, .f32⟩
  | 34 => ⟨S2x16384x512, .f32⟩
  | 35 => ⟨S2x16384x512, .f32⟩
  | 36 => ⟨S2x16384x512, .f32⟩
  | 37 => ⟨S2x16384x512, .f32⟩
  | 38 => ⟨S1x512, .f32⟩
  | 39 => ⟨S512, .f32⟩
  | 40 => ⟨S1x1x512, .f32⟩
  | 41 => ⟨S2x16384x512, .f32⟩
  | 42 => ⟨S2x16384x512, .f32⟩
  | 43 => ⟨S2x16384x512, .f32⟩
  | 44 => ⟨S2x16384x512, .f32⟩
  | 45 => ⟨S1x512, .f32⟩
  | 46 => ⟨S512, .f32⟩
  | 47 => ⟨S1x1x512, .f32⟩
  | 48 => ⟨S2x16384x512, .f32⟩
  | 49 => ⟨S2x16384x512, .f32⟩
  | 50 => ⟨S2x16384x512, .f32⟩
  | 51 => ⟨S2x16384x512, .f32⟩
  | 52 => ⟨S1x512, .f32⟩
  | 53 => ⟨S512, .f32⟩
  | 54 => ⟨S1x1x512, .f32⟩
  | 55 => ⟨S2x16384x512, .f32⟩
  | 56 => ⟨S2x16384x512, .f32⟩
  | 57 => ⟨S2x16384x512, .f32⟩
  | 58 => ⟨S2x16384x512, .f32⟩
  | 59 => ⟨S1x512, .f32⟩
  | 60 => ⟨S512, .f32⟩
  | 61 => ⟨S1x1x512, .f32⟩
  | 62 => ⟨S2x16384x512, .f32⟩
  | 63 => ⟨S2x16384x512, .f32⟩
  | 64 => ⟨S2x16384x512, .f32⟩
  | 65 => ⟨S2x16384x512, .f32⟩
  | 66 => ⟨S1x512, .f32⟩
  | 67 => ⟨S512, .f32⟩
  | 68 => ⟨S1x1x512, .f32⟩
  | 69 => ⟨S2x16384x512, .f32⟩
  | 70 => ⟨S2x16384x512, .f32⟩
  | 71 => ⟨S2x16384x512, .f32⟩
  | 72 => ⟨S2x16384x512, .f32⟩
  | 73 => ⟨S1x512, .f32⟩
  | 74 => ⟨S512, .f32⟩
  | 75 => ⟨S1x1x512, .f32⟩
  | 76 => ⟨S2x16384x512, .f32⟩
  | 77 => ⟨S2x16384x512, .f32⟩
  | 78 => ⟨S2x16384x512, .f32⟩
  | 79 => ⟨S2x16384x512, .f32⟩
  | 80 => ⟨S1x512, .f32⟩
  | 81 => ⟨S512, .f32⟩
  | 82 => ⟨S1x1x512, .f32⟩
  | 83 => ⟨S2x16384x512, .f32⟩
  | 84 => ⟨S2x16384x512, .f32⟩
  | 85 => ⟨S2x16384x512, .f32⟩
  | 86 => ⟨S2x16384x512, .f32⟩
  | 87 => ⟨S1x512, .f32⟩
  | 88 => ⟨S512, .f32⟩
  | 89 => ⟨S1x1x512, .f32⟩
  | 90 => ⟨S2x16384x512, .f32⟩
  | 91 => ⟨S2x16384x512, .f32⟩
  | 92 => ⟨S2x16384x512, .f32⟩
  | 93 => ⟨S2x16384x512, .f32⟩
  | 94 => ⟨S1x512, .f32⟩
  | 95 => ⟨S512, .f32⟩
  | 96 => ⟨S1x1x512, .f32⟩
  | 97 => ⟨S2x16384x512, .f32⟩
  | 98 => ⟨S2x16384x512, .f32⟩
  | 99 => ⟨S2x16384x512, .f32⟩
  | 100 => ⟨S2x16384x512, .f32⟩
  | 101 => ⟨S1x512, .f32⟩
  | 102 => ⟨S512, .f32⟩
  | 103 => ⟨S1x1x512, .f32⟩
  | 104 => ⟨S2x16384x512, .f32⟩
  | 105 => ⟨S2x16384x512, .f32⟩
  | 106 => ⟨S2x16384x512, .f32⟩
  | 107 => ⟨S1x1x512, .f32⟩
  | 108 => ⟨S2x16384x512, .f32⟩
  | 109 => ⟨S2x16384x512, .f32⟩
  | 110 => ⟨S_, .f32⟩
  | 111 => ⟨S2x16384, .f32⟩
  | 112 => ⟨S2x16384x1, .f32⟩
  | 113 => ⟨S_, .f32⟩
  | 114 => ⟨S2x16384x1, .f32⟩
  | 115 => ⟨S2x16384x1, .f32⟩
  | 116 => ⟨S2x16384x512, .f32⟩
  | 117 => ⟨S2x16384x512, .f32⟩
  | 118 => ⟨S2x16384x512, .f32⟩
  | 119 => ⟨S_, .f32⟩
  | 120 => ⟨S2x16384, .f32⟩
  | 121 => ⟨S2x16384x1, .f32⟩
  | 122 => ⟨S_, .f32⟩
  | 123 => ⟨S2x16384x1, .f32⟩
  | 124 => ⟨S2x16384x1, .f32⟩
  | 125 => ⟨S2x16384x512, .f32⟩
  | 126 => ⟨S2x16384x512, .f32⟩
  | 127 => ⟨S_, .f32⟩
  | _ => ⟨S2x16384x1024, .f32⟩

abbrev hbmTy0_2 (i : Nat) : BufTy := match i % 128 with
  | 0 => ⟨S2x16384x1, .f32⟩
  | 1 => ⟨S2x16384x1, .f32⟩
  | 2 => ⟨S2x16384x1, .f32⟩
  | 3 => ⟨S2x16384x512, .f32⟩
  | 4 => ⟨S2x16384x512, .f32⟩
  | 5 => ⟨S1x1x512, .f32⟩
  | 6 => ⟨S2x16384x512, .f32⟩
  | 7 => ⟨S2x16384x512, .f32⟩
  | 8 => ⟨S1x1x512, .f32⟩
  | 9 => ⟨S2x16384x512, .f32⟩
  | 10 => ⟨S2x16384x512, .f32⟩
  | 11 => ⟨S2x16384x512, .f32⟩
  | 12 => ⟨S2x16384x512, .f32⟩
  | 13 => ⟨S_, .f32⟩
  | 14 => ⟨S2x16384x512, .f32⟩
  | 15 => ⟨S2x16384x512, .f32⟩
  | 16 => ⟨S_, .f32⟩
  | 17 => ⟨S2x16384x512, .f32⟩
  | 18 => ⟨S2x16384x512, .f32⟩
  | 19 => ⟨S2x16384x512, .f32⟩
  | 20 => ⟨S2x1x1024, .f32⟩
  | 21 => ⟨S2x1024, .f32⟩
  | 22 => ⟨S2x1x1024, .f32⟩
  | 23 => ⟨S2x16384x1024, .f32⟩
  | 24 => ⟨S2x16384x1024, .f32⟩
  | 25 => ⟨S2x16384x1024, .f32⟩
  | 26 => ⟨S2x16384x1024, .f32⟩
  | 27 => ⟨S2x16384x1024, .f32⟩
  | 28 => ⟨S1x1x1024, .f32⟩
  | 29 => ⟨S1024, .f32⟩
  | 30 => ⟨S1x1x1024x5632, .f32⟩
  | 31 => ⟨S1024x5632, .f32⟩
  | 32 => ⟨S1x1x2816x1024, .f32⟩
  | 33 => ⟨S2816x1024, .f32⟩
  | 34 => ⟨S2x16384x1024, .f32⟩
  | 35 => ⟨S_, .f32⟩
  | 36 => ⟨S2x16384, .f32⟩
  | 37 => ⟨S2x16384x1, .f32⟩
  | 38 => ⟨S_, .f32⟩
  | 39 => ⟨S2x16384x1, .f32⟩
  | 40 => ⟨S2x16384x1, .f32⟩
  | 41 => ⟨S_, .f32⟩
  | 42 => ⟨S2x16384x1, .f32⟩
  | 43 => ⟨S2x16384x1, .f32⟩
  | 44 => ⟨S2x16384x1, .f32⟩
  | 45 => ⟨S2x16384x1024, .f32⟩
  | 46 => ⟨S2x16384x1024, .f32⟩
  | 47 => ⟨S1x1x1024, .f32⟩
  | 48 => ⟨S2x16384x1024, .f32⟩
  | 49 => ⟨S2x16384x1024, .f32⟩
  | 50 => ⟨S2x1x1024, .f32⟩
  | 51 => ⟨S2x1024, .f32⟩
  | 52 => ⟨S2x1x1024, .f32⟩
  | 53 => ⟨S2x1024, .f32⟩
  | 54 => ⟨S2x1x1024, .f32⟩
  | 55 => ⟨S_, .f32⟩
  | 56 => ⟨S2x1x1024, .f32⟩
  | 57 => ⟨S2x1x1024, .f32⟩
  | 58 => ⟨S2x16384x1024, .f32⟩
  | 59 => ⟨S2x16384x1024, .f32⟩
  | 60 => ⟨S2x1x1024, .f32⟩
  | 61 => ⟨S2x16384x1024, .f32⟩
  | 62 => ⟨S2x16384x1024, .f32⟩
  | 63 => ⟨S2x1x1024, .f32⟩
  | 64 => ⟨S2x1024, .f32⟩
  | 65 => ⟨S2x1x1024, .f32⟩
  | 66 => ⟨S_, .f32⟩
  | 67 => ⟨S2x1x1024, .f32⟩
  | 68 => ⟨S2x1x1024, .f32⟩
  | 69 => ⟨S2x16384x5632, .f32⟩
  | 70 => ⟨S2x16384x2816, .f32⟩
  | 71 => ⟨S2x16384x2816, .f32⟩
  | 72 => ⟨S2x16384x2816, .f32⟩
  | 73 => ⟨S2x16384x2816, .f32⟩
  | 74 => ⟨S_, .f32⟩
  | 75 => ⟨S2x16384x2816, .f32⟩
  | 76 => ⟨S2x16384x2816, .f32⟩
  | 77 => ⟨S_, .f32⟩
  | 78 => ⟨S2x16384x2816, .f32⟩
  | 79 => ⟨S2x16384x2816, .f32⟩
  | 80 => ⟨S2x16384x2816, .f32⟩
  | 81 => ⟨S2x16384x2816, .f32⟩
  | 82 => ⟨S2x16384x1024, .f32⟩
  | 83 => ⟨S2x16384x1024, .f32⟩
  | 84 => ⟨S2x16384x1024, .f32⟩
  | 85 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_cst_0 : Ref sig .tc := ⟨.hbm, 238, rfl⟩
abbrev main_v222 : Ref sig .tc := ⟨.hbm, 239, rfl⟩
abbrev main_v223 : Ref sig .tc := ⟨.hbm, 240, rfl⟩
abbrev main_cst_1 : Ref sig .tc := ⟨.hbm, 241, rfl⟩
abbrev main_v224 : Ref sig .tc := ⟨.hbm, 242, rfl⟩
abbrev main_v225 : Ref sig .tc := ⟨.hbm, 243, rfl⟩
abbrev main_v226 : Ref sig .tc := ⟨.hbm, 244, rfl⟩
abbrev main_v227 : Ref sig .tc := ⟨.hbm, 245, rfl⟩
abbrev main_v228 : Ref sig .tc := ⟨.hbm, 246, rfl⟩
abbrev main_cst_2 : Ref sig .tc := ⟨.hbm, 247, rfl⟩
abbrev main_v229 : Ref sig .tc := ⟨.hbm, 248, rfl⟩
abbrev main_v230 : Ref sig .tc := ⟨.hbm, 249, rfl⟩
abbrev main_cst_3 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_cst_4 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_call1_v0 : Ref sig .tc := ⟨.hbm, 267, rfl⟩
abbrev main_call1_v1 : Ref sig .tc := ⟨.hbm, 268, rfl⟩
abbrev main_call1_cst : Ref sig .tc := ⟨.hbm, 269, rfl⟩
abbrev main_call1_v2 : Ref sig .tc := ⟨.hbm, 270, rfl⟩
abbrev main_call1_v3 : Ref sig .tc := ⟨.hbm, 271, rfl⟩
abbrev main_call1_cst_0 : Ref sig .tc := ⟨.hbm, 272, rfl⟩
abbrev main_call1_v4 : Ref sig .tc := ⟨.hbm, 273, rfl⟩
abbrev main_call1_v5 : Ref sig .tc := ⟨.hbm, 274, rfl⟩
abbrev main_v246 : Ref sig .tc := ⟨.hbm, 275, rfl⟩
abbrev main_v247 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_cst_5 : Ref sig .tc := ⟨.hbm, 291, rfl⟩
abbrev main_v262 : Ref sig .tc := ⟨.hbm, 292, rfl⟩
abbrev main_v263 : Ref sig .tc := ⟨.hbm, 293, rfl⟩
abbrev main_cst_6 : Ref sig .tc := ⟨.hbm, 294, rfl⟩
abbrev main_v264 : Ref sig .tc := ⟨.hbm, 295, rfl⟩
abbrev main_v265 : Ref sig .tc := ⟨.hbm, 296, rfl⟩
abbrev main_cst_7 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_cst_8 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_cst_9 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_call2_v0 : Ref sig .tc := ⟨.hbm, 328, rfl⟩
abbrev main_call2_v1 : Ref sig .tc := ⟨.hbm, 329, rfl⟩
abbrev main_call2_cst : Ref sig .tc := ⟨.hbm, 330, rfl⟩
abbrev main_call2_v2 : Ref sig .tc := ⟨.hbm, 331, rfl⟩
abbrev main_call2_v3 : Ref sig .tc := ⟨.hbm, 332, rfl⟩
abbrev main_call2_cst_0 : Ref sig .tc := ⟨.hbm, 333, rfl⟩
abbrev main_call2_v4 : Ref sig .tc := ⟨.hbm, 334, rfl⟩
abbrev main_call2_v5 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩

abbrev nD : Nat := 1
abbrev τ : Topo := Topo.v7x

variable {F : FTy → Type} [FloatOps F]
-- ==== Proof.Heads.lean ====
/-
  The attention of one pair of heads over one block of 128 queries, as the kernel's body computes it: the scores of a
  head (`sLo`, `sHi`: the head lying in the low, the high 64 lanes of its pair), its softmax with the sink and its
  output (`hOut`), and the pair of outputs stored side by side (`pairOut`) — and each of them read at an index.
-/
module

public import proofs.«01_k».proof.Proof.Gen.KernelIdeal.Skeleton
public import Idealize.ShloMosaic.Lib.Pointwise
public import Idealize.ShloMosaic.PureOps.Ideal
public import Idealize.ShloMosaic.Lib.Pipeline.ValueKit

@[expose] public section

set_option maxRecDepth 16384

noncomputable section

namespace Cert.KernelIdeal.Heads

open Idealize.ShloMosaic Idealize.ShloMosaic.TcCoe
open Cert.KernelIdeal Cert.KernelIdeal.Gen

variable {F : FTy → Type} [FloatOps F] [Named F]

/-- The scores of the masked queries `qm` against the keys `kw`, with the three bias slabs side by side. -/
def sWith (qm : FVec F S128x128 .bf16) (kw : Vec F S384x128 .bf16) (b0 b1 b2 : Vec F S1x128x128 .f32) :
    FVec F S128x384 .f32 :=
  addf (matmul dot_S128x128_S384x128_S128x384_1_1_0_0_n_n none qm kw (constant S128x384 .f32 0x00000000#32))
    (concatenate S128x384 1 [⟨S128x128, shapeCast S128x128 b0 shapeCasts_S1x128x128_S128x128⟩,
      ⟨S128x128, shapeCast S128x128 b1 shapeCasts_S1x128x128_S128x128⟩,
      ⟨S128x128, shapeCast S128x128 b2 shapeCasts_S1x128x128_S128x128⟩]
      concatenates_S128x128_S128x128_S128x128_S128x384_d1)

/-- The queries of a pair of heads with the high head's lanes zero. -/
def qLo (q : Vec F S1x128x128 .bf16) : FVec F S128x128 .bf16 :=
  select k0_pay2 (shapeCast S128x128 q shapeCasts_S1x128x128_S128x128)
    (broadcast S128x128 (Scalar.ofBits .bf16 0x0000#16))

/-- The queries of a pair of heads with the low head's lanes zero. -/
def qHi (q : Vec F S1x128x128 .bf16) : FVec F S128x128 .bf16 :=
  select k0_pay2 (broadcast S128x128 (Scalar.ofBits .bf16 0x0000#16))
    (shapeCast S128x128 q shapeCasts_S1x128x128_S128x128)

/-- The row maximum of the scores and the sink. -/
def hMax (s : FVec F S128x384 .f32) (snk : F .f32) : FVec F S128x1 .f32 :=
  maximumf (shapeCast S128x1
    (multiReduction .maximumf [1] S128 s 0xFF800000#32 reduces_S128x384_S128 (.inl rfl) rfl) shapeCasts_S128_S128x1)
    (broadcast S128x1 snk)

/-- The unnormalised weights. -/
def hExp (s : FVec F S128x384 .f32) (snk : F .f32) : FVec F S128x384 .f32 :=
  exp2 (subf s (broadcastTo S128x384 (hMax s snk) broadcasts_S128x1_S128x384))

/-- The output of a head: the weighted values over the weights' sum, the sink's weight in it. -/
def hOut (s : FVec F S128x384 .f32) (snk : F .f32) (vw : Vec F S384x128 .bf16) : FVec F S128x128 .f32 :=
  divf (matmul dot_S128x384_S384x128_S128x128_1_0_0_1_n_n none (truncf .bf16 (hExp s snk) bitsLt_bf16_f32) vw
      (constant S128x128 .f32 0x00000000#32))
    (broadcastTo S128x128 (addf (shapeCast S128x1
      (multiReduction .add [1] S128 (hExp s snk) 0x00000000#32 reduces_S128x384_S128 (.inl rfl) rfl)
        shapeCasts_S128_S128x1) (exp2 (subf (broadcast S128x1 snk) (hMax s snk)))) broadcasts_S128x1_S128x128)

/-- The sink of a head in the exponent's base. -/
def snkOf (x : Elt F .f32) : F .f32 := Scalar.mulf x (Named.named κ "log2e" 0x3FB8AA3B#32)

/-- The two heads of a pair stored side by side. -/
def pairOut (lo hi : FVec F S128x128 .f32) : FVec F S128x128 .bf16 :=
  shapeCast S128x128 (truncf .bf16 (select k0_pay2 lo hi) bitsLt_bf16_f32) shapeCasts_S128x128_S128x128

/-- A load of a rectangle of a three-dimensional array, at an index. -/
theorem ld3 {φ : EltTy} {n0 n1 n2 m0 m1 m2 : ℕ} (X : Vec F ⟨3, ![n0, n1, n2]⟩ φ) (off : Fin 3 → ℕ) (inb)
    (a : Fin m0) (b : Fin m1) (c : Fin m2) (i : Fin n0) (j : Fin n1) (k : Fin n2)
    (hi : i.val = off 0 + a.val) (hj : j.val = off 1 + b.val) (hk : k.val = off 2 + c.val) :
    View.ld X (Rect.unit (s := ⟨3, ![n0, n1, n2]⟩) off ![m0, m1, m2] inb) (ix3 a b c) = X (ix3 i j k) :=
  View.ld_unit_apply_of X off _ inb _ _ fun x => by
    fin_cases x
    · exact hi
    · exact hj
    · exact hk

/-- The same of a two-dimensional array. -/
theorem ld2 {φ : EltTy} {n0 n1 m0 m1 : ℕ} (X : Vec F ⟨2, ![n0, n1]⟩ φ) (off : Fin 2 → ℕ) (inb)
    (a : Fin m0) (b : Fin m1) (i : Fin n0) (j : Fin n1)
    (hi : i.val = off 0 + a.val) (hj : j.val = off 1 + b.val) :
    View.ld X (Rect.unit (s := ⟨2, ![n0, n1]⟩) off ![m0, m1] inb) (ix2 a b) = X (ix2 i j) :=
  View.ld_unit_apply_of X off _ inb _ _ fun x => by
    fin_cases x
    · exact hi
    · exact hj

/-- What the body stores for one pair of heads: its loads are the pair's queries, and for each head its keys and values,
    its bias slabs and its sink. -/
def piece (q : Vec F S1x128x128 .bf16) (kl vl : Vec F S384x128 .bf16) (l0 l1 l2 : Vec F S1x128x128 .f32)
    (sl : Elt F .f32) (kh vh : Vec F S384x128 .bf16) (h0 h1 h2 : Vec F S1x128x128 .f32) (sh : Elt F .f32) :
    FVec F S128x128 .bf16 :=
  pairOut (hOut (sWith (qLo q) kl l0 l1 l2) (snkOf sl) vl) (hOut (sWith (qHi q) kh h0 h1 h2) (snkOf sh) vh)

/-! ## The same at an index, over the extended reals -/

/-- The softmax in base two with a sink: scores `s`, sink `z`, values `v`. -/
def soft2 {n : ℕ} (s : Fin n → EReal) (z : EReal) (v : Fin n → EReal) : EReal :=
  Ideal.div (∑ x, Ideal.exp2 (s x - max (Finset.univ.fold max ⊥ s) z) * v x)
    (∑ x, Ideal.exp2 (s x - max (Finset.univ.fold max ⊥ s) z) + Ideal.exp2 (z - max (Finset.univ.fold max ⊥ s) z))

theorem negInf : Ideal.ofBits FTy.f32 4286578688#32 = ⊥ := by
  simp [Ideal.ofBits, Ideal.ieee]

theorem lane_lt (l : Fin 128) : (IntOp.cmpi .slt (BitVec.ofNat 32 l.val) 64#32 = 1#1) ↔ l.val < 64 :=
  (by decide +kernel : ∀ l : Fin 128, (IntOp.cmpi .slt (BitVec.ofNat 32 l.val) 64#32 = 1#1) ↔ l.val < 64) l

theorem sel_lane {α : Type} (l : Fin 128) (x y : α) :
    Scalar.select (IntOp.cmpi .slt (BitVec.ofNat 32 l.val) 64#32) x y = if l.val < 64 then x else y := by
  by_cases h : l.val < 64
  · rw [if_pos h, (lane_lt l).2 h]; rfl
  · rw [if_neg h]
    have h1 : IntOp.cmpi .slt (BitVec.ofNat 32 l.val) 64#32 = 0#1 := by
      have := mt (lane_lt l).1 h
      revert this; generalize IntOp.cmpi .slt (BitVec.ofNat 32 l.val) 64#32 = b; revert b; decide
    rw [h1]; rfl

theorem hOut_pt (s : FVec Ideal S128x384 .f32) (z : Ideal .f32) (vw : Vec Ideal S384x128 .bf16) (a l : Fin 128) :
    hOut s z vw (ix2 a l) = soft2 (fun x => s (ix2 a x)) z (fun x => vw (ix2 x l)) := by
  pointwise [hOut, hExp, hMax]
  rw [negInf]; rfl

/-- The three bias slabs side by side, at an index. -/
def slab (b0 b1 b2 : Vec Ideal S1x128x128 .f32) (a : Fin 128) (s : Fin 384) : EReal :=
  if h : s.val < 128 then b0 (ix3 0 a ⟨s.val, h⟩)
  else if h' : s.val - 128 < 128 then b1 (ix3 0 a ⟨s.val - 128, h'⟩)
  else b2 (ix3 0 a ⟨s.val - 128 - 128, by omega⟩)

theorem sWith_pt (qm : FVec Ideal S128x128 .bf16) (kw : Vec Ideal S384x128 .bf16) (b0 b1 b2 : Vec Ideal S1x128x128 .f32)
    (a : Fin 128) (s : Fin 384) :
    sWith qm kw b0 b1 b2 (ix2 a s) = (∑ x, qm (ix2 a x) * kw (ix2 s x)) + slab b0 b1 b2 a s := by
  pointwise [sWith]
  rfl

theorem qLo_pt (q : Vec Ideal S1x128x128 .bf16) (a l : Fin 128) :
    qLo q (ix2 a l) = if l.val < 64 then q (ix3 0 a l) else 0 := by
  pointwise [qLo, k0_pay2]
  exact sel_lane l _ _

theorem qHi_pt (q : Vec Ideal S1x128x128 .bf16) (a l : Fin 128) :
    qHi q (ix2 a l) = if l.val < 64 then 0 else q (ix3 0 a l) := by
  pointwise [qHi, k0_pay2]
  exact sel_lane l _ _

theorem pairOut_pt (lo hi : FVec Ideal S128x128 .f32) (a l : Fin 128) :
    pairOut lo hi (ix2 a l) = if l.val < 64 then lo (ix2 a l) else hi (ix2 a l) := by
  pointwise [pairOut, k0_pay2]
  exact sel_lane l _ _

/-- Where head `h`'s keys and values lie in the packed arrays: in the plain tile if the head's half of its pair is the
    key head's half of its tile, else in the copy with the halves exchanged. -/
def hcol (h : Fin 16) : ℕ := if h.val / 4 % 2 = h.val % 2 then 128 * (h.val / 8) else 256 + 128 * (h.val / 8)

theorem hcol_lt (h : Fin 16) : hcol h + 128 ≤ 512 := by unfold hcol; split <;> omega

/-- A query lane of head `h` in its pair, zero off the head's half. -/
def qLane (q : Vec Ideal S1x512x1024 .bf16) (k : Fin 4) (h : Fin 16) (a x : Fin 128) : EReal :=
  if x.val < 64 ↔ h.val % 2 = 0 then
    q (ix3 0 ⟨128 * k.val + a.val, by omega⟩ ⟨128 * (h.val / 2) + x.val, by omega⟩) else 0

/-- The score of query `a` of sub-block `k` against key `s` of its window, for head `h`. -/
def kScore (b0 : Vec Ideal S17x128x128 .f32) (b1 : Vec Ideal S16x128x128 .f32) (b2 : Vec Ideal S17x128x128 .f32)
    (q : Vec Ideal S1x512x1024 .bf16) (ka : Vec Ideal S768x512 .bf16) (first last : Prop) [Decidable first]
    [Decidable last] (k : Fin 4) (h : Fin 16) (a : Fin 128) (s : Fin 384) : EReal :=
  (∑ x : Fin 128, qLane q k h a x *
      ka (ix2 ⟨128 * k.val + s.val, by omega⟩ ⟨hcol h + x.val, by have := hcol_lt h; omega⟩)) +
    (if hs : s.val < 128 then b0 (ix3 ⟨if first then 16 else h.val, by split <;> omega⟩ a ⟨s.val, hs⟩)
     else if hs' : s.val - 128 < 128 then b1 (ix3 h a ⟨s.val - 128, hs'⟩)
     else b2 (ix3 ⟨if last then 16 else h.val, by split <;> omega⟩ a ⟨s.val - 128 - 128, by omega⟩))

/-- The output of head `h` for query `a` of sub-block `k` at lane `l` of its pair. -/
def kHead (snk : Vec Ideal S16 .f32) (b0 : Vec Ideal S17x128x128 .f32) (b1 : Vec Ideal S16x128x128 .f32)
    (b2 : Vec Ideal S17x128x128 .f32) (q : Vec Ideal S1x512x1024 .bf16) (ka va : Vec Ideal S768x512 .bf16)
    (first last : Prop) [Decidable first] [Decidable last] (k : Fin 4) (h : Fin 16) (a l : Fin 128) : EReal :=
  soft2 (kScore b0 b1 b2 q ka first last k h a) (snkOf (F := Ideal) (snk (ix1 h)))
    (fun s => va (ix2 ⟨128 * k.val + s.val, by omega⟩ ⟨hcol h + l.val, by have := hcol_lt h; omega⟩))

theorem sLo_pt (b0 : Vec Ideal S17x128x128 .f32) (b1 : Vec Ideal S16x128x128 .f32)
    (b2 : Vec Ideal S17x128x128 .f32) (q : Vec Ideal S1x512x1024 .bf16) (ka : Vec Ideal S768x512 .bf16)
    (first last : Prop) [Decidable first] [Decidable last] (k : Fin 4) (h : Fin 16) (e : h.val % 2 = 0)
    (iq ik i0 i1 i2) (a : Fin 128) (s : Fin 384) :
    sWith (qLo (View.ld q (Rect.unit (s := S1x512x1024) ![0, 128 * k.val, 128 * (h.val / 2)] S1x128x128.size iq)))
      (View.ld ka (Rect.unit (s := S768x512) ![128 * k.val, hcol h] S384x128.size ik))
      (View.ld b0 (Rect.unit (s := S17x128x128) ![if first then 16 else h.val, 0, 0] S1x128x128.size i0))
      (View.ld b1 (Rect.unit (s := S16x128x128) ![h.val, 0, 0] S1x128x128.size i1))
      (View.ld b2 (Rect.unit (s := S17x128x128) ![if last then 16 else h.val, 0, 0] S1x128x128.size i2)) (ix2 a s)
      = kScore b0 b1 b2 q ka first last k h a s := by
  rw [sWith_pt]
  unfold kScore slab qLane
  simp only [qLo_pt, e]
  congr 1
  · refine Finset.sum_congr rfl fun x _ => ?_
    congr 1
    · by_cases hx : x.val < 64
      · simp only [hx, if_true, iff_true]
        exact ld3 q _ iq 0 a x _ _ _ rfl rfl rfl
      · simp [hx]
    · exact ld2 ka _ ik s x _ _ rfl rfl
  · split
    · exact ld3 b0 _ i0 0 a _ _ _ _ rfl (by simp) (by simp)
    · split
      · exact ld3 b1 _ i1 0 a _ _ _ _ rfl (by simp) (by simp)
      · exact ld3 b2 _ i2 0 a _ _ _ _ rfl (by simp) (by simp)

theorem sHi_pt (b0 : Vec Ideal S17x128x128 .f32) (b1 : Vec Ideal S16x128x128 .f32)
    (b2 : Vec Ideal S17x128x128 .f32) (q : Vec Ideal S1x512x1024 .bf16) (ka : Vec Ideal S768x512 .bf16)
    (first last : Prop) [Decidable first] [Decidable last] (k : Fin 4) (h : Fin 16) (e : h.val % 2 = 1)
    (iq ik i0 i1 i2) (a : Fin 128) (s : Fin 384) :
    sWith (qHi (View.ld q (Rect.unit (s := S1x512x1024) ![0, 128 * k.val, 128 * (h.val / 2)] S1x128x128.size iq)))
      (View.ld ka (Rect.unit (s := S768x512) ![128 * k.val, hcol h] S384x128.size ik))
      (View.ld b0 (Rect.unit (s := S17x128x128) ![if first then 16 else h.val, 0, 0] S1x128x128.size i0))
      (View.ld b1 (Rect.unit (s := S16x128x128) ![h.val, 0, 0] S1x128x128.size i1))
      (View.ld b2 (Rect.unit (s := S17x128x128) ![if last then 16 else h.val, 0, 0] S1x128x128.size i2)) (ix2 a s)
      = kScore b0 b1 b2 q ka first last k h a s := by
  rw [sWith_pt]
  unfold kScore slab qLane
  simp only [qHi_pt, e]
  congr 1
  · refine Finset.sum_congr rfl fun x _ => ?_
    congr 1
    · by_cases hx : x.val < 64
      · simp [hx]
      · simp only [hx, if_false, false_iff, one_ne_zero, not_false_eq_true, if_true]
        exact ld3 q _ iq 0 a x _ _ _ rfl rfl rfl
    · exact ld2 ka _ ik s x _ _ rfl rfl
  · split
    · exact ld3 b0 _ i0 0 a _ _ _ _ rfl (by simp) (by simp)
    · split
      · exact ld3 b1 _ i1 0 a _ _ _ _ rfl (by simp) (by simp)
      · exact ld3 b2 _ i2 0 a _ _ _ _ rfl (by simp) (by simp)

/-- One pair's stored block at an index: each half is its head's output. The loads are at the stated offsets. -/
theorem piece_pt (snk : Vec Ideal S16 .f32) (b0 : Vec Ideal S17x128x128 .f32) (b1 : Vec Ideal S16x128x128 .f32)
    (b2 : Vec Ideal S17x128x128 .f32) (q : Vec Ideal S1x512x1024 .bf16) (ka va : Vec Ideal S768x512 .bf16)
    (first last : Prop) [Decidable first] [Decidable last] (k : Fin 4) (hl hh : Fin 16)
    (el : hl.val % 2 = 0) (eh : hh.val = hl.val + 1)
    (oq : Fin 3 → ℕ) (hq : oq = ![0, 128 * k.val, 128 * (hl.val / 2)]) (iq)
    (okl : Fin 2 → ℕ) (hkl : okl = ![128 * k.val, hcol hl]) (ikl)
    (ovl : Fin 2 → ℕ) (hvl : ovl = ![128 * k.val, hcol hl]) (ivl)
    (ol0 : Fin 3 → ℕ) (hl0 : ol0 = ![if first then 16 else hl.val, 0, 0]) (il0)
    (ol1 : Fin 3 → ℕ) (hl1 : ol1 = ![hl.val, 0, 0]) (il1)
    (ol2 : Fin 3 → ℕ) (hl2 : ol2 = ![if last then 16 else hl.val, 0, 0]) (il2)
    (okh : Fin 2 → ℕ) (hkh : okh = ![128 * k.val, hcol hh]) (ikh)
    (ovh : Fin 2 → ℕ) (hvh : ovh = ![128 * k.val, hcol hh]) (ivh)
    (oh0 : Fin 3 → ℕ) (hh0 : oh0 = ![if first then 16 else hh.val, 0, 0]) (ih0)
    (oh1 : Fin 3 → ℕ) (hh1 : oh1 = ![hh.val, 0, 0]) (ih1)
    (oh2 : Fin 3 → ℕ) (hh2 : oh2 = ![if last then 16 else hh.val, 0, 0]) (ih2)
    (sl sh : EReal) (hsl : sl = snk (ix1 hl)) (hsh : sh = snk (ix1 hh)) (a l : Fin 128) :
    piece (View.ld q (Rect.unit (s := S1x512x1024) oq S1x128x128.size iq))
      (View.ld ka (Rect.unit (s := S768x512) okl S384x128.size ikl))
      (View.ld va (Rect.unit (s := S768x512) ovl S384x128.size ivl))
      (View.ld b0 (Rect.unit (s := S17x128x128) ol0 S1x128x128.size il0))
      (View.ld b1 (Rect.unit (s := S16x128x128) ol1 S1x128x128.size il1))
      (View.ld b2 (Rect.unit (s := S17x128x128) ol2 S1x128x128.size il2)) sl
      (View.ld ka (Rect.unit (s := S768x512) okh S384x128.size ikh))
      (View.ld va (Rect.unit (s := S768x512) ovh S384x128.size ivh))
      (View.ld b0 (Rect.unit (s := S17x128x128) oh0 S1x128x128.size ih0))
      (View.ld b1 (Rect.unit (s := S16x128x128) oh1 S1x128x128.size ih1))
      (View.ld b2 (Rect.unit (s := S17x128x128) oh2 S1x128x128.size ih2)) sh (ix2 a l)
      = kHead snk b0 b1 b2 q ka va first last k (if l.val < 64 then hl else hh) a l := by
  subst hsl hsh
  subst hkl hvl hl0 hl1 hl2 hkh hvh hh0 hh1 hh2
  unfold piece
  rw [pairOut_pt, hOut_pt, hOut_pt]
  have hp : 128 * (hl.val / 2) = 128 * (hh.val / 2) := by omega
  by_cases h : l.val < 64
  · rw [if_pos h, if_pos h]
    unfold kHead
    congr 1
    · funext x
      subst hq
      exact sLo_pt b0 b1 b2 q ka first last k hl el _ _ _ _ _ a x
    · funext x
      exact ld2 va _ ivl x l _ _ rfl rfl
  · rw [if_neg h, if_neg h]
    unfold kHead
    congr 1
    · funext x
      have hq' : oq = ![0, 128 * k.val, 128 * (hh.val / 2)] := by rw [hq, hp]
      subst hq'
      exact sHi_pt b0 b1 b2 q ka first last k hh (by omega) iq _ _ _ _ a x
    · funext x
      exact ld2 va _ ivh x l _ _ rfl rfl

end Cert.KernelIdeal.Heads

end

end
-- ==== Proof.Trip.lean ====
/-
  One trip of the body's loop (one block of 128 queries), as the list of the eight blocks it stores: each is `piece` of
  that trip's loads.
-/
module

public import proofs.«01_k».proof.Proof.Heads
public import proofs.«01_k».proof.Proof.Gen.KernelIdeal.Loops
public import Idealize.ShloMosaic.Lib.Pipeline.ValueKit

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

variable {F : FTy → Type} [FloatOps F] [Named F]

/-- A buffer's contents as the array a whole memref reads. -/
abbrev rd {sp : Space} {s : Shape} {e : EltTy} (M : Memref sig .tc sp s e) (X : BufTy.Contents (Elt F) M.view.ty) :
    Vec F s e := View.read (Elt F) M.view X

/-- A load of 384 rows of the packed keys or values. -/
abbrev kwin (off : Fin k0_t1_loop.trips → Fin 2 → ℕ) (inb : ∀ k, ∀ a, off k a + S384x128.size a ≤ S768x512.size a)
    (k : Fin k0_t1_loop.trips) (X : Vec F S768x512 .bf16) : Vec F S384x128 .bf16 :=
  View.ld X (Rect.unit (s := S768x512) (off k) S384x128.size (inb k))

theorem off3_fst (i : grid0.Coords) (k : Fin k0_t1_loop.trips) (h : Fin 16) :
    k0_off3 i k 0#32 0#32 (BitVec.ofNat 32 h.val)
      = ![if (i 1).val = 0 ∧ k.val = 0 then 16 else h.val, 0, 0] :=
  (by decide +kernel : ∀ (n : Fin 32) (k : Fin k0_t1_loop.trips) (h : Fin 16),
    (![(Scalar.indexCast (Scalar.select (Scalar.andi (Scalar.cmpi .eq (BitVec.ofNat 32 n.val) 0#32)
      (Scalar.cmpi .eq (Scf.iv 0#32 1#32 k) 0#32)) 16#32 (BitVec.ofNat 32 h.val))).toNat, 0, 0] : Fin 3 → ℕ)
      = ![if n.val = 0 ∧ k.val = 0 then 16 else h.val, 0, 0]) (i 1) k h

theorem off3_last (i : grid0.Coords) (k : Fin k0_t1_loop.trips) (h : Fin 16) :
    k0_off3 i k 31#32 3#32 (BitVec.ofNat 32 h.val)
      = ![if (i 1).val = 31 ∧ k.val = 3 then 16 else h.val, 0, 0] :=
  (by decide +kernel : ∀ (n : Fin 32) (k : Fin k0_t1_loop.trips) (h : Fin 16),
    (![(Scalar.indexCast (Scalar.select (Scalar.andi (Scalar.cmpi .eq (BitVec.ofNat 32 n.val) 31#32)
      (Scalar.cmpi .eq (Scf.iv 0#32 1#32 k) 3#32)) 16#32 (BitVec.ofNat 32 h.val))).toNat, 0, 0] : Fin 3 → ℕ)
      = ![if n.val = 31 ∧ k.val = 3 then 16 else h.val, 0, 0]) (i 1) k h

theorem inb3 (off : Fin 3 → ℕ) (h : Fin 16) (p : Prop) [Decidable p] (e : off = ![if p then 16 else h.val, 0, 0]) :
    ∀ x, off x + S1x128x128.size x ≤ S17x128x128.size x := by
  subst e
  intro x
  fin_cases x
  · show (if p then 16 else h.val) + 1 ≤ 17
    split <;> omega
  · exact le_refl 128
  · exact le_refl 128

/-- A load of a slab of the first edge table: the head's, or the last one at the sequence's start. -/
abbrev bfst (i : grid0.Coords) (k : Fin k0_t1_loop.trips) (X : Vec F S17x128x128 .f32) (h : Fin 16) :
    Vec F S1x128x128 .f32 :=
  View.ld X (Rect.unit (s := S17x128x128) (k0_off3 i k 0#32 0#32 (BitVec.ofNat 32 h.val)) S1x128x128.size
    (inb3 _ h _ (off3_fst i k h)))

/-- A load of a slab of the last edge table: the head's, or the last one at the sequence's end. -/
abbrev blast (i : grid0.Coords) (k : Fin k0_t1_loop.trips) (X : Vec F S17x128x128 .f32) (h : Fin 16) :
    Vec F S1x128x128 .f32 :=
  View.ld X (Rect.unit (s := S17x128x128) (k0_off3 i k 31#32 3#32 (BitVec.ofNat 32 h.val)) S1x128x128.size
    (inb3 _ h _ (off3_last i k h)))

theorem first_ok : 0 < S1.numel := by decide

theorem trip_pieces  (𝒱 : Variants) (c : Dev nD) (bd : Option 𝒱.V) (i : grid0.Coords) (arg2 : Memref sig .tc .smem S16 .f32) (harg2 : arg2.IsWhole) (arg3 : Memref sig .tc .vmem S17x128x128 .f32) (harg3 : arg3.IsWhole) (arg4 : Memref sig .tc .vmem S16x128x128 .f32) (harg4 : arg4.IsWhole) (arg5 : Memref sig .tc .vmem S17x128x128 .f32) (harg5 : arg5.IsWhole) (arg6 : Memref sig .tc .vmem S1x512x1024 .f32) (harg6 : arg6.IsWhole) (arg7 : Memref sig .tc .vmem S1x512x1024 .bf16) (harg7 : arg7.IsWhole) (arg8 : Memref sig .tc .vmem S1x128x512 .bf16) (harg8 : arg8.IsWhole) (arg9 : Memref sig .tc .vmem S1x512x512 .bf16) (harg9 : arg9.IsWhole) (arg10 : Memref sig .tc .vmem S1x128x512 .bf16) (harg10 : arg10.IsWhole) (arg11 : Memref sig .tc .vmem S1x128x512 .bf16) (harg11 : arg11.IsWhole) (arg12 : Memref sig .tc .vmem S1x512x512 .bf16) (harg12 : arg12.IsWhole) (arg13 : Memref sig .tc .vmem S1x128x512 .bf16) (harg13 : arg13.IsWhole) (arg14 : Memref sig .tc .vmem S1x3x1024 .f32) (harg14 : arg14.IsWhole) (arg15 : Memref sig .tc .vmem S1024x1024 .bf16) (harg15 : arg15.IsWhole) (arg16 : Memref sig .tc .vmem S1x512x1024 .f32) (harg16 : arg16.IsWhole) (arg17 : Memref sig .tc .vmem S768x512 .bf16) (harg17 : arg17.IsWhole) (arg18 : Memref sig .tc .vmem S768x512 .bf16) (harg18 : arg18.IsWhole) (arg19 : Memref sig .tc .vmem S512x1024 .bf16) (harg19 : arg19.IsWhole) (arg1 : BitVec 32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg17 : BufTy.Contents (Elt F) arg17.view.ty) (X_arg18 : BufTy.Contents (Elt F) arg18.view.ty) (k : Fin k0_t1_loop.trips)  :
    tripL_k0_t1 (F := F)  𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 X_arg2 X_arg3 X_arg4 X_arg5 X_arg7 X_arg17 X_arg18 k =
     [⟨Rect.unit (s := S512x1024) (k0_off21 k) S128x128.size (k0_off21_inb k),
      piece (View.ld (rd arg7 X_arg7) (Rect.unit (s := S1x512x1024) (k0_off17 k) S1x128x128.size (k0_off17_inb k)))
        (kwin k0_off12 k0_off12_inb k (rd arg17 X_arg17)) (kwin k0_off12 k0_off12_inb k (rd arg18 X_arg18))
        (bfst i k (rd arg3 X_arg3) 14)
        (View.ld (rd arg4 X_arg4) (Rect.unit (s := S16x128x128) ![14, 0, 0] S1x128x128.size inb_S16x128x128_S1x128x128_14_0_0))
        (blast i k (rd arg5 X_arg5) 14)
        (View.ld (rd arg2 X_arg2) (Rect.unit (s := S16) ![14] S1.size inb_S16_S1_14) (Shape.Idx.first first_ok))
        (kwin k0_off10 k0_off10_inb k (rd arg17 X_arg17)) (kwin k0_off10 k0_off10_inb k (rd arg18 X_arg18))
        (bfst i k (rd arg3 X_arg3) 15)
        (View.ld (rd arg4 X_arg4) (Rect.unit (s := S16x128x128) ![15, 0, 0] S1x128x128.size inb_S16x128x128_S1x128x128_15_0_0))
        (blast i k (rd arg5 X_arg5) 15)
        (View.ld (rd arg2 X_arg2) (Rect.unit (s := S16) ![15] S1.size inb_S16_S1_15) (Shape.Idx.first first_ok))⟩,
      ⟨Rect.unit (s := S512x1024) (k0_off20 k) S128x128.size (k0_off20_inb k),
      piece (View.ld (rd arg7 X_arg7) (Rect.unit (s := S1x512x1024) (k0_off15 k) S1x128x128.size (k0_off15_inb k)))
        (kwin k0_off12 k0_off12_inb k (rd arg17 X_arg17)) (kwin k0_off12 k0_off12_inb k (rd arg18 X_arg18))
        (bfst i k (rd arg3 X_arg3) 12)
        (View.ld (rd arg4 X_arg4) (Rect.unit (s := S16x128x128) ![12, 0, 0] S1x128x128.size inb_S16x128x128_S1x128x128_12_0_0))
        (blast i k (rd arg5 X_arg5) 12)
        (View.ld (rd arg2 X_arg2) (Rect.unit (s := S16) ![12] S1.size inb_S16_S1_12) (Shape.Idx.first first_ok))
        (kwin k0_off10 k0_off10_inb k (rd arg17 X_arg17)) (kwin k0_off10 k0_off10_inb k (rd arg18 X_arg18))
        (bfst i k (rd arg3 X_arg3) 13)
        (View.ld (rd arg4 X_arg4) (Rect.unit (s := S16x128x128) ![13, 0, 0] S1x128x128.size inb_S16x128x128_S1x128x128_13_0_0))
        (blast i k (rd arg5 X_arg5) 13)
        (View.ld (rd arg2 X_arg2) (Rect.unit (s := S16) ![13] S1.size inb_S16_S1_13) (Shape.Idx.first first_ok))⟩,
      ⟨Rect.unit (s := S512x1024) (k0_off19 k) S128x128.size (k0_off19_inb k),
      piece (View.ld (rd arg7 X_arg7) (Rect.unit (s := S1x512x1024) (k0_off13 k) S1x128x128.size (k0_off13_inb k)))
        (kwin k0_off10 k0_off10_inb k (rd arg17 X_arg17)) (kwin k0_off10 k0_off10_inb k (rd arg18 X_arg18))
        (bfst i k (rd arg3 X_arg3) 10)
        (View.ld (rd arg4 X_arg4) (Rect.unit (s := S16x128x128) ![10, 0, 0] S1x128x128.size inb_S16x128x128_S1x128x128_10_0_0))
        (blast i k (rd arg5 X_arg5) 10)
        (View.ld (rd arg2 X_arg2) (Rect.unit (s := S16) ![10] S1.size inb_S16_S1_10) (Shape.Idx.first first_ok))
        (kwin k0_off12 k0_off12_inb k (rd arg17 X_arg17)) (kwin k0_off12 k0_off12_inb k (rd arg18 X_arg18))
        (bfst i k (rd arg3 X_arg3) 11)
        (View.ld (rd arg4 X_arg4) (Rect.unit (s := S16x128x128) ![11, 0, 0] S1x128x128.size inb_S16x128x128_S1x128x128_11_0_0))
        (blast i k (rd arg5 X_arg5) 11)
        (View.ld (rd arg2 X_arg2) (Rect.unit (s := S16) ![11] S1.size inb_S16_S1_11) (Shape.Idx.first first_ok))⟩,
      ⟨Rect.unit (s := S512x1024) (k0_off18 k) S128x128.size (k0_off18_inb k),
      piece (View.ld (rd arg7 X_arg7) (Rect.unit (s := S1x512x1024) (k0_off9 k) S1x128x128.size (k0_off9_inb k)))
        (kwin k0_off10 k0_off10_inb k (rd arg17 X_arg17)) (kwin k0_off10 k0_off10_inb k (rd arg18 X_arg18))
        (bfst i k (rd arg3 X_arg3) 8)
        (View.ld (rd arg4 X_arg4) (Rect.unit (s := S16x128x128) ![8, 0, 0] S1x128x128.size inb_S16x128x128_S1x128x128_8_0_0))
        (blast i k (rd arg5 X_arg5) 8)
        (View.ld (rd arg2 X_arg2) (Rect.unit (s := S16) ![8] S1.size inb_S16_S1_8) (Shape.Idx.first first_ok))
        (kwin k0_off12 k0_off12_inb k (rd arg17 X_arg17)) (kwin k0_off12 k0_off12_inb k (rd arg18 X_arg18))
        (bfst i k (rd arg3 X_arg3) 9)
        (View.ld (rd arg4 X_arg4) (Rect.unit (s := S16x128x128) ![9, 0, 0] S1x128x128.size inb_S16x128x128_S1x128x128_9_0_0))
        (blast i k (rd arg5 X_arg5) 9)
        (View.ld (rd arg2 X_arg2) (Rect.unit (s := S16) ![9] S1.size inb_S16_S1_9) (Shape.Idx.first first_ok))⟩,
      ⟨Rect.unit (s := S512x1024) (k0_off16 k) S128x128.size (k0_off16_inb k),
      piece (View.ld (rd arg7 X_arg7) (Rect.unit (s := S1x512x1024) (k0_off7 k) S1x128x128.size (k0_off7_inb k)))
        (kwin k0_off4 k0_off4_inb k (rd arg17 X_arg17)) (kwin k0_off4 k0_off4_inb k (rd arg18 X_arg18))
        (bfst i k (rd arg3 X_arg3) 6)
        (View.ld (rd arg4 X_arg4) (Rect.unit (s := S16x128x128) ![6, 0, 0] S1x128x128.size inb_S16x128x128_S1x128x128_6_0_0))
        (blast i k (rd arg5 X_arg5) 6)
        (View.ld (rd arg2 X_arg2) (Rect.unit (s := S16) ![6] S1.size inb_S16_S1_6) (Shape.Idx.first first_ok))
        (kwin k0_off2 k0_off2_inb k (rd arg17 X_arg17)) (kwin k0_off2 k0_off2_inb k (rd arg18 X_arg18))
        (bfst i k (rd arg3 X_arg3) 7)
        (View.ld (rd arg4 X_arg4) (Rect.unit (s := S16x128x128) ![7, 0, 0] S1x128x128.size inb_S16x128x128_S1x128x128_7_0_0))
        (blast i k (rd arg5 X_arg5) 7)
        (View.ld (rd arg2 X_arg2) (Rect.unit (s := S16) ![7] S1.size inb_S16_S1_7) (Shape.Idx.first first_ok))⟩,
      ⟨Rect.unit (s := S512x1024) (k0_off14 k) S128x128.size (k0_off14_inb k),
      piece (View.ld (rd arg7 X_arg7) (Rect.unit (s := S1x512x1024) (k0_off6 k) S1x128x128.size (k0_off6_inb k)))
        (kwin k0_off4 k0_off4_inb k (rd arg17 X_arg17)) (kwin k0_off4 k0_off4_inb k (rd arg18 X_arg18))
        (bfst i k (rd arg3 X_arg3) 4)
        (View.ld (rd arg4 X_arg4) (Rect.unit (s := S16x128x128) ![4, 0, 0] S1x128x128.size inb_S16x128x128_S1x128x128_4_0_0))
        (blast i k (rd arg5 X_arg5) 4)
        (View.ld (rd arg2 X_arg2) (Rect.unit (s := S16) ![4] S1.size inb_S16_S1_4) (Shape.Idx.first first_ok))
        (kwin k0_off2 k0_off2_inb k (rd arg17 X_arg17)) (kwin k0_off2 k0_off2_inb k (rd arg18 X_arg18))
        (bfst i k (rd arg3 X_arg3) 5)
        (View.ld (rd arg4 X_arg4) (Rect.unit (s := S16x128x128) ![5, 0, 0] S1x128x128.size inb_S16x128x128_S1x128x128_5_0_0))
        (blast i k (rd arg5 X_arg5) 5)
        (View.ld (rd arg2 X_arg2) (Rect.unit (s := S16) ![5] S1.size inb_S16_S1_5) (Shape.Idx.first first_ok))⟩,
      ⟨Rect.unit (s := S512x1024) (k0_off11 k) S128x128.size (k0_off11_inb k),
      piece (View.ld (rd arg7 X_arg7) (Rect.unit (s := S1x512x1024) (k0_off5 k) S1x128x128.size (k0_off5_inb k)))
        (kwin k0_off2 k0_off2_inb k (rd arg17 X_arg17)) (kwin k0_off2 k0_off2_inb k (rd arg18 X_arg18))
        (bfst i k (rd arg3 X_arg3) 2)
        (View.ld (rd arg4 X_arg4) (Rect.unit (s := S16x128x128) ![2, 0, 0] S1x128x128.size inb_S16x128x128_S1x128x128_2_0_0))
        (blast i k (rd arg5 X_arg5) 2)
        (View.ld (rd arg2 X_arg2) (Rect.unit (s := S16) ![2] S1.size inb_S16_S1_2) (Shape.Idx.first first_ok))
        (kwin k0_off4 k0_off4_inb k (rd arg17 X_arg17)) (kwin k0_off4 k0_off4_inb k (rd arg18 X_arg18))
        (bfst i k (rd arg3 X_arg3) 3)
        (View.ld (rd arg4 X_arg4) (Rect.unit (s := S16x128x128) ![3, 0, 0] S1x128x128.size inb_S16x128x128_S1x128x128_3_0_0))
        (blast i k (rd arg5 X_arg5) 3)
        (View.ld (rd arg2 X_arg2) (Rect.unit (s := S16) ![3] S1.size inb_S16_S1_3) (Shape.Idx.first first_ok))⟩,
      ⟨Rect.unit (s := S512x1024) (k0_off8 k) S128x128.size (k0_off8_inb k),
      piece (View.ld (rd arg7 X_arg7) (Rect.unit (s := S1x512x1024) (k0_off1 k) S1x128x128.size (k0_off1_inb k)))
        (kwin k0_off2 k0_off2_inb k (rd arg17 X_arg17)) (kwin k0_off2 k0_off2_inb k (rd arg18 X_arg18))
        (bfst i k (rd arg3 X_arg3) 0)
        (View.ld (rd arg4 X_arg4) (Rect.unit (s := S16x128x128) ![0, 0, 0] S1x128x128.size inb_S16x128x128_S1x128x128_0_0_0))
        (blast i k (rd arg5 X_arg5) 0)
        (View.ld (rd arg2 X_arg2) (Rect.unit (s := S16) ![0] S1.size inb_S16_S1_0) (Shape.Idx.first first_ok))
        (kwin k0_off4 k0_off4_inb k (rd arg17 X_arg17)) (kwin k0_off4 k0_off4_inb k (rd arg18 X_arg18))
        (bfst i k (rd arg3 X_arg3) 1)
        (View.ld (rd arg4 X_arg4) (Rect.unit (s := S16x128x128) ![1, 0, 0] S1x128x128.size inb_S16x128x128_S1x128x128_1_0_0))
        (blast i k (rd arg5 X_arg5) 1)
        (View.ld (rd arg2 X_arg2) (Rect.unit (s := S16) ![1] S1.size inb_S16_S1_1) (Shape.Idx.first first_ok))⟩] := by
  unfold tripL_k0_t1 trip_k0_t1
  dsimp only
  sl_unfold_words
  simp only [View.readAt_eq_ld]
  rfl

end Cert.KernelIdeal.Heads

end

end
-- ==== Proof.Oh.lean ====
/-
  The attention output of one grid point (512 queries of one sequence) before the output projection: what the scratch
  the body's loop fills holds when the loop is done.
-/
module

public import proofs.«01_k».proof.Proof.Trip
public import proofs.«01_k».proof.Proof.Gen.KernelIdeal.Value
public import Idealize.ShloMosaic.Lib.Pipeline.ValueKit

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

theorem trips_lt (k : Fin k0_t1_loop.trips) : k.val < 4 := Nat.lt_of_lt_of_le k.isLt k0_t1_abs.2.1

variable (m : (ℓ : Loc nD τ sig) → Buf (Elt Ideal) ℓ)

/-- The stores that pack the keys of the point's window. -/
def kL (c : Dev nD) (t : Fin cfg0.N) : List (View.Piece (Elt Ideal) S768x512 .bf16) :=
    [⟨Rect.unit (s := S768x512) ![640, 0] S128x512.size inb_S768x512_S128x512_640_0, k0_pay67 (iblk m c 8 t)⟩,
     ⟨Rect.unit (s := S768x512) ![128, 0] S512x512.size inb_S768x512_S512x512_128_0, k0_pay66 (iblk m c 7 t)⟩,
     ⟨Rect.unit (s := S768x512) ![0, 0] S128x512.size inb_S768x512_S128x512_0_0, k0_pay65 (iblk m c 6 t)⟩]

/-- The stores that pack the values of the point's window. -/
def vL (c : Dev nD) (t : Fin cfg0.N) : List (View.Piece (Elt Ideal) S768x512 .bf16) :=
    [⟨Rect.unit (s := S768x512) ![640, 0] S128x512.size inb_S768x512_S128x512_640_0, k0_pay1 (iblk m c 11 t)⟩,
     ⟨Rect.unit (s := S768x512) ![128, 0] S512x512.size inb_S768x512_S512x512_128_0, k0_pay69 (iblk m c 10 t)⟩,
     ⟨Rect.unit (s := S768x512) ![0, 0] S128x512.size inb_S768x512_S128x512_0_0, k0_pay68 (iblk m c 9 t)⟩]

abbrev kC (c : Dev nD) (t : Fin cfg0.N) :=
  (View.whole cc0_scratch0).writes (Elt Ideal) (View.whole cc0_scratch0).junk (kL m c t)

abbrev vC (c : Dev nD) (t : Fin cfg0.N) :=
  (View.whole cc0_scratch1).writes (Elt Ideal) (View.whole cc0_scratch1).junk (vL m c t)

/-- The packed keys of the point's window. -/
def kAll (c : Dev nD) (t : Fin cfg0.N) : Vec Ideal S768x512 .bf16 := View.canon (kL m c t)

/-- The packed values of the point's window. -/
def vAll (c : Dev nD) (t : Fin cfg0.N) : Vec Ideal S768x512 .bf16 := View.canon (vL m c t)

/-- The blocks stored by trip `k`. -/
def tl (c : Dev nD) (t : Fin cfg0.N) (k : Fin k0_t1_loop.trips) : List (View.Piece (Elt Ideal) S512x1024 .bf16) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (BitVec.ofNat 32 (grid0.coords t 1).val) ((hs0_0 t).unread (iblk m c 0 t)) ((hs0_1 t).unread (iblk m c 1 t)) ((hs0_2 t).unread (iblk m c 2 t)) ((hs0_3 t).unread (iblk m c 3 t)) ((hs0_5 t).unread (iblk m c 5 t)) (kC m c t) (vC m c t) k

/-- The blocks stored by the trips before `n`. -/
def pbl (c : Dev nD) (t : Fin cfg0.N) (n : ℕ) : List (View.Piece (Elt Ideal) S512x1024 .bf16) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (BitVec.ofNat 32 (grid0.coords t 1).val) ((hs0_0 t).unread (iblk m c 0 t)) ((hs0_1 t).unread (iblk m c 1 t)) ((hs0_2 t).unread (iblk m c 2 t)) ((hs0_3 t).unread (iblk m c 3 t)) ((hs0_5 t).unread (iblk m c 5 t)) (kC m c t) (vC m c t) n

theorem pbl_succ (c : Dev nD) (t : Fin cfg0.N) (k : Fin k0_t1_loop.trips) :
    pbl m c t (k.val + 1) = tl m c t k ++ pbl m c t k.val := pb_k0_t1_succ ..

/-- Head `h`'s output for query `a` of sub-block `k` of the point, at lane `l` of its pair. -/
def hv (c : Dev nD) (t : Fin cfg0.N) (k : Fin 4) (h : Fin 16) (a l : Fin 128) : EReal :=
  kHead (iblk m c 0 t) (iblk m c 1 t) (iblk m c 2 t) (iblk m c 3 t) (iblk m c 5 t) (kAll m c t) (vAll m c t)
    ((grid0.coords t 1).val = 0 ∧ k.val = 0) ((grid0.coords t 1).val = 31 ∧ k.val = 3) k h a l

/-- The array the loop leaves. -/
def oh (c : Dev nD) (t : Fin cfg0.N) : Vec Ideal S512x1024 .bf16 := fun j =>
  hv m c t ⟨(j 0).val / 128, by have : (j 0).val < 512 := (j 0).isLt; omega⟩
    ⟨(j 1).val / 64, by have : (j 1).val < 1024 := (j 1).isLt; omega⟩
    ⟨(j 0).val % 128, by omega⟩ ⟨(j 1).val % 128, by omega⟩

/-- A stored block agrees with the array if each of its halves is its head's output. -/
theorem put_val (c : Dev nD) (t : Fin cfg0.N) (k : Fin k0_t1_loop.trips) (p : Fin 8) (o : Fin 2 → ℕ)
    (ho : o = ![128 * k.val, 128 * p.val]) (inb) (w : S128x128.Idx → EReal)
    (hw : ∀ x : S128x128.Idx, w (ix2 (x 0) (x 1)) = hv m c t ⟨k.val, trips_lt k⟩
      (if (x 1).val < 64 then ⟨2 * p.val, by omega⟩ else ⟨2 * p.val + 1, by omega⟩) (x 0) (x 1))
    (x : S128x128.Idx) :
    w x = oh m c t ((Rect.unit (s := S512x1024) o S128x128.size inb).emb x) := by
  subst ho
  have hx : ix2 (x 0) (x 1) = x := (eq_ix2 x).symm
  refine (congrArg w hx).symm.trans ((hw x).trans ?_)
  have h0 : (x 0).val < 128 := (x 0).isLt
  have h1 : (x 1).val < 128 := (x 1).isLt
  have e0 : (((Rect.unit (s := S512x1024) ![128 * k.val, 128 * p.val] S128x128.size inb).emb x) 0 : ℕ)
      = 128 * k.val + (x 0).val := Rect.idx_unit_val _ _ inb x 0
  have e1 : (((Rect.unit (s := S512x1024) ![128 * k.val, 128 * p.val] S128x128.size inb).emb x) 1 : ℕ)
      = 128 * p.val + (x 1).val := Rect.idx_unit_val _ _ inb x 1
  generalize (Rect.unit (s := S512x1024) ![128 * k.val, 128 * p.val] S128x128.size inb).emb x = j at e0 e1
  have r0 : k.val = (j 0).val / 128 := by omega
  have r2 : (x 0).val = (j 0).val % 128 := by omega
  have r3 : (x 1).val = (j 1).val % 128 := by omega
  have r1 : (if (x 1).val < 64 then (⟨2 * p.val, by omega⟩ : Fin 16) else ⟨2 * p.val + 1, by omega⟩).val
      = (j 1).val / 64 := by split <;> dsimp only <;> omega
  unfold oh
  congr 1
  · exact Fin.ext r0
  · exact Fin.ext r1
  · exact Fin.ext r2
  · exact Fin.ext r3

theorem snk_ld (X : Vec Ideal S16 .f32) (h : Fin 16) (inb) :
    View.ld X (Rect.unit (s := S16) ![h.val] S1.size inb) (Shape.Idx.first first_ok) = X (ix1 h) :=
  View.ld_unit_apply_of X _ _ inb _ _ fun x => by
    fin_cases x
    exact (Nat.add_zero h.val).symm

theorem rd_whole {sp : Space} {s : Shape} {e : EltTy} (M : Memref sig .tc sp s e) (h : M.IsWhole) (v : Vec Ideal s e) : rd M (h.unread v) = v :=
  h.read_unread v

theorem rd_0 (c : Dev nD) (t : Fin cfg0.N) :
    (rd (F := Ideal) (ms0_0 t) ((hs0_0 t).unread (iblk m c 0 t)) : Vec Ideal S16 .f32) = iblk m c 0 t :=
  rd_whole ..

theorem rd_1 (c : Dev nD) (t : Fin cfg0.N) :
    (rd (F := Ideal) (ms0_1 t) ((hs0_1 t).unread (iblk m c 1 t)) : Vec Ideal S17x128x128 .f32) = iblk m c 1 t :=
  rd_whole ..

theorem rd_2 (c : Dev nD) (t : Fin cfg0.N) :
    (rd (F := Ideal) (ms0_2 t) ((hs0_2 t).unread (iblk m c 2 t)) : Vec Ideal S16x128x128 .f32) = iblk m c 2 t :=
  rd_whole ..

theorem rd_3 (c : Dev nD) (t : Fin cfg0.N) :
    (rd (F := Ideal) (ms0_3 t) ((hs0_3 t).unread (iblk m c 3 t)) : Vec Ideal S17x128x128 .f32) = iblk m c 3 t :=
  rd_whole ..

theorem rd_5 (c : Dev nD) (t : Fin cfg0.N) :
    (rd (F := Ideal) (ms0_5 t) ((hs0_5 t).unread (iblk m c 5 t)) : Vec Ideal S1x512x1024 .bf16) = iblk m c 5 t :=
  rd_whole ..

theorem rd_k (c : Dev nD) (t : Fin cfg0.N) : rd (F := Ideal) scM0_0 (kC m c t) = kAll m c t :=
  View.read_writes_junk_eq_canon ..

theorem rd_v (c : Dev nD) (t : Fin cfg0.N) : rd (F := Ideal) scM0_1 (vC m c t) = vAll m c t :=
  View.read_writes_junk_eq_canon ..

theorem tl_val (c : Dev nD) (t : Fin cfg0.N) (k : Fin k0_t1_loop.trips) :
    ∀ p ∈ tl m c t k, ∀ x : p.1.shape.Idx, p.2 x = oh m c t (p.1.emb x) := by
  intro p hp
  unfold tl at hp
  rw [trip_pieces] at hp
  rw [rd_0, rd_1, rd_2, rd_3, rd_5, rd_k, rd_v] at hp
  simp only [List.mem_cons, List.not_mem_nil, or_false] at hp
  rcases hp with h | h | h | h | h | h | h | h
  · obtain rfl := h
    refine put_val m c t k 7 _ (k0_off21_eq k) (k0_off21_inb k) _ fun x => ?_
    exact piece_pt _ _ _ _ _ _ _ (((grid0.coords t) 1).val = 0 ∧ k.val = 0) (((grid0.coords t) 1).val = 31 ∧ k.val = 3) ⟨k.val, trips_lt k⟩ 14 15 rfl rfl
      _ (k0_off17_eq k) (k0_off17_inb k) _ (k0_off12_eq k) (k0_off12_inb k) _ (k0_off12_eq k) (k0_off12_inb k)
      _ (off3_fst (grid0.coords t) k 14) (inb3 _ 14 _ (off3_fst (grid0.coords t) k 14)) _ rfl inb_S16x128x128_S1x128x128_14_0_0 _ (off3_last (grid0.coords t) k 14) (inb3 _ 14 _ (off3_last (grid0.coords t) k 14))
      _ (k0_off10_eq k) (k0_off10_inb k) _ (k0_off10_eq k) (k0_off10_inb k)
      _ (off3_fst (grid0.coords t) k 15) (inb3 _ 15 _ (off3_fst (grid0.coords t) k 15)) _ rfl inb_S16x128x128_S1x128x128_15_0_0 _ (off3_last (grid0.coords t) k 15) (inb3 _ 15 _ (off3_last (grid0.coords t) k 15))
      _ _ (snk_ld _ 14 inb_S16_S1_14) (snk_ld _ 15 inb_S16_S1_15) (x 0) (x 1)
  · obtain rfl := h
    refine put_val m c t k 6 _ (k0_off20_eq k) (k0_off20_inb k) _ fun x => ?_
    exact piece_pt _ _ _ _ _ _ _ (((grid0.coords t) 1).val = 0 ∧ k.val = 0) (((grid0.coords t) 1).val = 31 ∧ k.val = 3) ⟨k.val, trips_lt k⟩ 12 13 rfl rfl
      _ (k0_off15_eq k) (k0_off15_inb k) _ (k0_off12_eq k) (k0_off12_inb k) _ (k0_off12_eq k) (k0_off12_inb k)
      _ (off3_fst (grid0.coords t) k 12) (inb3 _ 12 _ (off3_fst (grid0.coords t) k 12)) _ rfl inb_S16x128x128_S1x128x128_12_0_0 _ (off3_last (grid0.coords t) k 12) (inb3 _ 12 _ (off3_last (grid0.coords t) k 12))
      _ (k0_off10_eq k) (k0_off10_inb k) _ (k0_off10_eq k) (k0_off10_inb k)
      _ (off3_fst (grid0.coords t) k 13) (inb3 _ 13 _ (off3_fst (grid0.coords t) k 13)) _ rfl inb_S16x128x128_S1x128x128_13_0_0 _ (off3_last (grid0.coords t) k 13) (inb3 _ 13 _ (off3_last (grid0.coords t) k 13))
      _ _ (snk_ld _ 12 inb_S16_S1_12) (snk_ld _ 13 inb_S16_S1_13) (x 0) (x 1)
  · obtain rfl := h
    refine put_val m c t k 5 _ (k0_off19_eq k) (k0_off19_inb k) _ fun x => ?_
    exact piece_pt _ _ _ _ _ _ _ (((grid0.coords t) 1).val = 0 ∧ k.val = 0) (((grid0.coords t) 1).val = 31 ∧ k.val = 3) ⟨k.val, trips_lt k⟩ 10 11 rfl rfl
      _ (k0_off13_eq k) (k0_off13_inb k) _ (k0_off10_eq k) (k0_off10_inb k) _ (k0_off10_eq k) (k0_off10_inb k)
      _ (off3_fst (grid0.coords t) k 10) (inb3 _ 10 _ (off3_fst (grid0.coords t) k 10)) _ rfl inb_S16x128x128_S1x128x128_10_0_0 _ (off3_last (grid0.coords t) k 10) (inb3 _ 10 _ (off3_last (grid0.coords t) k 10))
      _ (k0_off12_eq k) (k0_off12_inb k) _ (k0_off12_eq k) (k0_off12_inb k)
      _ (off3_fst (grid0.coords t) k 11) (inb3 _ 11 _ (off3_fst (grid0.coords t) k 11)) _ rfl inb_S16x128x128_S1x128x128_11_0_0 _ (off3_last (grid0.coords t) k 11) (inb3 _ 11 _ (off3_last (grid0.coords t) k 11))
      _ _ (snk_ld _ 10 inb_S16_S1_10) (snk_ld _ 11 inb_S16_S1_11) (x 0) (x 1)
  · obtain rfl := h
    refine put_val m c t k 4 _ (k0_off18_eq k) (k0_off18_inb k) _ fun x => ?_
    exact piece_pt _ _ _ _ _ _ _ (((grid0.coords t) 1).val = 0 ∧ k.val = 0) (((grid0.coords t) 1).val = 31 ∧ k.val = 3) ⟨k.val, trips_lt k⟩ 8 9 rfl rfl
      _ (k0_off9_eq k) (k0_off9_inb k) _ (k0_off10_eq k) (k0_off10_inb k) _ (k0_off10_eq k) (k0_off10_inb k)
      _ (off3_fst (grid0.coords t) k 8) (inb3 _ 8 _ (off3_fst (grid0.coords t) k 8)) _ rfl inb_S16x128x128_S1x128x128_8_0_0 _ (off3_last (grid0.coords t) k 8) (inb3 _ 8 _ (off3_last (grid0.coords t) k 8))
      _ (k0_off12_eq k) (k0_off12_inb k) _ (k0_off12_eq k) (k0_off12_inb k)
      _ (off3_fst (grid0.coords t) k 9) (inb3 _ 9 _ (off3_fst (grid0.coords t) k 9)) _ rfl inb_S16x128x128_S1x128x128_9_0_0 _ (off3_last (grid0.coords t) k 9) (inb3 _ 9 _ (off3_last (grid0.coords t) k 9))
      _ _ (snk_ld _ 8 inb_S16_S1_8) (snk_ld _ 9 inb_S16_S1_9) (x 0) (x 1)
  · obtain rfl := h
    refine put_val m c t k 3 _ (k0_off16_eq k) (k0_off16_inb k) _ fun x => ?_
    exact piece_pt _ _ _ _ _ _ _ (((grid0.coords t) 1).val = 0 ∧ k.val = 0) (((grid0.coords t) 1).val = 31 ∧ k.val = 3) ⟨k.val, trips_lt k⟩ 6 7 rfl rfl
      _ (k0_off7_eq k) (k0_off7_inb k) _ (k0_off4_eq k) (k0_off4_inb k) _ (k0_off4_eq k) (k0_off4_inb k)
      _ (off3_fst (grid0.coords t) k 6) (inb3 _ 6 _ (off3_fst (grid0.coords t) k 6)) _ rfl inb_S16x128x128_S1x128x128_6_0_0 _ (off3_last (grid0.coords t) k 6) (inb3 _ 6 _ (off3_last (grid0.coords t) k 6))
      _ (k0_off2_eq k) (k0_off2_inb k) _ (k0_off2_eq k) (k0_off2_inb k)
      _ (off3_fst (grid0.coords t) k 7) (inb3 _ 7 _ (off3_fst (grid0.coords t) k 7)) _ rfl inb_S16x128x128_S1x128x128_7_0_0 _ (off3_last (grid0.coords t) k 7) (inb3 _ 7 _ (off3_last (grid0.coords t) k 7))
      _ _ (snk_ld _ 6 inb_S16_S1_6) (snk_ld _ 7 inb_S16_S1_7) (x 0) (x 1)
  · obtain rfl := h
    refine put_val m c t k 2 _ (k0_off14_eq k) (k0_off14_inb k) _ fun x => ?_
    exact piece_pt _ _ _ _ _ _ _ (((grid0.coords t) 1).val = 0 ∧ k.val = 0) (((grid0.coords t) 1).val = 31 ∧ k.val = 3) ⟨k.val, trips_lt k⟩ 4 5 rfl rfl
      _ (k0_off6_eq k) (k0_off6_inb k) _ (k0_off4_eq k) (k0_off4_inb k) _ (k0_off4_eq k) (k0_off4_inb k)
      _ (off3_fst (grid0.coords t) k 4) (inb3 _ 4 _ (off3_fst (grid0.coords t) k 4)) _ rfl inb_S16x128x128_S1x128x128_4_0_0 _ (off3_last (grid0.coords t) k 4) (inb3 _ 4 _ (off3_last (grid0.coords t) k 4))
      _ (k0_off2_eq k) (k0_off2_inb k) _ (k0_off2_eq k) (k0_off2_inb k)
      _ (off3_fst (grid0.coords t) k 5) (inb3 _ 5 _ (off3_fst (grid0.coords t) k 5)) _ rfl inb_S16x128x128_S1x128x128_5_0_0 _ (off3_last (grid0.coords t) k 5) (inb3 _ 5 _ (off3_last (grid0.coords t) k 5))
      _ _ (snk_ld _ 4 inb_S16_S1_4) (snk_ld _ 5 inb_S16_S1_5) (x 0) (x 1)
  · obtain rfl := h
    refine put_val m c t k 1 _ (k0_off11_eq k) (k0_off11_inb k) _ fun x => ?_
    exact piece_pt _ _ _ _ _ _ _ (((grid0.coords t) 1).val = 0 ∧ k.val = 0) (((grid0.coords t) 1).val = 31 ∧ k.val = 3) ⟨k.val, trips_lt k⟩ 2 3 rfl rfl
      _ (k0_off5_eq k) (k0_off5_inb k) _ (k0_off2_eq k) (k0_off2_inb k) _ (k0_off2_eq k) (k0_off2_inb k)
      _ (off3_fst (grid0.coords t) k 2) (inb3 _ 2 _ (off3_fst (grid0.coords t) k 2)) _ rfl inb_S16x128x128_S1x128x128_2_0_0 _ (off3_last (grid0.coords t) k 2) (inb3 _ 2 _ (off3_last (grid0.coords t) k 2))
      _ (k0_off4_eq k) (k0_off4_inb k) _ (k0_off4_eq k) (k0_off4_inb k)
      _ (off3_fst (grid0.coords t) k 3) (inb3 _ 3 _ (off3_fst (grid0.coords t) k 3)) _ rfl inb_S16x128x128_S1x128x128_3_0_0 _ (off3_last (grid0.coords t) k 3) (inb3 _ 3 _ (off3_last (grid0.coords t) k 3))
      _ _ (snk_ld _ 2 inb_S16_S1_2) (snk_ld _ 3 inb_S16_S1_3) (x 0) (x 1)
  · obtain rfl := h
    refine put_val m c t k 0 _ (k0_off8_eq k) (k0_off8_inb k) _ fun x => ?_
    exact piece_pt _ _ _ _ _ _ _ (((grid0.coords t) 1).val = 0 ∧ k.val = 0) (((grid0.coords t) 1).val = 31 ∧ k.val = 3) ⟨k.val, trips_lt k⟩ 0 1 rfl rfl
      _ (k0_off1_eq k) (k0_off1_inb k) _ (k0_off2_eq k) (k0_off2_inb k) _ (k0_off2_eq k) (k0_off2_inb k)
      _ (off3_fst (grid0.coords t) k 0) (inb3 _ 0 _ (off3_fst (grid0.coords t) k 0)) _ rfl inb_S16x128x128_S1x128x128_0_0_0 _ (off3_last (grid0.coords t) k 0) (inb3 _ 0 _ (off3_last (grid0.coords t) k 0))
      _ (k0_off4_eq k) (k0_off4_inb k) _ (k0_off4_eq k) (k0_off4_inb k)
      _ (off3_fst (grid0.coords t) k 1) (inb3 _ 1 _ (off3_fst (grid0.coords t) k 1)) _ rfl inb_S16x128x128_S1x128x128_1_0_0 _ (off3_last (grid0.coords t) k 1) (inb3 _ 1 _ (off3_last (grid0.coords t) k 1))
      _ _ (snk_ld _ 0 inb_S16_S1_0) (snk_ld _ 1 inb_S16_S1_1) (x 0) (x 1)

theorem pbl_val (c : Dev nD) (t : Fin cfg0.N) : ∀ n, n ≤ k0_t1_loop.trips →
    ∀ p ∈ pbl m c t n, ∀ x : p.1.shape.Idx, p.2 x = oh m c t (p.1.emb x)
  | 0, _ => fun p hp => absurd hp (by
      show p ∉ ([] : List _)
      exact List.not_mem_nil)
  | n + 1, h => fun p hp x => by
      rw [pbl_succ m c t ⟨n, h⟩] at hp
      rcases List.mem_append.mp hp with hp | hp
      · exact tl_val m c t _ p hp x
      · exact pbl_val c t n (by omega) p hp x

theorem in_tile {a b : ℕ} (o : Fin 2 → ℕ) (ho : o = ![a, b]) (inb) (j : S512x1024.Idx)
    (h0 : a ≤ (j 0).val ∧ (j 0).val < a + 128) (h1 : b ≤ (j 1).val ∧ (j 1).val < b + 128) :
    j ∈ (Rect.unit (s := S512x1024) o S128x128.size inb).set := by
  subst ho
  refine Rect.mem_set_unit.mpr fun x => ?_
  fin_cases x
  · exact h0
  · exact h1

theorem tl_cover (c : Dev nD) (t : Fin cfg0.N) (k : Fin k0_t1_loop.trips) (p : Fin 8) (j : S512x1024.Idx)
    (h0 : 128 * k.val ≤ (j 0).val ∧ (j 0).val < 128 * k.val + 128)
    (h1 : 128 * p.val ≤ (j 1).val ∧ (j 1).val < 128 * p.val + 128) : ∃ q ∈ tl m c t k, j ∈ q.1.set := by
  unfold tl
  rw [trip_pieces]
  exact match p, h1 with
  | ⟨0, _⟩, h1 => ⟨_, (List.Mem.tail _ (List.Mem.tail _ (List.Mem.tail _ (List.Mem.tail _ (List.Mem.tail _ (List.Mem.tail _ (List.Mem.tail _ (List.Mem.head _)))))))), in_tile _ (k0_off8_eq k) (k0_off8_inb k) j h0 h1⟩
  | ⟨1, _⟩, h1 => ⟨_, (List.Mem.tail _ (List.Mem.tail _ (List.Mem.tail _ (List.Mem.tail _ (List.Mem.tail _ (List.Mem.tail _ (List.Mem.head _))))))), in_tile _ (k0_off11_eq k) (k0_off11_inb k) j h0 h1⟩
  | ⟨2, _⟩, h1 => ⟨_, (List.Mem.tail _ (List.Mem.tail _ (List.Mem.tail _ (List.Mem.tail _ (List.Mem.tail _ (List.Mem.head _)))))), in_tile _ (k0_off14_eq k) (k0_off14_inb k) j h0 h1⟩
  | ⟨3, _⟩, h1 => ⟨_, (List.Mem.tail _ (List.Mem.tail _ (List.Mem.tail _ (List.Mem.tail _ (List.Mem.head _))))), in_tile _ (k0_off16_eq k) (k0_off16_inb k) j h0 h1⟩
  | ⟨4, _⟩, h1 => ⟨_, (List.Mem.tail _ (List.Mem.tail _ (List.Mem.tail _ (List.Mem.head _)))), in_tile _ (k0_off18_eq k) (k0_off18_inb k) j h0 h1⟩
  | ⟨5, _⟩, h1 => ⟨_, (List.Mem.tail _ (List.Mem.tail _ (List.Mem.head _))), in_tile _ (k0_off19_eq k) (k0_off19_inb k) j h0 h1⟩
  | ⟨6, _⟩, h1 => ⟨_, (List.Mem.tail _ (List.Mem.head _)), in_tile _ (k0_off20_eq k) (k0_off20_inb k) j h0 h1⟩
  | ⟨7, _⟩, h1 => ⟨_, (List.Mem.head _), in_tile _ (k0_off21_eq k) (k0_off21_inb k) j h0 h1⟩

theorem pbl_mem (c : Dev nD) (t : Fin cfg0.N) (k : Fin k0_t1_loop.trips) : ∀ n, k.val < n → n ≤ k0_t1_loop.trips →
    ∀ p ∈ tl m c t k, p ∈ pbl m c t n
  | n + 1, h, hn => fun p hp => by
      rw [pbl_succ m c t ⟨n, hn⟩]
      rcases Nat.lt_succ_iff_lt_or_eq.mp h with h' | h'
      · exact List.mem_append_right _ (pbl_mem c t k n h' (by omega) p hp)
      · exact List.mem_append_left _ (by
          have : (⟨n, hn⟩ : Fin k0_t1_loop.trips) = k := Fin.ext h'.symm
          rw [this]; exact hp)

theorem pbl_canon (c : Dev nD) (t : Fin cfg0.N) : View.canon (pbl m c t k0_t1_loop.trips) = oh m c t := by
  funext j
  have h0 : (j 0).val < 512 := (j 0).isLt
  have h1 : (j 1).val < 1024 := (j 1).isLt
  have hk : (j 0).val / 128 < k0_t1_loop.trips := lt_of_lt_of_le (by omega) (by decide +kernel : 4 ≤ k0_t1_loop.trips)
  obtain ⟨q, hq, hj⟩ := tl_cover m c t ⟨(j 0).val / 128, hk⟩ ⟨(j 1).val / 128, by omega⟩ j
    (by dsimp only; omega) (by dsimp only; omega)
  refine View.canon_eq_of_allAt _ j _ ⟨q, pbl_mem m c t _ _ hk le_rfl q hq, hj⟩ fun p hp x hx => ?_
  rw [pbl_val m c t _ le_rfl p hp x, hx]

end Cert.KernelIdeal.Heads

end

end
-- ==== Proof.Block.lean ====
/-
  What one grid point writes back: the residual plus the gate times the projected attention output.
-/
module

public import proofs.«01_k».proof.Proof.Oh
public import Idealize.ShloMosaic.Lib.Pipeline.ReadBack

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

variable (m : (ℓ : Loc nD τ sig) → Buf (Elt Ideal) ℓ)

theorem idx2 {n o : ℕ} (x : (⟨2, ![n, o]⟩ : Shape).Idx) (a : Fin n) (b : Fin o) (h0 : (x 0).val = a.val)
    (h1 : (x 1).val = b.val) : x = ix2 a b :=
  funext fun d => by
    fin_cases d
    · exact Fin.ext h0
    · exact Fin.ext h1

theorem whole_idx {s : Shape} (off : Fin s.rank → ℕ) (ho : ∀ a, off a = 0) (inb) (j : s.Idx) :
    (Rect.unit (s := s) off s.size inb).idx j = j :=
  funext fun a => Fin.ext (by
    rw [Rect.idx_unit_val off s.size inb j a, ho, Nat.zero_add])

theorem loop_count : Scf.trips 0#32 (Scalar.addi 0#32 4#32) 1#32 = k0_t1_loop.trips := rfl

theorem oh_read (c : Dev nD) (t : Fin cfg0.N) (inb) :
    (View.whole cc0_scratch2).readCov (Val := Elt Ideal) (pbl m c t k0_t1_loop.trips)
      (Rect.unit (s := S512x1024) ![0, 0] S512x1024.size inb).toLoadRect = oh m c t := by
  rw [View.readCov_eq_canon', pbl_canon]
  funext j
  exact congrArg (oh m c t) (whole_idx _ (fun a => by fin_cases a <;> rfl) inb j)

/-- The block as one expression of the point's input blocks. -/
theorem out_block (c : Dev nD) (t : Fin cfg0.N) :
    outsAt0 m c t = k0_pay4 (F := Ideal) (oh m c t) (iblk m c 13 t) (iblk m c 4 t)
      (View.ld (iblk m c 12 t : Vec Ideal S1x3x1024 .f32)
        (Rect.unit (s := S1x3x1024) ![0, 2, 0] S1x1x1024.size inb_S1x3x1024_S1x1x1024_0_2_0)) := by
  rw [← oh_read m c t inb_S512x1024_S512x1024_0_0]
  unfold outsAt0
  frame_open
  frame_out
  rfl

theorem pay4_pt (o : Vec Ideal S512x1024 .bf16) (w : Vec Ideal S1024x1024 .bf16) (x : Vec Ideal S1x512x1024 .f32)
    (g : Vec Ideal S1x3x1024 .f32) (inb) (r : Fin 512) (l : Fin 1024) :
    k0_pay4 (F := Ideal) o w x (View.ld g (Rect.unit (s := S1x3x1024) ![0, 2, 0] S1x1x1024.size inb)) (ix3 0 r l)
      = x (ix3 0 r l) + g (ix3 0 2 l) * ∑ d : Fin 1024, o (ix2 r d) * w (ix2 d l) := by
  have e : View.ld g (Rect.unit (s := S1x3x1024) ![0, 2, 0] S1x1x1024.size inb) (ix3 0 0 l) = g (ix3 0 2 l) :=
    ld3 g _ _ 0 0 l 0 2 l rfl rfl (Nat.zero_add _).symm
  pointwise [k0_pay4]

theorem in_rows {n o : ℕ} (inb : ∀ a, (![o, 0] : Fin 2 → ℕ) a + (![n, 512] : Fin 2 → ℕ) a ≤ S768x512.size a)
    (w : Fin 768) (l : Fin 512) (h : o ≤ w.val ∧ w.val < o + n) :
    ix2 w l ∈ (Rect.unit (s := S768x512) ![o, 0] ![n, 512] inb).set := by
  refine Rect.mem_set_unit.mpr fun a => ?_
  have hl : l.val < 0 + 512 := by have := l.isLt; omega
  fin_cases a
  · exact h
  · exact ⟨Nat.zero_le _, hl⟩

/-- Three stores one under the other, read back at an index. -/
theorem stack_pt (A : S128x512.Idx → EReal) (B : S512x512.Idx → EReal) (C : S128x512.Idx → EReal) (i0 i1 i2)
    (w : Fin 768) (l : Fin 512) :
    View.canon (Val := Elt Ideal) (e := .bf16) [⟨Rect.unit (s := S768x512) ![640, 0] S128x512.size i2, C⟩,
      ⟨Rect.unit (s := S768x512) ![128, 0] S512x512.size i1, B⟩,
      ⟨Rect.unit (s := S768x512) ![0, 0] S128x512.size i0, A⟩] (ix2 w l) =
      if h : w.val < 128 then A (ix2 ⟨w.val, h⟩ l)
      else if h' : w.val < 640 then B (ix2 ⟨w.val - 128, by omega⟩ l)
      else C (ix2 ⟨w.val - 640, by omega⟩ l) := by
  have hl := l.isLt
  have hw := w.isLt
  have key : ∀ {n o : ℕ} (inb : ∀ a, (![o, 0] : Fin 2 → ℕ) a + (![n, 512] : Fin 2 → ℕ) a ≤ S768x512.size a)
      (x : (⟨2, ![n, 512]⟩ : Shape).Idx),
      (Rect.unit (s := S768x512) ![o, 0] ![n, 512] inb).emb x = ix2 w l →
      w.val = o + (x 0).val ∧ (x 1).val = l.val := by
    intro n o inb x hx
    have e0 := congrArg Fin.val (congrFun hx 0)
    have e1 := congrArg Fin.val (congrFun hx 1)
    have f0 : ((Rect.unit (s := S768x512) ![o, 0] ![n, 512] inb).emb x 0 : ℕ) = o + (x 0).val := Rect.idx_unit_val (s := S768x512) ![o, 0] ![n, 512] inb x 0
    have f1 : ((Rect.unit (s := S768x512) ![o, 0] ![n, 512] inb).emb x 1 : ℕ) = 0 + (x 1).val := Rect.idx_unit_val (s := S768x512) ![o, 0] ![n, 512] inb x 1
    exact ⟨e0.symm.trans f0, by rw [Nat.zero_add] at f1; exact f1.symm.trans e1⟩
  refine View.canon_eq_of_allAt _ _ _ ?_ ?_
  · by_cases h : w.val < 128
    · exact ⟨_, List.Mem.tail _ (List.Mem.tail _ (List.Mem.head _)), in_rows i0 w l ⟨by omega, by omega⟩⟩
    · by_cases h' : w.val < 640
      · exact ⟨_, List.Mem.tail _ (List.Mem.head _), in_rows i1 w l ⟨by omega, by omega⟩⟩
      · exact ⟨_, List.Mem.head _, in_rows i2 w l ⟨by omega, by omega⟩⟩
  · intro p hp
    simp only [List.mem_cons, List.not_mem_nil, or_false] at hp
    rcases hp with rfl | rfl | rfl
    · intro x hx
      obtain ⟨h0, h1⟩ := key i2 x hx
      have hx0 : (x 0).val < 128 := (x 0).isLt
      rw [dif_neg (by omega), dif_neg (by omega)]
      exact congrArg C (idx2 x _ _ (by show (x 0).val = w.val - 640; omega) h1)
    · intro x hx
      obtain ⟨h0, h1⟩ := key i1 x hx
      have hx0 : (x 0).val < 512 := (x 0).isLt
      rw [dif_neg (by omega), dif_pos (by omega)]
      exact congrArg B (idx2 x _ _ (by show (x 0).val = w.val - 128; omega) h1)
    · intro x hx
      obtain ⟨h0, h1⟩ := key i0 x hx
      have hx0 : (x 0).val < 128 := (x 0).isLt
      rw [dif_pos (by omega)]
      exact congrArg A (idx2 x _ _ (by show (x 0).val = w.val; omega) h1)

/-- The packed keys at an index. -/
theorem kAll_pt (c : Dev nD) (t : Fin cfg0.N) (w : Fin 768) (l : Fin 512) :
    kAll m c t (ix2 w l) =
      if h : w.val < 128 then (iblk m c 6 t : Vec Ideal S1x128x512 .bf16) (ix3 0 ⟨w.val, h⟩ l)
      else if h' : w.val < 640 then (iblk m c 7 t : Vec Ideal S1x512x512 .bf16) (ix3 0 ⟨w.val - 128, by omega⟩ l)
      else (iblk m c 8 t : Vec Ideal S1x128x512 .bf16) (ix3 0 ⟨w.val - 640, by omega⟩ l) := by
  unfold kAll kL
  rw [stack_pt]
  split
  · pointwise [k0_pay65]
  · split
    · pointwise [k0_pay66]
    · pointwise [k0_pay67]

/-- The packed values at an index. -/
theorem vAll_pt (c : Dev nD) (t : Fin cfg0.N) (w : Fin 768) (l : Fin 512) :
    vAll m c t (ix2 w l) =
      if h : w.val < 128 then (iblk m c 9 t : Vec Ideal S1x128x512 .bf16) (ix3 0 ⟨w.val, h⟩ l)
      else if h' : w.val < 640 then (iblk m c 10 t : Vec Ideal S1x512x512 .bf16) (ix3 0 ⟨w.val - 128, by omega⟩ l)
      else (iblk m c 11 t : Vec Ideal S1x128x512 .bf16) (ix3 0 ⟨w.val - 640, by omega⟩ l) := by
  unfold vAll vL
  rw [stack_pt]
  split
  · pointwise [k0_pay68]
  · split
    · pointwise [k0_pay69]
    · pointwise [k0_pay1]

end Cert.KernelIdeal.Heads

end

end
-- ==== Proof.Host.lean ====
/-
  The arrays the host prepares for the kernel, at an index: scaled queries, keys and values with their copies, and the
  three tables of the distance penalty.
-/
module

public import proofs.«01_k».proof.Proof.Block
public import Idealize.ShloMosaic.Lib.StableHlo.ReadAt

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

variable (m : (ℓ : Loc nD τ sig) → Buf (Elt Ideal) ℓ)

abbrev aX (c : Dev nD) : FVec Ideal S2x16384x1024 .f32 := m ((c.tc : Thread nD τ).loc main_arg0)
abbrev aQ (c : Dev nD) : FVec Ideal S2x16384x1024 .f32 := m ((c.tc : Thread nD τ).loc main_arg1)
abbrev aK (c : Dev nD) : FVec Ideal S2x16384x256 .f32 := m ((c.tc : Thread nD τ).loc main_arg2)
abbrev aV (c : Dev nD) : FVec Ideal S2x16384x256 .f32 := m ((c.tc : Thread nD τ).loc main_arg3)
abbrev aM (c : Dev nD) : FVec Ideal S2x3x1024 .f32 := m ((c.tc : Thread nD τ).loc main_arg4)
abbrev aS (c : Dev nD) : FVec Ideal S16 .f32 := m ((c.tc : Thread nD τ).loc main_arg5)
abbrev aW (c : Dev nD) : FVec Ideal S1024x1024 .f32 := m ((c.tc : Thread nD τ).loc main_arg6)

/-- Keys (or values) beside copies of their two column tiles, the halves of each tile swapped. -/
def packT (T : FVec Ideal S2x16384x256 .f32) : FVec Ideal S2x16384x512 .bf16 :=
  truncf .bf16 (concatenate S2x16384x512 2 [⟨S2x16384x256, T⟩,
    ⟨S2x16384x128, concatenate S2x16384x128 2
      [⟨S2x16384x64, extractStridedSlice S2x16384x64 ![0, 0, 64]
        (extractStridedSlice S2x16384x128 ![0, 0, 0] T slices_S2x16384x256_S2x16384x128_0_0_0)
        slices_S2x16384x128_S2x16384x64_0_0_64⟩,
       ⟨S2x16384x64, extractStridedSlice S2x16384x64 ![0, 0, 0]
        (extractStridedSlice S2x16384x128 ![0, 0, 0] T slices_S2x16384x256_S2x16384x128_0_0_0)
        slices_S2x16384x128_S2x16384x64_0_0_0⟩] concatenates_S2x16384x64_S2x16384x64_S2x16384x128_d2⟩,
    ⟨S2x16384x128, concatenate S2x16384x128 2
      [⟨S2x16384x64, extractStridedSlice S2x16384x64 ![0, 0, 64]
        (extractStridedSlice S2x16384x128 ![0, 0, 128] T slices_S2x16384x256_S2x16384x128_0_0_128)
        slices_S2x16384x128_S2x16384x64_0_0_64⟩,
       ⟨S2x16384x64, extractStridedSlice S2x16384x64 ![0, 0, 0]
        (extractStridedSlice S2x16384x128 ![0, 0, 128] T slices_S2x16384x256_S2x16384x128_0_0_128)
        slices_S2x16384x128_S2x16384x64_0_0_0⟩] concatenates_S2x16384x64_S2x16384x64_S2x16384x128_d2⟩]
    concatenates_S2x16384x256_S2x16384x128_S2x16384x128_S2x16384x512_d2) bitsLt_bf16_f32

/-- The distance of row `a` of a block from position `s` of its band. -/
def distT : IVec S1x128x384 32 :=
  absi (subi (subi (iotaInDim S1x128x384 32 2) (broadcastInDim S1x128x384 ![] bcast_S_S1x128x384 (constantI S_ 32 128#32)))
    (iotaInDim S1x128x384 32 1))

/-- The penalty of a head over a block's band, `−∞` outside the window. -/
def biasT : FVec Ideal S16x128x384 .f32 :=
  select (broadcastInDim S16x128x384 ![0, 1, 2] bcast_S1x128x384_S16x128x384_0_1_2
      (cmpi .sle distT (broadcastInDim S1x128x384 ![] bcast_S_S1x128x384 (constantI S_ 32 128#32))))
    (Host.divf (mulf
        (broadcastInDim S16x128x384 ![0, 1, 2] bcast_S16x1x1_S16x128x384_0_1_2
          (Host.negf (shapeCast S16x1x1 (fun i => FloatOps.ofBits .f32 (lit0 (S16.rowMajor i)) : FVec Ideal S16 .f32) shapeCasts_S16_S16x1x1)))
        (broadcastInDim S16x128x384 ![0, 1, 2] bcast_S1x128x384_S16x128x384_0_1_2 (sitofp .f32 distT)))
      (broadcastInDim S16x128x384 ![] bcast_S_S16x128x384 (Host.log (constant S_ .f32 0x40000000#32))))
    (broadcastInDim S16x128x384 ![] bcast_S_S16x128x384 (constant S_ .f32 0xFF800000#32))

/-- A slab of `−∞` after the sixteen heads. -/
def withNone (x : FVec Ideal S16x128x128 .f32) : FVec Ideal S17x128x128 .f32 :=
  concatenate S17x128x128 0 [⟨S16x128x128, x⟩,
    ⟨S1x128x128, broadcastInDim S1x128x128 ![] bcast_S_S1x128x128 (constant S_ .f32 0xFF800000#32)⟩]
    concatenates_S16x128x128_S1x128x128_S17x128x128_d0

theorem host_w (c : Dev nD) : (V m c main_v17 : FVec Ideal S1024x1024 .bf16) = truncf .bf16 (aW m c) bitsLt_bf16_f32 := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_simp

theorem host_q (c : Dev nD) : (V m c main_v4 : FVec Ideal S2x16384x1024 .bf16) =
    truncf .bf16 (mulf (aQ m c) (broadcastInDim S2x16384x1024 ![] bcast_S_S2x16384x1024
      (Host.divf (constant S_ .f32 0x3E000000#32) (Host.log (constant S_ .f32 0x40000000#32))))) bitsLt_bf16_f32 := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_simp

theorem host_k (c : Dev nD) : (V m c main_v10 : FVec Ideal S2x16384x512 .bf16) = packT (aK m c) := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results
  rfl

theorem host_v (c : Dev nD) : (V m c main_v16 : FVec Ideal S2x16384x512 .bf16) = packT (aV m c) := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results
  rfl

theorem host_b1 (c : Dev nD) : (V m c main_v38 : FVec Ideal S16x128x128 .f32) =
    extractStridedSlice S16x128x128 ![0, 0, 128] biasT slices_S16x128x384_S16x128x128_0_0_128 := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_reads_simp
  rfl

theorem host_b0 (c : Dev nD) : (V m c main_v37 : FVec Ideal S17x128x128 .f32) =
    withNone (extractStridedSlice S16x128x128 ![0, 0, 0] biasT slices_S16x128x384_S16x128x128_0_0_0) := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results
  rfl

theorem host_b2 (c : Dev nD) : (V m c main_v40 : FVec Ideal S17x128x128 .f32) =
    withNone (extractStridedSlice S16x128x128 ![0, 0, 256] biasT slices_S16x128x384_S16x128x128_0_0_256) := by
  unfold V
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results
  rfl

end Cert.KernelIdeal.Heads

end

end
-- ==== Proof.Soft.lean ====
/-
  A softmax over powers of two, its scores and its sink multiplied by `1 / log 2`, is the softmax over powers of `e`.
-/
module

public import proofs.«01_k».proof.Proof.Heads

@[expose] public section

noncomputable section

namespace Cert.KernelIdeal.Heads

open Idealize.ShloMosaic

/-- The softmax of the scores `s` with the sink `z`, over powers of `e`, applied to the values `v`. -/
def softE {n : ℕ} (s : Fin n → EReal) (z : EReal) (v : Fin n → EReal) : EReal :=
  Ideal.div (∑ x, v x * Ideal.exp (s x - max (Finset.univ.fold max ⊥ s) z))
    (∑ x, Ideal.exp (s x - max (Finset.univ.fold max ⊥ s) z) + Ideal.exp (z - max (Finset.univ.fold max ⊥ s) z))

/-- The factor `1 / log 2`. -/
def lg : EReal := (((Real.log 2)⁻¹ : ℝ) : EReal)

theorem log2_pos : 0 < Real.log 2 := Real.log_pos (by norm_num)

theorem lg_pos : 0 < lg := EReal.coe_pos.mpr (inv_pos.mpr log2_pos)

theorem lg_ne_top : lg ≠ ⊤ := EReal.coe_ne_top _

theorem exp2_lg (x : EReal) : Ideal.exp2 (lg * x) = Ideal.exp x := by
  induction x with
  | bot => rw [EReal.mul_bot_of_pos lg_pos]; rfl
  | top => rw [EReal.mul_top_of_pos lg_pos]; rfl
  | coe r =>
    rw [lg, ← EReal.coe_mul]
    show ((Real.rpow 2 ((Real.log 2)⁻¹ * r) : ℝ) : EReal) = ((Real.exp r : ℝ) : EReal)
    rw [show Real.rpow 2 ((Real.log 2)⁻¹ * r) = (2 : ℝ) ^ ((Real.log 2)⁻¹ * r) from rfl,
      Real.rpow_def_of_pos (by norm_num : (0 : ℝ) < 2), ← mul_assoc, mul_inv_cancel₀ log2_pos.ne', one_mul]

/-- A positive real factor goes into a sum of two. -/
theorem coe_mul_add {c : ℝ} (hc : 0 ≤ c) (x y : EReal) : (c : EReal) * (x + y) = c * x + c * y :=
  EReal.left_distrib_of_nonneg_of_ne_top (EReal.coe_nonneg.mpr hc) (EReal.coe_ne_top c) x y

/-- A positive real factor goes into a sum. -/
theorem coe_mul_sum {ι : Type*} {c : ℝ} (hc : 0 ≤ c) (t : Finset ι) (f : ι → EReal) :
    (c : EReal) * ∑ x ∈ t, f x = ∑ x ∈ t, (c : EReal) * f x := by
  classical
  induction t using Finset.induction_on with
  | empty => simp
  | insert a t ha ih => rw [Finset.sum_insert ha, Finset.sum_insert ha, coe_mul_add hc, ih]

theorem lg_sub (x y : EReal) : lg * x - lg * y = lg * (x - y) := by
  rw [sub_eq_add_neg, sub_eq_add_neg, lg, coe_mul_add (inv_nonneg.mpr log2_pos.le), mul_neg]

theorem lg_max (x y : EReal) : max (lg * x) (lg * y) = lg * max x y :=
  ((monotone_mul_left_of_nonneg lg_pos.le).map_max).symm

theorem lg_fold {n : ℕ} (s : Fin n → EReal) :
    Finset.univ.fold max ⊥ (fun x => lg * s x) = lg * Finset.univ.fold max ⊥ s := by
  rw [← Finset.fold_hom (op := max) (op' := max) (m := fun x => lg * x) (fun x y => (lg_max x y).symm),
    EReal.mul_bot_of_pos lg_pos]

theorem exp_bot_sub (x : EReal) : Ideal.exp (⊥ - x) = 0 := by
  rw [sub_eq_add_neg, EReal.bot_add]; rfl

/-- The softmax over powers of two of scaled scores is the softmax over powers of `e`; the values matter only where
    the score is not `−∞`. -/
theorem soft2_eq {n : ℕ} (s : Fin n → EReal) (z : EReal) (v v' : Fin n → EReal) (hv : ∀ x, s x ≠ ⊥ → v x = v' x) :
    soft2 (fun x => lg * s x) (lg * z) v = softE s z v' := by
  have e : max (Finset.univ.fold max ⊥ fun x => lg * s x) (lg * z) = lg * max (Finset.univ.fold max ⊥ s) z := by
    rw [lg_fold, lg_max]
  unfold soft2 softE
  simp only [e, lg_sub, exp2_lg]
  congr 1
  refine Finset.sum_congr rfl fun x _ => ?_
  by_cases h : s x = ⊥
  · rw [h, exp_bot_sub, zero_mul, mul_zero]
  · rw [hv x h, mul_comm]

end Cert.KernelIdeal.Heads

end

end
-- ==== Proof.HostPt.lean ====
/-
  The arrays the host prepares, at an index, and the blocks of them a grid point reads.
-/
module

public import proofs.«01_k».proof.Proof.Host
public import proofs.«01_k».proof.Proof.Soft

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

theorem pack_raw (T : FVec Ideal S2x16384x256 .f32) (b : Fin 2) (r : Fin 16384) (x : Fin 512) :
    packT T (ix3 b r x) =
      if h : x.val < 256 then T (ix3 b r ⟨x.val, h⟩)
      else if h : x.val - 256 < 128 then
        if h' : x.val - 256 < 64 then T (ix3 b r ⟨64 + (x.val - 256), by omega⟩)
        else T (ix3 b r ⟨x.val - 256 - 64, by omega⟩)
      else if h' : x.val - 256 - 128 < 64 then T (ix3 b r ⟨128 + (64 + (x.val - 256 - 128)), by omega⟩)
      else T (ix3 b r ⟨128 + (x.val - 256 - 128 - 64), by omega⟩) := by
  pointwise [packT]

/-- In the half of its columns that head `h` uses, the packed array holds the columns of the head's group. -/
theorem pack_pt (T : FVec Ideal S2x16384x256 .f32) (b : Fin 2) (r : Fin 16384) (h : Fin 16) (x : Fin 128)
    (hx : x.val < 64 ↔ h.val % 2 = 0) (y : Fin 512) (hy : y.val = hcol h + x.val) (z : Fin 256)
    (hz : z.val = 64 * (h.val / 4) + x.val % 64) : packT T (ix3 b r y) = T (ix3 b r z) := by
  have hh := h.isLt
  have hxx := x.isLt
  have key : ∀ w : Fin 256, w.val = z.val → T (ix3 b r w) = T (ix3 b r z) := fun w e => by rw [Fin.ext e]
  rw [pack_raw]
  unfold hcol at hy
  by_cases e : h.val / 4 % 2 = h.val % 2
  · rw [if_pos e] at hy
    rw [dif_pos (by omega)]
    exact key _ (by simp only; omega)
  · rw [if_neg e] at hy
    rw [dif_neg (by omega)]
    split_ifs <;> exact key _ (by simp only; omega)

/-- The distance, as the word both programs compute. -/
def dw (a : Fin 128) (s : Fin 384) : BitVec 32 :=
  IntOp.absi (IntOp.subi (IntOp.subi (BitVec.ofNat 32 s.val) 128#32) (BitVec.ofNat 32 a.val))

/-- Minus the slope of head `h`. -/
def slope (h : Fin 16) : EReal := -Ideal.ofBits FTy.f32 (lit0 (S16.rowMajor (ix1 h)))

theorem two_bits : Ideal.ofBits FTy.f32 1073741824#32 = ((2 : ℝ) : EReal) := by
  simp [Ideal.ofBits, Ideal.ieee]; norm_cast; norm_num

theorem eighth_bits : Ideal.ofBits FTy.f32 1040187392#32 = ((8⁻¹ : ℝ) : EReal) := by
  simp [Ideal.ofBits, Ideal.ieee]; norm_cast; norm_num

theorem log_two : Ideal.log (Ideal.ofBits FTy.f32 1073741824#32) = ((Real.log 2 : ℝ) : EReal) := by
  rw [two_bits]
  show (if (2 : ℝ) ≤ 0 then (⊥ : EReal) else ((Real.log 2 : ℝ) : EReal)) = _
  rw [if_neg (by norm_num)]

theorem div_log (x : EReal) : Ideal.div x (Ideal.log (Ideal.ofBits FTy.f32 1073741824#32)) = lg * x := by
  rw [log_two]
  unfold Ideal.div
  rw [if_neg (EReal.coe_ne_zero.mpr log2_pos.ne'), mul_comm, lg, EReal.coe_inv]

theorem bias_pt (h : Fin 16) (a : Fin 128) (s : Fin 384) : biasT (ix3 h a s) =
    Scalar.select (IntOp.cmpi CmpIPredicate.sle (dw a s) 128#32)
      (lg * (slope h * FloatOps.sitofp (F := Ideal) .f32 (dw a s))) ⊥ := by
  rw [← div_log, ← negInf]
  unfold slope dw
  pointwise [biasT, distT]

theorem none_pt (x : FVec Ideal S16x128x128 .f32) (h : Fin 17) (a s : Fin 128) : withNone x (ix3 h a s) =
    if h' : h.val < 16 then x (ix3 ⟨h.val, h'⟩ a s) else ⊥ := by
  rw [← negInf]
  pointwise [withNone]

variable (m : (ℓ : Loc nD τ sig) → Buf (Elt Ideal) ℓ)

theorem q_pt (c : Dev nD) (b : Fin 2) (r : Fin 16384) (l : Fin 1024) :
    (V m c main_v4 : FVec Ideal S2x16384x1024 .bf16) (ix3 b r l) = aQ m c (ix3 b r l) * (lg * ((8⁻¹ : ℝ) : EReal)) := by
  rw [host_q, ← eighth_bits, ← div_log]
  pointwise []

theorem w_pt (c : Dev nD) (d l : Fin 1024) :
    (V m c main_v17 : FVec Ideal S1024x1024 .bf16) (ix2 d l) = aW m c (ix2 d l) := by
  rw [host_w]
  pointwise []

theorem b0_pt (c : Dev nD) (h : Fin 17) (a s : Fin 128) :
    (V m c main_v37 : FVec Ideal S17x128x128 .f32) (ix3 h a s) =
      if h' : h.val < 16 then biasT (ix3 ⟨h.val, h'⟩ a ⟨s.val, by omega⟩) else ⊥ := by
  rw [host_b0, none_pt]
  split
  · pointwise []
  · rfl

theorem b1_pt (c : Dev nD) (h : Fin 16) (a s : Fin 128) :
    (V m c main_v38 : FVec Ideal S16x128x128 .f32) (ix3 h a s) = biasT (ix3 h a ⟨128 + s.val, by omega⟩) := by
  rw [host_b1]
  pointwise []

theorem b2_pt (c : Dev nD) (h : Fin 17) (a s : Fin 128) :
    (V m c main_v40 : FVec Ideal S17x128x128 .f32) (ix3 h a s) =
      if h' : h.val < 16 then biasT (ix3 ⟨h.val, h'⟩ a ⟨256 + s.val, by omega⟩) else ⊥ := by
  rw [host_b2, none_pt]
  split
  · pointwise []
  · rfl

end Cert.KernelIdeal.Heads

end

end
-- ==== Proof.Win.lean ====
/-
  Which part of each host array a grid point's blocks are, and where its result block lies.
-/
module

public import proofs.«01_k».proof.Proof.HostPt

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The batch of a grid point. -/
abbrev bq (t : Fin cfg0.N) : Fin 2 := grid0.coords t 0
/-- The place of a grid point in its sequence, in blocks of 512 rows. -/
abbrev iq (t : Fin cfg0.N) : Fin 32 := grid0.coords t 1

theorem idx : ∀ t : Fin cfg0.N,
    win0_0.index t = ![0] ∧ win0_1.index t = ![0, 0, 0] ∧ win0_2.index t = ![0, 0, 0] ∧ win0_3.index t = ![0, 0, 0] ∧
    win0_4.index t = ![(grid0.coords t 0).val, (grid0.coords t 1).val, 0] ∧
    win0_5.index t = ![(grid0.coords t 0).val, (grid0.coords t 1).val, 0] ∧
    win0_6.index t = ![(grid0.coords t 0).val, 4 * (grid0.coords t 1).val - 1, 0] ∧
    win0_7.index t = ![(grid0.coords t 0).val, (grid0.coords t 1).val, 0] ∧
    win0_8.index t = ![(grid0.coords t 0).val, min (4 * (grid0.coords t 1).val + 4) 127, 0] ∧
    win0_9.index t = ![(grid0.coords t 0).val, 4 * (grid0.coords t 1).val - 1, 0] ∧
    win0_10.index t = ![(grid0.coords t 0).val, (grid0.coords t 1).val, 0] ∧
    win0_11.index t = ![(grid0.coords t 0).val, min (4 * (grid0.coords t 1).val + 4) 127, 0] ∧
    win0_12.index t = ![(grid0.coords t 0).val, 0, 0] ∧ win0_13.index t = ![0, 0] ∧
    win0_14.index t = ![(grid0.coords t 0).val, (grid0.coords t 1).val, 0] :=
  (by decide +kernel : ∀ t : Fin grid0.N, _)

theorem blk0 (c : Dev nD) (t : Fin cfg0.N) (h : Fin 16) :
    (iblk m c 0 t : Vec Ideal S16 .f32) (ix1 h) = aS m c (ix1 h) := by
  unfold aS
  rw [← V_main_arg5 m c]
  blk_ext [iblk, idx t]

theorem blk1 (c : Dev nD) (t : Fin cfg0.N) (h : Fin 17) (a s : Fin 128) :
    (iblk m c 1 t : Vec Ideal S17x128x128 .f32) (ix3 h a s) = (V m c main_v37 : FVec Ideal S17x128x128 .f32) (ix3 h a s) := by
  blk_ext [iblk, idx t]

theorem blk2 (c : Dev nD) (t : Fin cfg0.N) (h : Fin 16) (a s : Fin 128) :
    (iblk m c 2 t : Vec Ideal S16x128x128 .f32) (ix3 h a s) = (V m c main_v38 : FVec Ideal S16x128x128 .f32) (ix3 h a s) := by
  blk_ext [iblk, idx t]

theorem blk3 (c : Dev nD) (t : Fin cfg0.N) (h : Fin 17) (a s : Fin 128) :
    (iblk m c 3 t : Vec Ideal S17x128x128 .f32) (ix3 h a s) = (V m c main_v40 : FVec Ideal S17x128x128 .f32) (ix3 h a s) := by
  blk_ext [iblk, idx t]

theorem blk4 (c : Dev nD) (t : Fin cfg0.N) (r : Fin 512) (l : Fin 1024) :
    (iblk m c 4 t : Vec Ideal S1x512x1024 .f32) (ix3 0 r l) = aX m c (ix3 (bq t) ⟨(iq t).val * 512 + r.val, by omega⟩ l) := by
  unfold aX
  rw [← V_main_arg0 m c]
  blk_ext [iblk, idx t] <;> exact Nat.add_zero _

theorem blk5 (c : Dev nD) (t : Fin cfg0.N) (r : Fin 512) (l : Fin 1024) :
    (iblk m c 5 t : Vec Ideal S1x512x1024 .bf16) (ix3 0 r l) =
      (V m c main_v4 : FVec Ideal S2x16384x1024 .bf16) (ix3 (bq t) ⟨(iq t).val * 512 + r.val, by omega⟩ l) := by
  blk_ext [iblk, idx t] <;> exact Nat.add_zero _

theorem blk6 (c : Dev nD) (t : Fin cfg0.N) (r : Fin 128) (l : Fin 512) :
    (iblk m c 6 t : Vec Ideal S1x128x512 .bf16) (ix3 0 r l) =
      (V m c main_v10 : FVec Ideal S2x16384x512 .bf16) (ix3 (bq t) ⟨(4 * (iq t).val - 1) * 128 + r.val, by omega⟩ l) := by
  blk_ext [iblk, idx t] <;> exact Nat.add_zero _

theorem blk7 (c : Dev nD) (t : Fin cfg0.N) (r : Fin 512) (l : Fin 512) :
    (iblk m c 7 t : Vec Ideal S1x512x512 .bf16) (ix3 0 r l) =
      (V m c main_v10 : FVec Ideal S2x16384x512 .bf16) (ix3 (bq t) ⟨(iq t).val * 512 + r.val, by omega⟩ l) := by
  blk_ext [iblk, idx t] <;> exact Nat.add_zero _

theorem blk8 (c : Dev nD) (t : Fin cfg0.N) (r : Fin 128) (l : Fin 512) :
    (iblk m c 8 t : Vec Ideal S1x128x512 .bf16) (ix3 0 r l) =
      (V m c main_v10 : FVec Ideal S2x16384x512 .bf16) (ix3 (bq t) ⟨min (4 * (iq t).val + 4) 127 * 128 + r.val, by omega⟩ l) := by
  blk_ext [iblk, idx t] <;> exact Nat.add_zero _

theorem blk9 (c : Dev nD) (t : Fin cfg0.N) (r : Fin 128) (l : Fin 512) :
    (iblk m c 9 t : Vec Ideal S1x128x512 .bf16) (ix3 0 r l) =
      (V m c main_v16 : FVec Ideal S2x16384x512 .bf16) (ix3 (bq t) ⟨(4 * (iq t).val - 1) * 128 + r.val, by omega⟩ l) := by
  blk_ext [iblk, idx t] <;> exact Nat.add_zero _

theorem blk10 (c : Dev nD) (t : Fin cfg0.N) (r : Fin 512) (l : Fin 512) :
    (iblk m c 10 t : Vec Ideal S1x512x512 .bf16) (ix3 0 r l) =
      (V m c main_v16 : FVec Ideal S2x16384x512 .bf16) (ix3 (bq t) ⟨(iq t).val * 512 + r.val, by omega⟩ l) := by
  blk_ext [iblk, idx t] <;> exact Nat.add_zero _

theorem blk11 (c : Dev nD) (t : Fin cfg0.N) (r : Fin 128) (l : Fin 512) :
    (iblk m c 11 t : Vec Ideal S1x128x512 .bf16) (ix3 0 r l) =
      (V m c main_v16 : FVec Ideal S2x16384x512 .bf16) (ix3 (bq t) ⟨min (4 * (iq t).val + 4) 127 * 128 + r.val, by omega⟩ l) := by
  blk_ext [iblk, idx t] <;> exact Nat.add_zero _

theorem blk12 (c : Dev nD) (t : Fin cfg0.N) (l : Fin 1024) :
    (iblk m c 12 t : Vec Ideal S1x3x1024 .f32) (ix3 0 2 l) = aM m c (ix3 (bq t) 2 l) := by
  unfold aM
  rw [← V_main_arg4 m c]
  blk_ext [iblk, idx t] <;> exact Nat.add_zero _

theorem blk13 (c : Dev nD) (t : Fin cfg0.N) (d l : Fin 1024) :
    (iblk m c 13 t : Vec Ideal S1024x1024 .bf16) (ix2 d l) = (V m c main_v17 : FVec Ideal S1024x1024 .bf16) (ix2 d l) := by
  blk_ext [iblk, idx t]

/-- The result's block at a grid point: row `r` of the block is row `512 i + r` of the sequence. -/
theorem emb14 (t : Fin cfg0.N) (y : S1x512x1024.Idx) :
    (((cfg0.win 14).blk t).view.emb y : S2x16384x1024.Idx) =
      ix3 (bq t) ⟨(iq t).val * 512 + (y 1).val, by have : (y 1).val < 512 := (y 1).isLt; have := (iq t).isLt; omega⟩ (y 2) := by
  blk_ext [idx t]

end Cert.KernelIdeal.Heads

end

end
-- ==== Proof.Stage.lean ====
/-
  The reference composes one long term.  Here its steps get names — the band of keys (or values) each block of queries
  sees, the distance, the mask, the score, the maximum, the weights, their sum and the normalised output — each a
  function of the arrays it reads, and the result is their composition.
-/
module

public import proofs.«01_k».proof.Proof.Gen.ReferenceIdeal.Run
public import Idealize.ShloMosaic.Lib.Pointwise
public import Idealize.ShloMosaic.PureOps.Ideal
public import Idealize.ShloMosaic.Lib.Pipeline.ValueKit

@[expose] public section

set_option maxRecDepth 16384

noncomputable section

namespace Cert.ReferenceIdeal.Stage

open Idealize.ShloMosaic Idealize.ShloMosaic.TcCoe Idealize.ShloMosaic.StableHlo
open Idealize.SL Idealize.SL.Sem
open Cert.ReferenceIdeal Cert.ReferenceIdeal.Gen Cert.ReferenceIdeal.Value

/-- A sequence in blocks of 128 rows and heads of 64 lanes, a block of zeros before it and one after. -/
def padT (T : FVec Ideal S2x16384x256 .f32) : FVec Ideal S2x130x128x4x64 .f32 :=
  (shapeCast S2x130x128x4x64 (pad S2x16640x4x64 ![0, 128, 0, 0] ![0, 128, 0, 0] ![0, 0, 0, 0] (shapeCast _ T shapeCasts_S2x16384x256_S2x16384x4x64) (sitofp (F := Ideal) .f32 (constantI S_ 32 0#32)) pads_S2x16384x4x64_S2x16640x4x64_000_1281280_000_000 h_S_) shapeCasts_S2x16640x4x64_S2x130x128x4x64)

/-- The three neighbouring blocks of 128 rows that block `n` sees, zeros outside the sequence. -/
def band (T : FVec Ideal S2x16384x256 .f32) : FVec Ideal S2x128x384x4x64 .f32 :=
  ((concatenate S2x128x384x4x64 2 [⟨S2x128x128x4x64, ((extractStridedSlice S2x128x128x4x64 ![0, 0, 0, 0, 0] (padT T) slices_S2x130x128x4x64_S2x128x128x4x64_0_0_0_0_0) : (⟨S2x128x128x4x64, .f32⟩ : BufTy).Contents (Elt Ideal))⟩, ⟨S2x128x128x4x64, ((extractStridedSlice S2x128x128x4x64 ![0, 1, 0, 0, 0] (padT T) slices_S2x130x128x4x64_S2x128x128x4x64_0_1_0_0_0) : (⟨S2x128x128x4x64, .f32⟩ : BufTy).Contents (Elt Ideal))⟩, ⟨S2x128x128x4x64, ((extractStridedSlice S2x128x128x4x64 ![0, 2, 0, 0, 0] (padT T) slices_S2x130x128x4x64_S2x128x128x4x64_0_2_0_0_0) : (⟨S2x128x128x4x64, .f32⟩ : BufTy).Contents (Elt Ideal))⟩] concatenates_S2x128x128x4x64_S2x128x128x4x64_S2x128x128x4x64_S2x128x384x4x64_d2 : (⟨S2x128x384x4x64, .f32⟩ : BufTy).Contents (Elt Ideal)))

/-- The distance of row `a` of a block from position `s` of its band. -/
def dist : IVec S128x384 32 :=
  (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0)))))

/-- Which positions of the band a row sees. -/
def valid : IVec S128x128x384 1 :=
  (andi (andi (broadcastInDim S128x128x384 ![0, 1, 2] bcast_S1x128x384_S128x128x384_0_1_2 (cmpi .sle (broadcastInDim S1x128x384 ![1, 2] bcast_S128x384_S1x128x384_1_2 dist) (broadcastInDim S1x128x384 ![] bcast_S_S1x128x384 (constantI S_ 32 128#32)))) (broadcastInDim S128x128x384 ![0, 1, 2] bcast_S128x1x384_S128x128x384_0_1_2 (cmpi .sge (addi (broadcastInDim S128x1x384 ![0, 1, 2] bcast_S128x1x1_S128x1x384_0_1_2 (muli (subi (broadcastInDim S128x1x1 ![0] bcast_S128_S128x1x1_0 (iotaInDim S128 32 0)) (broadcastInDim S128x1x1 ![] bcast_S_S128x1x1 (constantI S_ 32 1#32))) (broadcastInDim S128x1x1 ![] bcast_S_S128x1x1 (constantI S_ 32 128#32)))) (broadcastInDim S128x1x384 ![0, 1, 2] bcast_S1x1x384_S128x1x384_0_1_2 (broadcastInDim S1x1x384 ![1, 2] bcast_S1x384_S1x1x384_1_2 (broadcastInDim S1x384 ![1] bcast_S384_S1x384_1 (iotaInDim S384 32 0))))) (broadcastInDim S128x1x384 ![] bcast_S_S128x1x384 (constantI S_ 32 0#32))))) (broadcastInDim S128x128x384 ![0, 1, 2] bcast_S128x1x384_S128x128x384_0_1_2 (cmpi .slt (addi (broadcastInDim S128x1x384 ![0, 1, 2] bcast_S128x1x1_S128x1x384_0_1_2 (muli (subi (broadcastInDim S128x1x1 ![0] bcast_S128_S128x1x1_0 (iotaInDim S128 32 0)) (broadcastInDim S128x1x1 ![] bcast_S_S128x1x1 (constantI S_ 32 1#32))) (broadcastInDim S128x1x1 ![] bcast_S_S128x1x1 (constantI S_ 32 128#32)))) (broadcastInDim S128x1x384 ![0, 1, 2] bcast_S1x1x384_S128x1x384_0_1_2 (broadcastInDim S1x1x384 ![1, 2] bcast_S1x384_S1x1x384_1_2 (broadcastInDim S1x384 ![1] bcast_S384_S1x384_1 (iotaInDim S384 32 0))))) (broadcastInDim S128x1x384 ![] bcast_S_S128x1x384 (constantI S_ 32 16384#32)))))

/-- The bias of a head: minus its slope times the distance. -/
def bias : FVec Ideal S4x4x128x384 .f32 :=
  (mulf (broadcastInDim S4x4x128x384 ![0, 1, 2, 3] bcast_S4x4x1x1_S4x4x128x384_0_1_2_3 (Host.negf (broadcastInDim S4x4x1x1 ![0, 1] bcast_S4x4_S4x4x1x1_0_1 (shapeCast _ ((fun i => FloatOps.ofBits .f32 (lit0 (S16.rowMajor i)))) shapeCasts_S16_S4x4)))) (broadcastInDim S4x4x128x384 ![0, 1, 2, 3] bcast_S1x1x128x384_S4x4x128x384_0_1_2_3 (broadcastInDim S1x1x128x384 ![2, 3] bcast_S128x384_S1x1x128x384_2_3 (sitofp .f32 dist))))

/-- The masked scores. -/
def score (A1 : FVec Ideal S2x16384x1024 .f32) (A2 : FVec Ideal S2x16384x256 .f32) : FVec Ideal S2x128x4x4x128x384 .f32 :=
  (select (broadcastInDim S2x128x4x4x128x384 ![0, 1, 2, 3, 4, 5] bcast_S1x128x1x1x128x384_S2x128x4x4x128x384_0_1_2_3_4_5 (broadcastInDim S1x128x1x1x128x384 ![1, 4, 5] bcast_S128x128x384_S1x128x1x1x128x384_1_4_5 valid)) (addf (mulf (transpose S2x128x4x4x128x384 [0, 1, 2, 5, 4, 3] (Host.dotGeneral dot_S2x128x384x4x64_S2x128x128x4x4x64_S2x128x4x384x128x4_4_5_2_24_013_013 none (band A2) (shapeCast _ A1 shapeCasts_S2x16384x1024_S2x128x128x4x4x64)) transposes_S2x128x4x384x128x4_S2x128x4x4x128x384_0_1_2_5_4_3) (broadcastInDim S2x128x4x4x128x384 ![] bcast_S_S2x128x4x4x128x384 (constant S_ .f32 0x3E000000#32))) (broadcastInDim S2x128x4x4x128x384 ![0, 1, 2, 3, 4, 5] bcast_S1x1x4x4x128x384_S2x128x4x4x128x384_0_1_2_3_4_5 (broadcastInDim S1x1x4x4x128x384 ![2, 3, 4, 5] bcast_S4x4x128x384_S1x1x4x4x128x384_2_3_4_5 bias))) (broadcastInDim S2x128x4x4x128x384 ![] bcast_S_S2x128x4x4x128x384 (id (constant S_ .f32 0xFF800000#32))))

/-- The largest score of a row. -/
def rmax (A1 : FVec Ideal S2x16384x1024 .f32) (A2 : FVec Ideal S2x16384x256 .f32) : FVec Ideal S2x128x4x4x128 .f32 :=
  Host.reduce FloatOps.maximumf (score A1 A2) (constant S_ .f32 0xFF800000#32) reducesTo_S2x128x4x4x128x384_S2x128x4x4x128_d5 h_S_

/-- The largest of the scores and the sink. -/
def top (A1 : FVec Ideal S2x16384x1024 .f32) (A2 : FVec Ideal S2x16384x256 .f32) (A5 : FVec Ideal S16 .f32) : FVec Ideal S2x128x4x4x128 .f32 :=
  (maximumf (rmax A1 A2) (broadcastInDim S2x128x4x4x128 ![0, 1, 2, 3, 4] bcast_S1x1x4x4x1_S2x128x4x4x128_0_1_2_3_4 (broadcastInDim S1x1x4x4x1 ![2, 3] bcast_S4x4_S1x1x4x4x1_2_3 (shapeCast _ A5 shapeCasts_S16_S4x4))))

/-- The weights. -/
def wts (A1 : FVec Ideal S2x16384x1024 .f32) (A2 : FVec Ideal S2x16384x256 .f32) (A5 : FVec Ideal S16 .f32) : FVec Ideal S2x128x4x4x128x384 .f32 :=
  (Host.exp (subf (score A1 A2) (broadcastInDim S2x128x4x4x128x384 ![0, 1, 2, 3, 4, 5] bcast_S2x128x4x4x128x1_S2x128x4x4x128x384_0_1_2_3_4_5 (broadcastInDim S2x128x4x4x128x1 ![0, 1, 2, 3, 4] bcast_S2x128x4x4x128_S2x128x4x4x128x1_0_1_2_3_4 (top A1 A2 A5)))))

/-- The sum of a row's weights. -/
def rsum (A1 : FVec Ideal S2x16384x1024 .f32) (A2 : FVec Ideal S2x16384x256 .f32) (A5 : FVec Ideal S16 .f32) :
    FVec Ideal S2x128x4x4x128 .f32 :=
  Host.reduceAdd (wts A1 A2 A5) (constant S_ .f32 0x00000000#32) reducesTo_S2x128x4x4x128x384_S2x128x4x4x128_d5 h_S_

/-- The sum of the weights and the sink. -/
def den (A1 : FVec Ideal S2x16384x1024 .f32) (A2 : FVec Ideal S2x16384x256 .f32) (A5 : FVec Ideal S16 .f32) : FVec Ideal S2x128x4x4x128 .f32 :=
  (addf (rsum A1 A2 A5) (Host.exp (subf (broadcastInDim S2x128x4x4x128 ![0, 1, 2, 3, 4] bcast_S1x1x4x4x1_S2x128x4x4x128_0_1_2_3_4 (broadcastInDim S1x1x4x4x1 ![2, 3] bcast_S4x4_S1x1x4x4x1_2_3 (shapeCast _ A5 shapeCasts_S16_S4x4))) (top A1 A2 A5))))

/-- The normalised output, heads side by side. -/
def attnOut (A1 : FVec Ideal S2x16384x1024 .f32) (A2 A3 : FVec Ideal S2x16384x256 .f32) (A5 : FVec Ideal S16 .f32) : FVec Ideal S2x16384x1024 .f32 :=
  (shapeCast _ (Host.divf (transpose S2x128x128x4x4x64 [0, 1, 5, 2, 4, 3] (Host.dotGeneral dot_S2x128x384x4x64_S2x128x4x4x128x384_S2x128x4x64x4x128_2_5_4_34_013_012 none (band A3) (wts A1 A2 A5)) transposes_S2x128x4x64x4x128_S2x128x128x4x4x64_0_1_5_2_4_3) (broadcastInDim S2x128x128x4x4x64 ![0, 1, 2, 3, 4, 5] bcast_S2x128x128x4x4x1_S2x128x128x4x4x64_0_1_2_3_4_5 (broadcastInDim S2x128x128x4x4x1 ![0, 1, 2, 3, 4] bcast_S2x128x128x4x4_S2x128x128x4x4x1_0_1_2_3_4 (transpose S2x128x128x4x4 [0, 1, 4, 2, 3] (den A1 A2 A5) transposes_S2x128x4x4x128_S2x128x128x4x4_0_1_4_2_3)))) shapeCasts_S2x128x128x4x4x64_S2x16384x1024)

/-- The result. -/
def res (A0 A1 : FVec Ideal S2x16384x1024 .f32) (A2 A3 : FVec Ideal S2x16384x256 .f32)
    (A4 : FVec Ideal S2x3x1024 .f32) (A5 : FVec Ideal S16 .f32) (A6 : FVec Ideal S1024x1024 .f32) : FVec Ideal S2x16384x1024 .f32 :=
  addf A0 (mulf (broadcastInDim S2x16384x1024 ![0, 1, 2] bcast_S2x1x1024_S2x16384x1024_0_1_2 (broadcastInDim S2x1x1024 ![0, 2] bcast_S2x1024_S2x1x1024_0_2 (shapeCast _ (extractStridedSlice S2x1x1024 ![0, 2, 0] A4 slices_S2x3x1024_S2x1x1024_0_2_0) shapeCasts_S2x1x1024_S2x1024))) (Host.dotGeneral dot_S2x16384x1024_S1024x1024_S2x16384x1024_2_0_01_1_n_n none (attnOut A1 A2 A3 A5) A6))

/-- The composed result is the composition of the stages. -/
theorem res_eq (m : (ℓ : Loc nD τ sig) → Buf (Elt Ideal) ℓ) (c : Dev nD) :
    Cert.ReferenceIdeal.Value.res_main_v92 m c
      = res (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := rfl

end Cert.ReferenceIdeal.Stage

end

end
-- ==== Proof.Red.lean ====
/-
  The two reductions of the reference over the positions of a band, at an index.
-/
module

public import proofs.«01_k».proof.Proof.Stage

@[expose] public section

set_option maxRecDepth 16384

noncomputable section

namespace Cert.ReferenceIdeal.Stage

open Idealize.ShloMosaic Idealize.ShloMosaic.TcCoe Idealize.ShloMosaic.StableHlo
open Idealize.SL Idealize.SL.Sem
open Cert.ReferenceIdeal Cert.ReferenceIdeal.Gen Cert.ReferenceIdeal.Value

theorem red5 : S2x128x4x4x128x384.Reduces [5] S2x128x4x4x128 := by decide

theorem lift_ix (b : Fin 2) (n : Fin 128) (g i : Fin 4) (a : Fin 128) (s : Fin 384) :
    red5.lift (ix5 b n g i a) s = ix6 b n g i a s := by
  funext x
  fin_cases x <;> rfl

theorem redMax (x : FVec Ideal S2x128x4x4x128x384 .f32) (init : FVec Ideal S_ .f32)
    (hi : init (Shape.Idx.first h_S_) = ⊥) (b : Fin 2) (n : Fin 128) (g i : Fin 4) (a : Fin 128) :
    Host.reduce FloatOps.maximumf x init reducesTo_S2x128x4x4x128x384_S2x128x4x4x128_d5 h_S_
      (ix5 b n g i a) = (Finset.univ : Finset (Fin 384)).fold max ⊥ (fun s => x (ix6 b n g i a s)) :=
  (Host.reduce_eq_fold_single max x init reducesTo_S2x128x4x4x128x384_S2x128x4x4x128_d5 red5 h_S_
    (ix5 b n g i a)).trans
    (congrArg₂ (fun u v => (Finset.univ : Finset (Fin 384)).fold max u v) hi (funext fun s => congrArg x (lift_ix b n g i a s)))

theorem redSum (x : FVec Ideal S2x128x4x4x128x384 .f32) (b : Fin 2) (n : Fin 128) (g i : Fin 4) (a : Fin 128) :
    Host.reduceAdd x (constant S_ .f32 0x00000000#32) reducesTo_S2x128x4x4x128x384_S2x128x4x4x128_d5 h_S_
      (ix5 b n g i a) = ∑ s : Fin 384, x (ix6 b n g i a s) := by
  show Ideal.hostReduceAdd reducesTo_S2x128x4x4x128x384_S2x128x4x4x128_d5 x (Ideal.ofBits .f32 0#32) (ix5 b n g i a) = _
  rw [Ideal.hostReduceAdd_single reducesTo_S2x128x4x4x128x384_S2x128x4x4x128_d5 red5, Ideal.ofBits_zero, zero_add]
  exact Finset.sum_congr rfl fun s _ => congrArg x (lift_ix b n g i a s)

end Cert.ReferenceIdeal.Stage

end

end
-- ==== Proof.StagePt.lean ====
/-
  The reference's stages at an index.
-/
module

public import proofs.«01_k».proof.Proof.Red

@[expose] public section

set_option maxRecDepth 16384

noncomputable section

namespace Cert.ReferenceIdeal.Stage

open Idealize.ShloMosaic Idealize.ShloMosaic.TcCoe Idealize.ShloMosaic.StableHlo
open Idealize.SL Idealize.SL.Sem
open Cert.ReferenceIdeal Cert.ReferenceIdeal.Gen Cert.ReferenceIdeal.Value

theorem negInf : Ideal.ofBits FTy.f32 4286578688#32 = ⊥ := by
  simp [Ideal.ofBits, Ideal.ieee]

theorem pad_pt (T : FVec Ideal S2x16384x256 .f32) (b : Fin 2) (n : Fin 130) (a : Fin 128) (g : Fin 4) (d : Fin 64) :
    padT T (ix5 b n a g d) =
      if h : 128 ≤ n.val * 128 + a.val ∧ n.val * 128 + a.val - 128 < 16384 then
        T (ix3 b ⟨n.val * 128 + a.val - 128, h.2⟩ ⟨g.val * 64 + d.val, by omega⟩)
      else FloatOps.sitofp (F := Ideal) .f32 0#32 := by
  pointwise [padT]

/-- Inside the sequence, row `s` of the band of block `n` is row `128 n + s − 128` of the sequence. -/
theorem band_pt (T : FVec Ideal S2x16384x256 .f32) (b : Fin 2) (n : Fin 128) (s : Fin 384) (g : Fin 4) (d : Fin 64)
    (h0 : 128 ≤ 128 * n.val + s.val) (h1 : 128 * n.val + s.val - 128 < 16384) (r : Fin 16384) (l : Fin 256)
    (hr : r.val = 128 * n.val + s.val - 128) (hl : l.val = 64 * g.val + d.val) :
    band T (ix5 b n s g d) = T (ix3 b r l) := by
  have e : band T (ix5 b n s g d) =
      if h : s.val < 128 then padT T (ix5 b ⟨n.val, by omega⟩ ⟨s.val, h⟩ g d)
      else if h' : s.val - 128 < 128 then padT T (ix5 b ⟨1 + n.val, by omega⟩ ⟨s.val - 128, h'⟩ g d)
      else padT T (ix5 b ⟨2 + n.val, by omega⟩ ⟨s.val - 128 - 128, by omega⟩ g d) := by
    pointwise [band]
  have hl' : ∀ p, (⟨g.val * 64 + d.val, p⟩ : Fin 256) = l := fun p => Fin.ext (by rw [hl]; simp only; omega)
  rw [e]
  split_ifs with i j
  · rw [pad_pt, dif_pos ⟨by simp only; omega, by simp only; omega⟩, hl']
    exact congrArg (fun r => T (ix3 b r l)) (Fin.ext (by rw [hr]; simp only; omega))
  · rw [pad_pt, dif_pos ⟨by simp only; omega, by simp only; omega⟩, hl']
    exact congrArg (fun r => T (ix3 b r l)) (Fin.ext (by rw [hr]; simp only; omega))
  · rw [pad_pt, dif_pos ⟨by simp only; omega, by simp only; omega⟩, hl']
    exact congrArg (fun r => T (ix3 b r l)) (Fin.ext (by rw [hr]; simp only; omega))

/-- The distance, as the word both programs compute. -/
def dw (a : Fin 128) (s : Fin 384) : BitVec 32 :=
  IntOp.absi (IntOp.subi (IntOp.subi (BitVec.ofNat 32 s.val) 128#32) (BitVec.ofNat 32 a.val))

theorem dist_pt (a : Fin 128) (s : Fin 384) : dist (ix2 a s) = dw a s := by
  unfold dw
  pointwise [dist]

theorem valid_pt (n a : Fin 128) (s : Fin 384) : valid (ix3 n a s) =
    IntOp.andi
      (IntOp.andi (IntOp.cmpi CmpIPredicate.sle (dw a s) 128#32)
        (IntOp.cmpi CmpIPredicate.sge
          (IntOp.addi (IntOp.muli (IntOp.subi (BitVec.ofNat 32 n.val) 1#32) 128#32) (BitVec.ofNat 32 s.val)) 0#32))
      (IntOp.cmpi CmpIPredicate.slt
        (IntOp.addi (IntOp.muli (IntOp.subi (BitVec.ofNat 32 n.val) 1#32) 128#32) (BitVec.ofNat 32 s.val)) 16384#32) := by
  rw [← dist_pt]
  pointwise [valid]

/-- Minus the slope of head `h`. -/
def slope (h : Fin 16) : EReal := -Ideal.ofBits FTy.f32 (lit0 (S16.rowMajor (ix1 h)))

theorem bias_pt (g i : Fin 4) (a : Fin 128) (s : Fin 384) : bias (ix4 g i a s) =
    slope ⟨g.val * 4 + i.val, by omega⟩ * FloatOps.sitofp (F := Ideal) .f32 (dw a s) := by
  rw [← dist_pt]
  unfold slope
  pointwise [bias]

variable (A0 A1 : FVec Ideal S2x16384x1024 .f32) (A2 A3 : FVec Ideal S2x16384x256 .f32)
    (A4 : FVec Ideal S2x3x1024 .f32) (A5 : FVec Ideal S16 .f32) (A6 : FVec Ideal S1024x1024 .f32)

theorem score_pt (b : Fin 2) (n : Fin 128) (g i : Fin 4) (a : Fin 128) (s : Fin 384) :
    score A1 A2 (ix6 b n g i a s) =
      Scalar.select (valid (ix3 n a s))
        ((∑ x : Fin 64, band A2 (ix5 b n s g x) *
            A1 (ix3 b ⟨n.val * 128 + a.val, by omega⟩ ⟨g.val * 256 + i.val * 64 + x.val, by omega⟩)) *
          Ideal.ofBits FTy.f32 1040187392#32 + bias (ix4 g i a s))
        ⊥ := by
  rw [← negInf]
  pointwise [score]
  rfl

theorem rmax_pt (b : Fin 2) (n : Fin 128) (g i : Fin 4) (a : Fin 128) :
    rmax A1 A2 (ix5 b n g i a) = (Finset.univ : Finset (Fin 384)).fold max ⊥ (fun s => score A1 A2 (ix6 b n g i a s)) :=
  redMax (score A1 A2) (constant S_ .f32 0xFF800000#32) negInf b n g i a

theorem rsum_pt (b : Fin 2) (n : Fin 128) (g i : Fin 4) (a : Fin 128) :
    rsum A1 A2 A5 (ix5 b n g i a) = ∑ s : Fin 384, wts A1 A2 A5 (ix6 b n g i a s) :=
  redSum (wts A1 A2 A5) b n g i a

theorem snk_of (b : Fin 2) (n : Fin 128) (g i : Fin 4) (a : Fin 128) :
    broadcastInDim S2x128x4x4x128 ![0, 1, 2, 3, 4] bcast_S1x1x4x4x1_S2x128x4x4x128_0_1_2_3_4
      (broadcastInDim S1x1x4x4x1 ![2, 3] bcast_S4x4_S1x1x4x4x1_2_3 (shapeCast S4x4 A5 shapeCasts_S16_S4x4))
      (ix5 b n g i a) = A5 (ix1 ⟨g.val * 4 + i.val, by omega⟩) := by
  pointwise []

theorem max_of (x y : FVec Ideal S2x128x4x4x128 .f32) (j : S2x128x4x4x128.Idx) :
    maximumf x y j = max (x j) (y j) := rfl

theorem top_of (b : Fin 2) (n : Fin 128) (g i : Fin 4) (a : Fin 128) :
    top A1 A2 A5 (ix5 b n g i a) = max (rmax A1 A2 (ix5 b n g i a)) (A5 (ix1 ⟨g.val * 4 + i.val, by omega⟩)) := by
  unfold top
  rw [max_of, snk_of]

theorem top_pt (b : Fin 2) (n : Fin 128) (g i : Fin 4) (a : Fin 128) :
    top A1 A2 A5 (ix5 b n g i a) =
      max ((Finset.univ : Finset (Fin 384)).fold max ⊥ (fun s => score A1 A2 (ix6 b n g i a s)))
        (A5 (ix1 ⟨g.val * 4 + i.val, by omega⟩)) := by
  rw [top_of, rmax_pt]

theorem wts_pt (b : Fin 2) (n : Fin 128) (g i : Fin 4) (a : Fin 128) (s : Fin 384) :
    wts A1 A2 A5 (ix6 b n g i a s) = Ideal.exp (score A1 A2 (ix6 b n g i a s) - top A1 A2 A5 (ix5 b n g i a)) := by
  pointwise [wts]

theorem den_of (b : Fin 2) (n : Fin 128) (g i : Fin 4) (a : Fin 128) :
    den A1 A2 A5 (ix5 b n g i a) = rsum A1 A2 A5 (ix5 b n g i a) +
      Ideal.exp (A5 (ix1 ⟨g.val * 4 + i.val, by omega⟩) - top A1 A2 A5 (ix5 b n g i a)) := by
  pointwise [den]

theorem den_pt (b : Fin 2) (n : Fin 128) (g i : Fin 4) (a : Fin 128) :
    den A1 A2 A5 (ix5 b n g i a) = ∑ s : Fin 384, wts A1 A2 A5 (ix6 b n g i a s) +
      Ideal.exp (A5 (ix1 ⟨g.val * 4 + i.val, by omega⟩) - top A1 A2 A5 (ix5 b n g i a)) := by
  rw [den_of, rsum_pt]

theorem attn_pt (b : Fin 2) (n : Fin 128) (g i : Fin 4) (a : Fin 128) (d : Fin 64) (r : Fin 16384) (l : Fin 1024)
    (hr : r.val = 128 * n.val + a.val) (hl : l.val = 256 * g.val + 64 * i.val + d.val) :
    attnOut A1 A2 A3 A5 (ix3 b r l) =
      Ideal.div (∑ s : Fin 384, band A3 (ix5 b n s g d) * wts A1 A2 A5 (ix6 b n g i a s))
        (den A1 A2 A5 (ix5 b n g i a)) := by
  have e : attnOut A1 A2 A3 A5 (ix3 b r l) =
      Ideal.div
        (∑ x : Fin 384, band A3 (ix5 b ⟨r.val / 128, by omega⟩ x ⟨l.val / 256, by omega⟩ ⟨l.val % 64, by omega⟩) *
          wts A1 A2 A5 (ix6 b ⟨r.val / 128, by omega⟩ ⟨l.val / 256, by omega⟩ ⟨l.val / 64 % 4, by omega⟩
            ⟨r.val % 128, by omega⟩ x))
        (den A1 A2 A5 (ix5 b ⟨r.val / 128, by omega⟩ ⟨l.val / 256, by omega⟩ ⟨l.val / 64 % 4, by omega⟩
          ⟨r.val % 128, by omega⟩)) := by
    pointwise [attnOut]
  have e1 : (⟨r.val / 128, by omega⟩ : Fin 128) = n := Fin.ext (by simp only; omega)
  have e2 : (⟨r.val % 128, by omega⟩ : Fin 128) = a := Fin.ext (by simp only; omega)
  have e3 : (⟨l.val / 256, by omega⟩ : Fin 4) = g := Fin.ext (by simp only; omega)
  have e4 : (⟨l.val / 64 % 4, by omega⟩ : Fin 4) = i := Fin.ext (by simp only; omega)
  have e5 : (⟨l.val % 64, by omega⟩ : Fin 64) = d := Fin.ext (by simp only; omega)
  rw [e, e1, e2, e3, e4, e5]

theorem res_pt (b : Fin 2) (r : Fin 16384) (l : Fin 1024) :
    res A0 A1 A2 A3 A4 A5 A6 (ix3 b r l) =
      A0 (ix3 b r l) + A4 (ix3 b 2 l) * ∑ x : Fin 1024, attnOut A1 A2 A3 A5 (ix3 b r x) * A6 (ix2 x l) := by
  pointwise [res]

end Cert.ReferenceIdeal.Stage

end

end
-- ==== Proof.Mask.lean ====
/-
  Small facts the comparison of the two attentions needs: the words of the reference's mask, and a sum over one half of
  128 lanes.
-/
module

public import proofs.«01_k».proof.Proof.Win
public import proofs.«01_k».proof.Proof.StagePt
public import Idealize.ShloMosaic.Lib.Tactic.WordOmega

@[expose] public section

set_option maxRecDepth 16384

noncomputable section

namespace Cert.KernelIdeal.Heads

open Idealize.ShloMosaic

theorem blk_word : ∀ n : Fin 128, (IntOp.muli (IntOp.subi (BitVec.ofNat 32 n.val) 1#32) 128#32).toNat =
    if n.val = 0 then 4294967168 else 128 * (n.val - 1) := by
  decide +kernel

/-- A key position before the sequence's start, as the words say it. -/
theorem ge_word (n : Fin 128) (s : Fin 384) :
    IntOp.cmpi CmpIPredicate.sge
      (IntOp.addi (IntOp.muli (IntOp.subi (BitVec.ofNat 32 n.val) 1#32) 128#32) (BitVec.ofNat 32 s.val)) 0#32 = 1#1 ↔
    128 ≤ 128 * n.val + s.val := by
  have e := blk_word n
  generalize IntOp.muli (IntOp.subi (BitVec.ofNat 32 n.val) 1#32) 128#32 = w at e ⊢
  word_omega

theorem lt_word (n : Fin 128) (s : Fin 384) :
    IntOp.cmpi CmpIPredicate.slt
      (IntOp.addi (IntOp.muli (IntOp.subi (BitVec.ofNat 32 n.val) 1#32) 128#32) (BitVec.ofNat 32 s.val)) 16384#32 = 1#1 ↔
    128 * n.val + s.val < 16512 := by
  have e := blk_word n
  generalize IntOp.muli (IntOp.subi (BitVec.ofNat 32 n.val) 1#32) 128#32 = w at e ⊢
  word_omega

theorem and_word : ∀ x y : BitVec 1, IntOp.andi x y = 1#1 ↔ x = 1#1 ∧ y = 1#1 := by decide

/-- The reference's mask: within the window and inside the sequence. -/
theorem valid_iff (n a : Fin 128) (s : Fin 384) : Cert.ReferenceIdeal.Stage.valid (ix3 n a s) = 1#1 ↔
    IntOp.cmpi CmpIPredicate.sle (dw a s) 128#32 = 1#1 ∧ 128 ≤ 128 * n.val + s.val ∧ 128 * n.val + s.val < 16512 := by
  rw [Cert.ReferenceIdeal.Stage.valid_pt, and_word, and_word, ge_word, lt_word, and_assoc]
  rfl

theorem slope_eq (h : Fin 16) : Cert.ReferenceIdeal.Stage.slope h = slope h := rfl

/-- A sum over 128 lanes of which only one half counts. -/
theorem half_sum (e : Fin 2) (f : Fin 128 → EReal) :
    (∑ x : Fin 128, if (x.val < 64 ↔ e.val = 0) then f x else 0) =
      ∑ d : Fin 64, f ⟨64 * e.val + d.val, by omega⟩ := by
  rw [← (finSumFinEquiv (m := 64) (n := 64)).sum_comp, Fintype.sum_sum_type]
  have h0 : ∀ d : Fin 64, ((finSumFinEquiv (m := 64) (n := 64) (Sum.inl d) : Fin 128)).val = d.val := fun d => rfl
  have h1 : ∀ d : Fin 64, ((finSumFinEquiv (m := 64) (n := 64) (Sum.inr d) : Fin 128)).val = 64 + d.val := fun d => rfl
  obtain ⟨e, he⟩ := e
  obtain rfl | rfl : e = 0 ∨ e = 1 := by omega
  · rw [Finset.sum_eq_zero (f := fun d : Fin 64 => ite ((finSumFinEquiv (m := 64) (n := 64) (Sum.inr d)).val < 64 ↔ _) _ _)
      fun d _ => if_neg (by rw [h1]; simp), add_zero]
    exact Finset.sum_congr rfl fun d _ => (if_pos (by rw [h0]; simp)).trans
      (congrArg f (Fin.ext (by rw [h0]; simp only; omega)))
  · rw [Finset.sum_eq_zero (f := fun d : Fin 64 => ite ((finSumFinEquiv (m := 64) (n := 64) (Sum.inl d)).val < 64 ↔ _) _ _)
      fun d _ => if_neg (by rw [h0]; simp), zero_add]
    exact Finset.sum_congr rfl fun d _ => (if_pos (by rw [h1]; simp)).trans
      (congrArg f (Fin.ext (by rw [h1]; rfl)))

end Cert.KernelIdeal.Heads

end

end
-- ==== Proof.Same.lean ====
/-
  The kernel's output of a head is the reference's.
-/
module

public import proofs.«01_k».proof.Proof.Mask

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen
open Cert.ReferenceIdeal.Stage (band score attnOut)

variable (m : (ℓ : Loc nD τ sig) → Buf (Elt Ideal) ℓ)

theorem kAll_in (c : Dev nD) (t : Fin cfg0.N) (w : Fin 768) (y : Fin 512) (r : Fin 16384)
    (hr : r.val + 128 = 512 * (iq t).val + w.val) :
    kAll m c t (ix2 w y) = packT (aK m c) (ix3 (bq t) r y) := by
  have hi := (iq t).isLt
  have key : ∀ x : Fin 16384, x.val = r.val →
      (V m c main_v10 : FVec Ideal S2x16384x512 .bf16) (ix3 (bq t) x y) = packT (aK m c) (ix3 (bq t) r y) :=
    fun x e => by rw [Fin.ext e, host_k]
  rw [kAll_pt]
  split_ifs with h h'
  · rw [blk6]; exact key _ (by simp only; omega)
  · rw [blk7]; exact key _ (by simp only; omega)
  · rw [blk8]; exact key _ (by simp only; omega)

theorem vAll_in (c : Dev nD) (t : Fin cfg0.N) (w : Fin 768) (y : Fin 512) (r : Fin 16384)
    (hr : r.val + 128 = 512 * (iq t).val + w.val) :
    vAll m c t (ix2 w y) = packT (aV m c) (ix3 (bq t) r y) := by
  have hi := (iq t).isLt
  have key : ∀ x : Fin 16384, x.val = r.val →
      (V m c main_v16 : FVec Ideal S2x16384x512 .bf16) (ix3 (bq t) x y) = packT (aV m c) (ix3 (bq t) r y) :=
    fun x e => by rw [Fin.ext e, host_v]
  rw [vAll_pt]
  split_ifs with h h'
  · rw [blk9]; exact key _ (by simp only; omega)
  · rw [blk10]; exact key _ (by simp only; omega)
  · rw [blk11]; exact key _ (by simp only; omega)

/-- The slab of penalties a position of the window takes, `−∞` before the first block and after the last. -/
theorem slab_pt (c : Dev nD) (t : Fin cfg0.N) (first last : Prop) [Decidable first] [Decidable last] (h : Fin 16)
    (a : Fin 128) (s : Fin 384) :
    (if hs : s.val < 128 then (iblk m c 1 t : Vec Ideal S17x128x128 .f32)
        (ix3 ⟨if first then 16 else h.val, by split <;> omega⟩ a ⟨s.val, hs⟩)
     else if hs' : s.val - 128 < 128 then (iblk m c 2 t : Vec Ideal S16x128x128 .f32) (ix3 h a ⟨s.val - 128, hs'⟩)
     else (iblk m c 3 t : Vec Ideal S17x128x128 .f32)
        (ix3 ⟨if last then 16 else h.val, by split <;> omega⟩ a ⟨s.val - 128 - 128, by omega⟩)) =
    if (first ∧ s.val < 128) ∨ (last ∧ 256 ≤ s.val) then ⊥ else biasT (ix3 h a s) := by
  have key : ∀ (x : Fin 16) (y : Fin 384), x = h → y.val = s.val → biasT (ix3 x a y) = biasT (ix3 h a s) :=
    fun x y e e' => by rw [e, Fin.ext e']
  by_cases h1 : s.val < 128
  · rw [dif_pos h1, blk1, b0_pt]
    by_cases hf : first
    · rw [dif_neg (by simp only [if_pos hf]; omega), if_pos (Or.inl ⟨hf, h1⟩)]
    · rw [dif_pos (by simp only [if_neg hf]; exact h.isLt)]
      exact (key _ _ (Fin.ext (by simp only [if_neg hf])) rfl).trans
        (if_neg (fun q => q.elim (fun q => hf q.1) (fun q => absurd q.2 (by omega)))).symm
  · rw [dif_neg h1]
    by_cases h2 : s.val - 128 < 128
    · rw [dif_pos h2, blk2, b1_pt, if_neg (by rintro (⟨_, q⟩ | ⟨_, q⟩) <;> omega)]
      exact key _ _ rfl (by simp only; omega)
    · rw [dif_neg h2, blk3, b2_pt]
      by_cases hf : last
      · rw [dif_neg (by simp only [if_pos hf]; omega), if_pos (Or.inr ⟨hf, by omega⟩)]
      · rw [dif_pos (by simp only [if_neg hf]; exact h.isLt)]
        exact (key _ _ (Fin.ext (by simp only [if_neg hf])) (by simp only; omega)).trans
          (if_neg (fun q => q.elim (fun q => absurd q.2 h1) (fun q => hf q.1))).symm

/-- A query of a grid point's block. -/
def qB (c : Dev nD) (t : Fin cfg0.N) (r : Fin 512) (l : Fin 1024) : EReal :=
  (iblk m c 5 t : Vec Ideal S1x512x1024 .bf16) (ix3 0 r l)

/-- A key of a grid point's window. -/
def kB (c : Dev nD) (t : Fin cfg0.N) (w : Fin 768) (y : Fin 512) : EReal := kAll m c t (ix2 w y)

theorem sel_pos {b : BitVec 1} (h : b = 1#1) (x y : EReal) : Scalar.select b x y = x := if_pos h

theorem sel_neg {b : BitVec 1} (h : ¬b = 1#1) (x y : EReal) : Scalar.select b x y = y := if_neg h

/-- One half of 128 lanes, each the factor times a term: the factor out of the sum. -/
theorem half_mul (e : Fin 2) (f : Fin 128 → EReal) (g : Fin 64 → EReal)
    (h : ∀ d : Fin 64, f ⟨64 * e.val + d.val, by omega⟩ = lg * ((8⁻¹ : ℝ) : EReal) * g d) :
    (∑ x : Fin 128, if (x.val < 64 ↔ e.val = 0) then f x else 0) = lg * ((∑ d, g d) * ((8⁻¹ : ℝ) : EReal)) := by
  rw [half_sum, Finset.sum_congr rfl fun d _ => h d, mul_comm (Finset.sum _ _), ← mul_assoc, lg, ← EReal.coe_mul,
    coe_mul_sum (mul_nonneg (inv_nonneg.mpr log2_pos.le) (by norm_num))]

/-- A lane of the product of a query and a key, off the padding. -/
theorem lane_eq (c : Dev nD) (t : Fin cfg0.N) (k : Fin 4) (h : Fin 16) (a : Fin 128) (s : Fin 384) (n : Fin 128)
    (g i : Fin 4) (hn : n.val = 4 * (iq t).val + k.val) (hg : g.val = h.val / 4) (hi : i.val = h.val % 4)
    (h0 : 128 ≤ 128 * n.val + s.val) (h1 : 128 * n.val + s.val < 16512) (d : Fin 64) (x : Fin 128)
    (hx : x.val = 64 * (h.val % 2) + d.val) (ra : Fin 512) (hra : ra.val = 128 * k.val + a.val) (rs : Fin 768)
    (hrs : rs.val = 128 * k.val + s.val) (l : Fin 1024) (hl : l.val = 128 * (h.val / 2) + x.val) (y : Fin 512)
    (hy : y.val = hcol h + x.val) (r : Fin 16384) (hr : r.val = n.val * 128 + a.val) (l' : Fin 1024)
    (hl' : l'.val = g.val * 256 + i.val * 64 + d.val) :
    qB m c t ra l * kB m c t rs y = lg * ((8⁻¹ : ℝ) : EReal) *
      (band (aK m c) (ix5 (bq t) n s g d) * aQ m c (ix3 (bq t) r l')) := by
  have hh := h.isLt
  have hin := (iq t).isLt
  have hd := d.isLt
  unfold qB kB
  rw [kAll_in m c t rs y ⟨128 * n.val + s.val - 128, by omega⟩ (by simp only; omega),
    pack_pt (aK m c) (bq t) _ h x (by omega) y hy ⟨64 * g.val + d.val, by omega⟩ (by simp only; omega),
    Cert.ReferenceIdeal.Stage.band_pt (aK m c) (bq t) n s g d h0 (by omega) ⟨128 * n.val + s.val - 128, by omega⟩
      ⟨64 * g.val + d.val, by omega⟩ rfl rfl, blk5, q_pt]
  have er : (⟨(iq t).val * 512 + ra.val, by omega⟩ : Fin 16384) = r := Fin.ext (by simp only; omega)
  have el : aQ m c (ix3 (bq t) r l) = aQ m c (ix3 (bq t) r l') :=
    congrArg (fun z => aQ m c (ix3 (bq t) r z)) (Fin.ext (by omega))
  rw [er, el, mul_comm (aQ m c _), mul_assoc (lg * _), mul_comm (aQ m c _)]

/-- The product of a head's query and key, off the padding: the factor `1 / (8 log 2)` out of the reference's product. -/
theorem dot_eq (c : Dev nD) (t : Fin cfg0.N) (k : Fin 4) (h : Fin 16) (a : Fin 128) (s : Fin 384) (n : Fin 128)
    (g i : Fin 4) (hn : n.val = 4 * (iq t).val + k.val) (hg : g.val = h.val / 4) (hi : i.val = h.val % 4)
    (h0 : 128 ≤ 128 * n.val + s.val) (h1 : 128 * n.val + s.val < 16512) :
    (∑ x : Fin 128, qLane (iblk m c 5 t) k h a x *
        kAll m c t (ix2 ⟨128 * k.val + s.val, by omega⟩ ⟨hcol h + x.val, by have := hcol_lt h; omega⟩)) =
      lg * ((∑ d : Fin 64, band (aK m c) (ix5 (bq t) n s g d) *
        aQ m c (ix3 (bq t) ⟨n.val * 128 + a.val, by omega⟩ ⟨g.val * 256 + i.val * 64 + d.val, by omega⟩)) *
        ((8⁻¹ : ℝ) : EReal)) := by
  rw [← half_mul ⟨h.val % 2, by omega⟩ (fun x => qB m c t ⟨128 * k.val + a.val, by omega⟩
      ⟨128 * (h.val / 2) + x.val, by omega⟩ *
      kB m c t ⟨128 * k.val + s.val, by omega⟩ ⟨hcol h + x.val, by have := hcol_lt h; omega⟩) _
    fun d => lane_eq m c t k h a s n g i hn hg hi h0 h1 d _ rfl _ rfl _ rfl _ rfl _ rfl _ rfl _ rfl]
  refine Finset.sum_congr rfl fun x _ => ?_
  unfold qLane
  split_ifs with e
  · rfl
  · exact zero_mul _

/-- The kernel's score is the reference's, over `log 2`. -/
theorem score_eq (c : Dev nD) (t : Fin cfg0.N) (k : Fin 4) (h : Fin 16) (a : Fin 128) (s : Fin 384) (n : Fin 128)
    (g i : Fin 4) (hn : n.val = 4 * (iq t).val + k.val) (hg : g.val = h.val / 4) (hi : i.val = h.val % 4) :
    kScore (iblk m c 1 t) (iblk m c 2 t) (iblk m c 3 t) (iblk m c 5 t) (kAll m c t)
      ((grid0.coords t 1).val = 0 ∧ k.val = 0) ((grid0.coords t 1).val = 31 ∧ k.val = 3) k h a s =
    lg * score (aQ m c) (aK m c) (ix6 (bq t) n g i a s) := by
  have hin := (iq t).isLt
  have hgi : (⟨g.val * 4 + i.val, by omega⟩ : Fin 16) = h := Fin.ext (by simp only; omega)
  unfold kScore
  rw [slab_pt, Cert.ReferenceIdeal.Stage.score_pt, Cert.ReferenceIdeal.Stage.bias_pt, hgi]
  by_cases hr : 128 ≤ 128 * n.val + s.val ∧ 128 * n.val + s.val < 16512
  · rw [if_neg (by
      rintro (⟨⟨q, q'⟩, q''⟩ | ⟨⟨q, q'⟩, q''⟩)
      · have : (iq t).val = 0 := q
        omega
      · have : (iq t).val = 31 := q
        omega), bias_pt]
    by_cases hw : IntOp.cmpi CmpIPredicate.sle (dw a s) 128#32 = 1#1
    · rw [sel_pos hw, sel_pos ((valid_iff n a s).mpr ⟨hw, hr⟩), dot_eq m c t k h a s n g i hn hg hi hr.1 hr.2, eighth_bits, lg,
        coe_mul_add (inv_nonneg.mpr log2_pos.le)]
      rfl
    · rw [sel_neg hw, sel_neg (fun q => hw ((valid_iff n a s).mp q).1), EReal.add_bot, EReal.mul_bot_of_pos lg_pos]
  · rw [if_pos (by
      have h1 : (grid0.coords t 1).val = (iq t).val := rfl
      rw [h1]
      omega), sel_neg (fun q => hr ((valid_iff n a s).mp q).2), EReal.add_bot, EReal.mul_bot_of_pos lg_pos]

theorem snk_eq (x : EReal) : snkOf (F := Ideal) x = lg * x := mul_comm _ _

/-- The kernel's output of head `h` is the reference's. -/
theorem head_eq (c : Dev nD) (t : Fin cfg0.N) (k : Fin 4) (h : Fin 16) (a l : Fin 128) (hl : l.val < 64 ↔ h.val % 2 = 0)
    (r : Fin 16384) (y : Fin 1024) (hr : r.val = 512 * (iq t).val + 128 * k.val + a.val)
    (hy : y.val = 64 * h.val + l.val % 64) :
    hv m c t k h a l = attnOut (aQ m c) (aK m c) (aV m c) (aS m c) (ix3 (bq t) r y) := by
  have hin := (iq t).isLt
  have hh := h.isLt
  have hll := l.isLt
  obtain ⟨n, hn⟩ : ∃ n : Fin 128, n.val = 4 * (iq t).val + k.val := ⟨⟨4 * (iq t).val + k.val, by omega⟩, rfl⟩
  obtain ⟨g, hg⟩ : ∃ g : Fin 4, g.val = h.val / 4 := ⟨⟨h.val / 4, by omega⟩, rfl⟩
  obtain ⟨i, hi⟩ : ∃ i : Fin 4, i.val = h.val % 4 := ⟨⟨h.val % 4, by omega⟩, rfl⟩
  have hgi : (⟨g.val * 4 + i.val, by omega⟩ : Fin 16) = h := Fin.ext (by simp only; omega)
  rw [Cert.ReferenceIdeal.Stage.attn_pt (aQ m c) (aK m c) (aV m c) (aS m c) (bq t) n g i a ⟨l.val % 64, by omega⟩ r y
    (by omega) (by simp only; omega), Cert.ReferenceIdeal.Stage.den_pt]
  simp only [Cert.ReferenceIdeal.Stage.wts_pt, Cert.ReferenceIdeal.Stage.top_pt, hgi]
  unfold hv kHead
  rw [blk0, snk_eq, funext fun s => score_eq m c t k h a s n g i hn hg hi]
  refine soft2_eq (fun s => score (aQ m c) (aK m c) (ix6 (bq t) n g i a s)) (aS m c (ix1 h)) _
    (fun s => band (aV m c) (ix5 (bq t) n s g ⟨l.val % 64, by omega⟩)) fun s hs => ?_
  have hv : Cert.ReferenceIdeal.Stage.valid (ix3 n a s) = 1#1 := by
    by_contra q
    refine hs ?_
    rw [Cert.ReferenceIdeal.Stage.score_pt]
    exact sel_neg q _ _
  obtain ⟨_, h0, h1⟩ := (valid_iff n a s).mp hv
  rw [vAll_in m c t _ _ ⟨128 * n.val + s.val - 128, by omega⟩ (by simp only; omega),
    pack_pt (aV m c) (bq t) _ h l hl _ rfl ⟨64 * g.val + l.val % 64, by omega⟩ (by simp only; omega),
    Cert.ReferenceIdeal.Stage.band_pt (aV m c) (bq t) n s g ⟨l.val % 64, by omega⟩ h0 (by omega)
      ⟨128 * n.val + s.val - 128, by omega⟩ ⟨64 * g.val + l.val % 64, by omega⟩ rfl rfl]

end Cert.KernelIdeal.Heads

end

end
-- ==== Proof.Final.lean ====
/-
  The array the kernel leaves is the reference's, block by block.
-/
module

public import proofs.«01_k».proof.Proof.Same

@[expose] public section

set_option maxRecDepth 16384

noncomputable section

namespace Cert.KernelIdeal.Heads

open Idealize.ShloMosaic Idealize.ShloMosaic.TcCoe
open Idealize.SL Idealize.SL.Sem
open Cert.KernelIdeal Cert.KernelIdeal.Gen
open Cert.ReferenceIdeal.Stage (attnOut res)

variable (m : (ℓ : Loc nD τ sig) → Buf (Elt Ideal) ℓ)

/-- The attention output the kernel keeps, at a row of the block, is the reference's at that row of the sequence. -/
theorem oh_eq (c : Dev nD) (t : Fin cfg0.N) (r : Fin 512) (d : Fin 1024) (r' : Fin 16384)
    (hr : r'.val = (iq t).val * 512 + r.val) :
    oh m c t (ix2 r d) = attnOut (aQ m c) (aK m c) (aV m c) (aS m c) (ix3 (bq t) r' d) := by
  have hlt := r.isLt
  have hd := d.isLt
  exact head_eq m c t ⟨r.val / 128, by omega⟩ ⟨d.val / 64, by omega⟩ ⟨r.val % 128, by omega⟩ ⟨d.val % 128, by omega⟩
    (by simp only; omega) r' d (by simp only; omega) (by simp only; omega)

/-- What a grid point writes back is the reference's result there. -/
theorem block_eq (c : Dev nD) (t : Fin cfg0.N) (r : Fin 512) (l : Fin 1024) (r' : Fin 16384)
    (hr : r'.val = (iq t).val * 512 + r.val) :
    (outsAt0 m c t : Vec Ideal S1x512x1024 .f32) (ix3 0 r l) =
      res (aX m c) (aQ m c) (aK m c) (aV m c) (aM m c) (aS m c) (aW m c) (ix3 (bq t) r' l) := by
  have hin := (iq t).isLt
  have hlt := r.isLt
  have er : (⟨(iq t).val * 512 + r.val, by omega⟩ : Fin 16384) = r' := Fin.ext (by simp only; omega)
  have hs : (∑ d : Fin 1024, oh m c t (ix2 r d) * (iblk m c 13 t : Vec Ideal S1024x1024 .bf16) (ix2 d l)) =
      ∑ d : Fin 1024, attnOut (aQ m c) (aK m c) (aV m c) (aS m c) (ix3 (bq t) r' d) * aW m c (ix2 d l) :=
    Finset.sum_congr rfl fun d _ => by rw [blk13, w_pt, oh_eq m c t r d r' hr]
  rw [out_block, pay4_pt, hs, blk4, blk12, er, Cert.ReferenceIdeal.Stage.res_pt]

/-- The kernel's result. -/
theorem final (c : Dev nD) : (dats m 0 c).arrAt 14 cfg0.N =
    res (aX m c) (aQ m c) (aK m c) (aV m c) (aM m c) (aS m c) (aW m c) := by
  refine (dats m 0 c).arrAt_eq_of_covers 14 _ (by decide +kernel) fun t hf y => ?_
  blk_simp
  rw [after0_14]
  have hy : (y 1).val < 512 := (y 1).isLt
  have hin := (iq t).isLt
  refine Eq.trans ?_ ((block_eq m c t (y 1) (y 2) ⟨(iq t).val * 512 + (y 1).val, by omega⟩ rfl).trans
    (congrArg (res (aX m c) (aQ m c) (aK m c) (aV m c) (aM m c) (aS m c) (aW m c)) (emb14 t y).symm))
  exact congrArg (outsAt0 m c t : Vec Ideal S1x512x1024 .f32) (by
    funext a
    fin_cases a
    · exact Fin.ext (by have : (y 0).val < 1 := (y 0).isLt; show (y 0).val = 0; omega)
    · rfl
    · rfl)

end Cert.KernelIdeal.Heads

end

end
-- ==== Proof.Row.lean ====
/-
  The arithmetic of one row, as plain functions of its entries: the normalised and modulated row, the gated row of the
  feed-forward layer, its half step with the residual, and the final norm.
-/
module

public import Idealize.ShloMosaic.Lib.Pointwise
public import Idealize.ShloMosaic.PureOps.Ideal
public import Idealize.ShloMosaic.Lib.IdealHost
public import Idealize.ShloMosaic.Lib.Pipeline.ValueKit

@[expose] public section

noncomputable section

namespace Cert.Row

open Idealize.ShloMosaic

/-- One, a half, the width of a row and the epsilon of the norms, as both programs spell them. -/
abbrev one : EReal := Ideal.ofBits FTy.f32 0x3F800000#32
abbrev half : EReal := Ideal.ofBits FTy.f32 0x3F000000#32
abbrev width : EReal := Ideal.ofBits FTy.f32 0x44800000#32
abbrev eps : EReal := Ideal.ofBits FTy.f32 0x358637BD#32

/-- The reciprocal of a row's root mean square. -/
def rinv (x : Fin 1024 → EReal) : EReal := Ideal.rsqrt (Ideal.div (∑ d, x d * x d) width + eps)

/-- A row normalised, with its gain. -/
def normed (x g : Fin 1024 → EReal) (d : Fin 1024) : EReal := x d * rinv x * g d

/-- A row normalised, with its gain, scaled and shifted. -/
def modded (x g sh sc : Fin 1024 → EReal) (d : Fin 1024) : EReal := normed x g d * (one + sc d) + sh d

/-- A row times a matrix. -/
def times {k n : ℕ} (h : Fin k → EReal) (w : Fin k → Fin n → EReal) (j : Fin n) : EReal := ∑ d, h d * w d j

/-- The gated linear unit with the logistic gate on the first of its arguments. -/
def gated {n : ℕ} (g u : Fin n → EReal) (j : Fin n) : EReal := g j * Ideal.logistic (g j) * u j

theorem logistic_eq (z : EReal) : Ideal.div one (one + Ideal.exp (-z)) = Ideal.logistic z := by
  unfold one
  rw [Ideal.ofBits_one_f32]
  rfl

/-- Half a feed-forward step of a row: the residual plus half the gate times the gated product. -/
def step (x g sh sc gt : Fin 1024 → EReal) (wg wu : Fin 1024 → Fin 2816 → EReal) (wo : Fin 2816 → Fin 1024 → EReal)
    (l : Fin 1024) : EReal :=
  x l + half * gt l * times (gated (times (modded x g sh sc) wg) (times (modded x g sh sc) wu)) wo l

end Cert.Row

end

end
-- ==== Proof.Blocks.lean ====
/-
  Reading a rectangle of an array at an index, and two stores that lie one after the other read back at an index.
-/
module

public import proofs.«01_k».proof.Proof.Row
public import Idealize.ShloMosaic.Lib.Pipeline.ReadBack

@[expose] public section

noncomputable section

namespace Cert.Blocks

open Idealize.ShloMosaic Idealize.ShloMosaic.TcCoe

theorem at2 {φ : EltTy} {n0 n1 m0 m1 : ℕ} (X : Vec Ideal ⟨2, ![n0, n1]⟩ φ) (off : Fin 2 → ℕ) (inb)
    (a : Fin m0) (b : Fin m1) (i : Fin n0) (j : Fin n1) (hi : i.val = off 0 + a.val) (hj : j.val = off 1 + b.val) :
    View.ld X (Rect.unit (s := ⟨2, ![n0, n1]⟩) off ![m0, m1] inb) (ix2 a b) = X (ix2 i j) :=
  View.ld_unit_apply_of X off _ inb _ _ (Fin.forall_fin_two.mpr ⟨hi, hj⟩)

theorem at3 {φ : EltTy} {n0 n1 n2 m0 m1 m2 : ℕ} (X : Vec Ideal ⟨3, ![n0, n1, n2]⟩ φ) (off : Fin 3 → ℕ) (inb)
    (a : Fin m0) (b : Fin m1) (c : Fin m2) (i : Fin n0) (j : Fin n1) (k : Fin n2)
    (hi : i.val = off 0 + a.val) (hj : j.val = off 1 + b.val) (hk : k.val = off 2 + c.val) :
    View.ld X (Rect.unit (s := ⟨3, ![n0, n1, n2]⟩) off ![m0, m1, m2] inb) (ix3 a b c) = X (ix3 i j k) :=
  View.ld_unit_apply_of X off _ inb _ _ (Fin.forall_fin_succ.mpr ⟨hi, Fin.forall_fin_two.mpr ⟨hj, hk⟩⟩)

theorem at4 {φ : EltTy} {n0 n1 n2 n3 m0 m1 m2 m3 : ℕ} (X : Vec Ideal ⟨4, ![n0, n1, n2, n3]⟩ φ) (off : Fin 4 → ℕ) (inb)
    (a : Fin m0) (b : Fin m1) (c : Fin m2) (d : Fin m3) (i : Fin n0) (j : Fin n1) (k : Fin n2) (l : Fin n3)
    (hi : i.val = off 0 + a.val) (hj : j.val = off 1 + b.val) (hk : k.val = off 2 + c.val) (hl : l.val = off 3 + d.val) :
    View.ld X (Rect.unit (s := ⟨4, ![n0, n1, n2, n3]⟩) off ![m0, m1, m2, m3] inb) (ix4 a b c d) = X (ix4 i j k l) :=
  View.ld_unit_apply_of X off _ inb _ _
    (Fin.forall_fin_succ.mpr ⟨hi, Fin.forall_fin_succ.mpr ⟨hj, Fin.forall_fin_two.mpr ⟨hk, hl⟩⟩⟩)

/-- An index of a block with one batch, by its last two parts. -/
theorem eq3 {n1 n2 : ℕ} (y : (⟨3, ![1, n1, n2]⟩ : Shape).Idx) : y = ix3 0 (y 1) (y 2) := by
  funext a
  fin_cases a
  · exact Fin.ext (by have : (y 0).val < 1 := (y 0).isLt; show (y 0).val = 0; omega)
  · rfl
  · rfl

/-- An index is in a rectangle, when it is an offset from its corner. -/
theorem in_rect {a0 a1 a2 n0 n1 n2 : ℕ} (off : Fin 3 → ℕ) (inb) (i : Fin a0) (j : Fin a1) (k : Fin a2)
    (x : Fin n0) (y : Fin n1) (z : Fin n2) (hi : i.val = off 0 + x.val) (hj : j.val = off 1 + y.val) (hk : k.val = off 2 + z.val) :
    ix3 i j k ∈ (Rect.unit (s := ⟨3, ![a0, a1, a2]⟩) off ![n0, n1, n2] inb).set :=
  Rect.mem_set_unit.mpr (Fin.forall_fin_succ.mpr ⟨⟨hi ▸ Nat.le_add_right _ _, hi ▸ Nat.add_lt_add_left x.isLt _⟩,
    Fin.forall_fin_two.mpr ⟨⟨hj ▸ Nat.le_add_right _ _, hj ▸ Nat.add_lt_add_left y.isLt _⟩,
      ⟨hk ▸ Nat.le_add_right _ _, hk ▸ Nat.add_lt_add_left z.isLt _⟩⟩⟩)

/-- Two stores of blocks that fill an array, read back at an index: the one that holds the index decides. -/
theorem two_pt {φ : EltTy} {a0 a1 a2 n0 n1 n2 : ℕ} (o0 o1 : Fin 3 → ℕ) (i0 i1)
    (A B : Vec Ideal ⟨3, ![n0, n1, n2]⟩ φ) (i : Fin a0) (j : Fin a1) (k : Fin a2) (g : Elt Ideal φ)
    (cover : (∃ (x : Fin n0) (y : Fin n1) (z : Fin n2), i.val = o0 0 + x.val ∧ j.val = o0 1 + y.val ∧ k.val = o0 2 + z.val) ∨
      ∃ (x : Fin n0) (y : Fin n1) (z : Fin n2), i.val = o1 0 + x.val ∧ j.val = o1 1 + y.val ∧ k.val = o1 2 + z.val)
    (hA : ∀ (x : Fin n0) (y : Fin n1) (z : Fin n2), i.val = o0 0 + x.val → j.val = o0 1 + y.val → k.val = o0 2 + z.val →
      A (ix3 x y z) = g)
    (hB : ∀ (x : Fin n0) (y : Fin n1) (z : Fin n2), i.val = o1 0 + x.val → j.val = o1 1 + y.val → k.val = o1 2 + z.val →
      B (ix3 x y z) = g) :
    View.canon (Val := Elt Ideal) (e := φ) [⟨Rect.unit (s := ⟨3, ![a0, a1, a2]⟩) o1 ![n0, n1, n2] i1, B⟩,
      ⟨Rect.unit (s := ⟨3, ![a0, a1, a2]⟩) o0 ![n0, n1, n2] i0, A⟩] (ix3 i j k) = g := by
  have key : ∀ (o : Fin 3 → ℕ) (inb) (x : (⟨3, ![n0, n1, n2]⟩ : Shape).Idx),
      (Rect.unit (s := ⟨3, ![a0, a1, a2]⟩) o ![n0, n1, n2] inb).emb x = ix3 i j k →
      i.val = o 0 + (x 0).val ∧ j.val = o 1 + (x 1).val ∧ k.val = o 2 + (x 2).val := by
    intro o inb x hx
    have e : ∀ a, ((ix3 i j k : (⟨3, ![a0, a1, a2]⟩ : Shape).Idx) a).val = o a + (x a).val := fun a =>
      (congrArg Fin.val (congrFun hx a)).symm.trans (Rect.idx_unit_val (s := ⟨3, ![a0, a1, a2]⟩) o ![n0, n1, n2] inb x a)
    exact ⟨e 0, e 1, e 2⟩
  have ex : ∀ x : (⟨3, ![n0, n1, n2]⟩ : Shape).Idx, x = ix3 (x 0) (x 1) (x 2) := fun x => by
    funext a
    fin_cases a <;> rfl
  refine View.canon_eq_of_allAt _ _ _ ?_ ?_
  · rcases cover with ⟨x, y, z, h0, h1, h2⟩ | ⟨x, y, z, h0, h1, h2⟩
    · exact ⟨_, List.Mem.tail _ (List.Mem.head _), in_rect o0 i0 i j k x y z h0 h1 h2⟩
    · exact ⟨_, List.Mem.head _, in_rect o1 i1 i j k x y z h0 h1 h2⟩
  · intro p hp
    simp only [List.mem_cons, List.not_mem_nil, or_false] at hp
    rcases hp with rfl | rfl
    · intro x hx
      obtain ⟨h0, h1, h2⟩ := key o1 i1 x hx
      exact (congrArg B (ex x)).trans (hB _ _ _ h0 h1 h2)
    · intro x hx
      obtain ⟨h0, h1, h2⟩ := key o0 i0 x hx
      exact (congrArg A (ex x)).trans (hA _ _ _ h0 h1 h2)

end Cert.Blocks

end

end
-- ==== Proof.Ffn.lean ====
/-
  The reference's feed-forward layer as array functions, and their values at an index.
-/
module

public import proofs.«01_k».proof.Proof.Row
public import proofs.«01_k».proof.Proof.Gen.Reference2Ideal

@[expose] public section

set_option maxRecDepth 16384

noncomputable section

namespace Cert.Ffn

open Idealize.ShloMosaic Idealize.ShloMosaic.TcCoe Idealize.ShloMosaic.StableHlo
open Cert.Reference2Ideal Cert.Reference2Ideal.Gen Cert.Row

/-- The norm of each row, with its gain. -/
def norm (X : FVec Ideal S2x16384x1024 .f32) (G : FVec Ideal S1024 .f32) : FVec Ideal S2x16384x1024 .f32 :=
  mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))

/-- The norm, scaled and shifted by the modulation of the batch. -/
def modulate (X : FVec Ideal S2x16384x1024 .f32) (G : FVec Ideal S1024 .f32) (M : FVec Ideal S2x3x1024 .f32) :
    FVec Ideal S2x16384x1024 .f32 :=
  addf (mulf (norm X G) (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] M slices_S2x3x1024_S2x1x1024_0_1_0) shapeCasts_S2x1x1024_S2x1024))))) (broadcastInDim S2x16384x1024 ![0, 1, 2] bcast_S2x1x1024_S2x16384x1024_0_1_2 (broadcastInDim S2x1x1024 ![0, 2] bcast_S2x1024_S2x1x1024_0_2 (shapeCast _ (extractStridedSlice S2x1x1024 ![0, 0, 0] M slices_S2x3x1024_S2x1x1024_0_0_0) shapeCasts_S2x1x1024_S2x1024)))

/-- The product with the first weight. -/
def wide (H : FVec Ideal S2x16384x1024 .f32) (W : FVec Ideal S1024x5632 .f32) : FVec Ideal S2x16384x5632 .f32 :=
  Host.dotGeneral dot_S2x16384x1024_S1024x5632_S2x16384x5632_2_0_01_1_n_n none H W

/-- The gated unit. -/
def glu (P : FVec Ideal S2x16384x5632 .f32) : FVec Ideal S2x16384x2816 .f32 :=
  mulf (mulf (extractStridedSlice S2x16384x2816 ![0, 0, 0] P slices_S2x16384x5632_S2x16384x2816_0_0_0) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (extractStridedSlice S2x16384x2816 ![0, 0, 0] P slices_S2x16384x5632_S2x16384x2816_0_0_0)))))) (extractStridedSlice S2x16384x2816 ![0, 0, 2816] P slices_S2x16384x5632_S2x16384x2816_0_0_2816)

/-- The half step, from the gated unit. -/
def join (X : FVec Ideal S2x16384x1024 .f32) (M : FVec Ideal S2x3x1024 .f32) (A : FVec Ideal S2x16384x2816 .f32)
    (W : FVec Ideal S2816x1024 .f32) : FVec Ideal S2x16384x1024 .f32 :=
  addf X (mulf (broadcastInDim S2x16384x1024 ![0, 1, 2] bcast_S2x1x1024_S2x16384x1024_0_1_2 (mulf (broadcastInDim S2x1x1024 ![] bcast_S_S2x1x1024 (constant S_ .f32 0x3F000000#32)) (broadcastInDim S2x1x1024 ![0, 2] bcast_S2x1024_S2x1x1024_0_2 (shapeCast _ (extractStridedSlice S2x1x1024 ![0, 2, 0] M slices_S2x3x1024_S2x1x1024_0_2_0) shapeCasts_S2x1x1024_S2x1024)))) (Host.dotGeneral dot_S2x16384x2816_S2816x1024_S2x16384x1024_2_0_01_1_n_n none A W))

/-- The half step of the layer. -/
def ffn (X : FVec Ideal S2x16384x1024 .f32) (M : FVec Ideal S2x3x1024 .f32) (G : FVec Ideal S1024 .f32)
    (Wi : FVec Ideal S1024x5632 .f32) (Wo : FVec Ideal S2816x1024 .f32) : FVec Ideal S2x16384x1024 .f32 :=
  join X M (glu (wide (modulate X G M) Wi)) Wo

/-- Row `r` of batch `b`. -/
abbrev row {n : ℕ} (X : FVec Ideal ⟨3, ![2, 16384, n]⟩ .f32) (b : Fin 2) (r : Fin 16384) (d : Fin n) : EReal := X (ix3 b r d)

theorem norm_pt (X : FVec Ideal S2x16384x1024 .f32) (G : FVec Ideal S1024 .f32) (b : Fin 2) (r : Fin 16384) (l : Fin 1024) :
    norm X G (ix3 b r l) = normed (row X b r) (fun d => G (ix1 d)) l := by
  unfold normed rinv
  pointwise [norm]

theorem modulate_pt (X : FVec Ideal S2x16384x1024 .f32) (G : FVec Ideal S1024 .f32) (M : FVec Ideal S2x3x1024 .f32)
    (b : Fin 2) (r : Fin 16384) (l : Fin 1024) :
    modulate X G M (ix3 b r l) =
      modded (row X b r) (fun d => G (ix1 d)) (fun d => M (ix3 b 0 d)) (fun d => M (ix3 b 1 d)) l := by
  unfold modded
  rw [← norm_pt]
  pointwise [modulate]

theorem wide_pt (H : FVec Ideal S2x16384x1024 .f32) (W : FVec Ideal S1024x5632 .f32) (b : Fin 2) (r : Fin 16384) (j : Fin 5632) :
    wide H W (ix3 b r j) = times (row H b r) (fun d j => W (ix2 d j)) j := by
  unfold times
  pointwise [wide]

/-- The gate's and the other factor's column of the first weight. -/
abbrev lo (j : Fin 2816) : Fin 5632 := ⟨j.val, by omega⟩
abbrev hi (j : Fin 2816) : Fin 5632 := ⟨2816 + j.val, by omega⟩

theorem glu_pt (P : FVec Ideal S2x16384x5632 .f32) (b : Fin 2) (r : Fin 16384) (j : Fin 2816) :
    glu P (ix3 b r j) = gated (fun j => P (ix3 b r (lo j))) (fun j => P (ix3 b r (hi j))) j := by
  unfold gated
  rw [← logistic_eq]
  pointwise [glu]

theorem join_pt (X : FVec Ideal S2x16384x1024 .f32) (M : FVec Ideal S2x3x1024 .f32) (A : FVec Ideal S2x16384x2816 .f32)
    (W : FVec Ideal S2816x1024 .f32) (b : Fin 2) (r : Fin 16384) (l : Fin 1024) :
    join X M A W (ix3 b r l) = X (ix3 b r l) + half * M (ix3 b 2 l) * times (row A b r) (fun d j => W (ix2 d j)) l := by
  unfold times
  pointwise [join]

theorem ffn_pt (X : FVec Ideal S2x16384x1024 .f32) (M : FVec Ideal S2x3x1024 .f32) (G : FVec Ideal S1024 .f32)
    (Wi : FVec Ideal S1024x5632 .f32) (Wo : FVec Ideal S2816x1024 .f32) (b : Fin 2) (r : Fin 16384) (l : Fin 1024) :
    ffn X M G Wi Wo (ix3 b r l) =
      step (row X b r) (fun d => G (ix1 d)) (fun d => M (ix3 b 0 d)) (fun d => M (ix3 b 1 d)) (fun d => M (ix3 b 2 d))
        (fun d j => Wi (ix2 d (lo j))) (fun d j => Wi (ix2 d (hi j))) (fun d j => Wo (ix2 d j)) l := by
  unfold ffn step
  rw [join_pt]
  refine congrArg₂ (· + ·) rfl (congrArg₂ (· * ·) rfl (congrFun (congrArg₂ times (funext fun j => ?_) rfl) l))
  rw [row, glu_pt]
  have e : ∀ j, wide (modulate X G M) Wi (ix3 b r j) = times (modded (row X b r) (fun d => G (ix1 d))
      (fun d => M (ix3 b 0 d)) (fun d => M (ix3 b 1 d))) (fun d j => Wi (ix2 d j)) j := fun j => by
    rw [wide_pt]
    exact congrFun (congrArg₂ times (funext fun d => modulate_pt X G M b r d) rfl) j
  exact congrFun (congrArg₂ gated (funext fun j => e (lo j)) (funext fun j => e (hi j))) j

end Cert.Ffn

end

end
-- ==== Proof.Last.lean ====
/-
  The last feed-forward call: the values its body computes, at an index.
-/
module

public import proofs.«01_k».proof.Proof.Blocks
public import proofs.«01_k».proof.Proof.Ffn
public import proofs.«01_k».proof.Proof.Gen.Kernel2Ideal.Value

@[expose] public section

set_option maxRecDepth 16384

noncomputable section

namespace Cert.Kernel2Ideal.Last

open Idealize.ShloMosaic Idealize.ShloMosaic.TcCoe
open Cert.Kernel2Ideal Cert.Kernel2Ideal.Gen Cert.Row Cert.Ffn Cert.Blocks

theorem hid_pt (x : Vec Ideal S1x512x1024 .f32) (g : Vec Ideal S1x1024 .f32) (sh sc : Vec Ideal S1x1x1024 .f32)
    (r : Fin 512) (d : Fin 1024) :
    k0_pay3 (F := Ideal) x g sh sc (ix2 r d) =
      modded (fun d => x (ix3 0 r d)) (fun d => g (ix2 0 d)) (fun d => sh (ix3 0 0 d)) (fun d => sc (ix3 0 0 d)) d := by
  unfold modded normed rinv
  pointwise [k0_pay3, k0_pay2]

theorem gate_pt (x : Vec Ideal S1x512x1024 .f32) (g : Vec Ideal S1x1024 .f32) (sh sc : Vec Ideal S1x1x1024 .f32)
    (w : Vec Ideal S1x1x1024x2816 .bf16) (r : Fin 512) (j : Fin 2816) :
    k0_pay4 (F := Ideal) x g sh sc w (ix2 r j) =
      times (modded (fun d => x (ix3 0 r d)) (fun d => g (ix2 0 d)) (fun d => sh (ix3 0 0 d)) (fun d => sc (ix3 0 0 d)))
        (fun d j => w (ix4 0 0 d j)) j := by
  unfold times
  simp only [← hid_pt]
  pointwise [k0_pay4]

theorem out_pt (v : FVec Ideal S512x1024 .f32) (p q : FVec Ideal S512x2816 .f32) (gt : Vec Ideal S1x1x1024 .f32)
    (w : Vec Ideal S1x1x2816x1024 .bf16) (fg : Vec Ideal S1x1024 .f32) (r : Fin 512) (l : Fin 1024) :
    k0_pay6 (F := Ideal) v p q gt w fg (ix3 0 r l) =
      normed (fun l => v (ix2 r l) + half * gt (ix3 0 0 l) *
        times (gated (fun j => p (ix2 r j)) (fun j => q (ix2 r j))) (fun j l => w (ix4 0 0 j l)) l)
        (fun d => fg (ix2 0 d)) l := by
  unfold normed rinv times gated
  pointwise [k0_pay6]

/-- What the body stores for 512 rows. -/
def piece (x : Vec Ideal S1x512x1024 .f32) (x1 : Vec Ideal S1x3x1024 .f32) (x2 : Vec Ideal S1x1024 .f32)
    (x3 : Vec Ideal S1x1x1024x5632 .bf16) (x4 : Vec Ideal S1x1x2816x1024 .bf16) (x5 : Vec Ideal S1x1024 .f32) :
    FVec Ideal S1x512x1024 .f32 :=
  k0_pay6 (k0_pay2 x) (k0_pay4 x (View.ld x2 r0_1) (View.ld x1 r0_2) (View.ld x1 r0_3) (View.ld x3 r0_4))
    (k0_pay5 x (View.ld x2 r0_1) (View.ld x1 r0_2) (View.ld x1 r0_3) (View.ld x3 r0_5)) (View.ld x1 r0_6) (View.ld x4 r0_7)
    (View.ld x5 r0_1)

/-- A row of the block, from the blocks of the arguments. -/
abbrev rowOf (x : Fin 1024 → EReal) (x1 : Vec Ideal S1x3x1024 .f32) (x2 : Vec Ideal S1x1024 .f32)
    (x3 : Vec Ideal S1x1x1024x5632 .bf16) (x4 : Vec Ideal S1x1x2816x1024 .bf16) (x5 : Vec Ideal S1x1024 .f32) : Fin 1024 → EReal :=
  normed (step x (fun d => x2 (ix2 0 d)) (fun d => x1 (ix3 0 0 d)) (fun d => x1 (ix3 0 1 d)) (fun d => x1 (ix3 0 2 d))
    (fun d j => x3 (ix4 0 0 d (lo j))) (fun d j => x3 (ix4 0 0 d (hi j))) (fun j l => x4 (ix4 0 0 j l))) (fun d => x5 (ix2 0 d))

theorem piece_pt (x : Vec Ideal S1x512x1024 .f32) (x1 : Vec Ideal S1x3x1024 .f32) (x2 : Vec Ideal S1x1024 .f32)
    (x3 : Vec Ideal S1x1x1024x5632 .bf16) (x4 : Vec Ideal S1x1x2816x1024 .bf16) (x5 : Vec Ideal S1x1024 .f32)
    (r : Fin 512) (l : Fin 1024) :
    piece x x1 x2 x3 x4 x5 (ix3 0 r l) = rowOf (fun d => x (ix3 0 r d)) x1 x2 x3 x4 x5 l := by
  have e0 : ∀ l, k0_pay2 (F := Ideal) x (ix2 r l) = x (ix3 0 r l) := fun l => by pointwise [k0_pay2]
  have e1 : ∀ d, View.ld x2 r0_1 (ix2 0 d) = x2 (ix2 0 d) := fun d => at2 x2 _ _ 0 d 0 d rfl (Nat.zero_add _).symm
  have e2 : ∀ d, View.ld x1 r0_2 (ix3 0 0 d) = x1 (ix3 0 0 d) := fun d => at3 x1 _ _ 0 0 d 0 0 d rfl rfl (Nat.zero_add _).symm
  have e3 : ∀ d, View.ld x1 r0_3 (ix3 0 0 d) = x1 (ix3 0 1 d) := fun d => at3 x1 _ _ 0 0 d 0 1 d rfl rfl (Nat.zero_add _).symm
  have e4 : ∀ d j, View.ld x3 r0_4 (ix4 0 0 d j) = x3 (ix4 0 0 d (lo j)) := fun d j =>
    at4 x3 _ _ 0 0 d j 0 0 d (lo j) rfl rfl (Nat.zero_add _).symm (Nat.zero_add _).symm
  have e5 : ∀ d j, View.ld x3 r0_5 (ix4 0 0 d j) = x3 (ix4 0 0 d (hi j)) := fun d j =>
    at4 x3 _ _ 0 0 d j 0 0 d (hi j) rfl rfl (Nat.zero_add _).symm rfl
  have e6 : ∀ d, View.ld x1 r0_6 (ix3 0 0 d) = x1 (ix3 0 2 d) := fun d => at3 x1 _ _ 0 0 d 0 2 d rfl rfl (Nat.zero_add _).symm
  have e7 : ∀ j l, View.ld x4 r0_7 (ix4 0 0 j l) = x4 (ix4 0 0 j l) := fun j l =>
    at4 x4 _ _ 0 0 j l 0 0 j l rfl rfl (Nat.zero_add _).symm (Nat.zero_add _).symm
  have e8 : ∀ d, View.ld x5 r0_1 (ix2 0 d) = x5 (ix2 0 d) := fun d => at2 x5 _ _ 0 d 0 d rfl (Nat.zero_add _).symm
  unfold piece rowOf step
  rw [out_pt]
  simp only [gate_pt, show ∀ x g sh sc w, k0_pay5 (F := Ideal) x g sh sc w = k0_pay4 x g sh sc w from fun _ _ _ _ _ => rfl,
    e0, e1, e2, e3, e4, e5, e6, e7, e8]

/-- The block a grid point leaves, at an index. -/
theorem block_pt (x0 : Vec Ideal S1x1024x1024 .f32) (x1 : Vec Ideal S1x3x1024 .f32) (x2 : Vec Ideal S1x1024 .f32)
    (x3 : Vec Ideal S1x1x1024x5632 .bf16) (x4 : Vec Ideal S1x1x2816x1024 .bf16) (x5 : Vec Ideal S1x1024 .f32)
    (r : Fin 1024) (l : Fin 1024) :
    out0_6 x0 x1 x2 x3 x4 x5 (ix3 0 r l) = rowOf (fun d => x0 (ix3 0 r d)) x1 x2 x3 x4 x5 l := by
  have e : out0_6 x0 x1 x2 x3 x4 x5 = View.canon [⟨r0_8, piece (View.ld x0 r0_8) x1 x2 x3 x4 x5⟩,
      ⟨r0_0, piece (View.ld x0 r0_0) x1 x2 x3 x4 x5⟩] := rfl
  have hr := r.isLt
  rw [e]
  refine two_pt _ _ _ _ _ _ 0 r l _ ?_ ?_ ?_
  · by_cases h : r.val < 512
    · exact .inl ⟨0, ⟨r.val, h⟩, l, rfl, (Nat.zero_add _).symm, (Nat.zero_add _).symm⟩
    · exact .inr ⟨0, ⟨r.val - 512, by omega⟩, l, rfl, by show r.val = 512 + (r.val - 512); omega, (Nat.zero_add _).symm⟩
  · intro x y z h0 h1 h2
    obtain rfl : l = z := Fin.ext (h2.trans (Nat.zero_add _))
    rw [Subsingleton.elim x 0, piece_pt]
    exact congrFun (congrArg (fun f => rowOf f x1 x2 x3 x4 x5) (funext fun d =>
      at3 x0 _ _ 0 y d 0 r d rfl h1 (Nat.zero_add _).symm)) l
  · intro x y z h0 h1 h2
    obtain rfl : l = z := Fin.ext (h2.trans (Nat.zero_add _))
    rw [Subsingleton.elim x 0, piece_pt]
    exact congrFun (congrArg (fun f => rowOf f x1 x2 x3 x4 x5) (funext fun d =>
      at3 x0 _ _ 0 y d 0 r d rfl h1 (Nat.zero_add _).symm)) l

end Cert.Kernel2Ideal.Last

end

end
-- ==== Proof.LastWin.lean ====
/-
  The last feed-forward call: which part of each array a grid point reads, and the array the call leaves.
-/
module

public import proofs.«01_k».proof.Proof.Last
public import Idealize.ShloMosaic.Lib.StableHlo.ReadAt

@[expose] public section

set_option maxRecDepth 16384

noncomputable section

namespace Cert.Kernel2Ideal.Last

open Idealize.ShloMosaic Idealize.ShloMosaic.TcCoe
open Idealize.SL Idealize.SL.Sem
open Cert.Kernel2Ideal Cert.Kernel2Ideal.Gen Cert.Row Cert.Ffn Cert.Blocks

variable (m : (ℓ : Loc nD τ sig) → Buf (Elt Ideal) ℓ)

abbrev aX (c : Dev nD) : FVec Ideal S2x16384x1024 .f32 := m ((c : Thread nD τ).loc main_arg0)
abbrev aM (c : Dev nD) : FVec Ideal S2x3x1024 .f32 := m ((c : Thread nD τ).loc main_arg1)
abbrev aG (c : Dev nD) : FVec Ideal S2x3x1024 .f32 := m ((c : Thread nD τ).loc main_arg2)
abbrev aI (c : Dev nD) : FVec Ideal S2x2x1024x5632 .f32 := m ((c : Thread nD τ).loc main_arg3)
abbrev aO (c : Dev nD) : FVec Ideal S2x2x2816x1024 .f32 := m ((c : Thread nD τ).loc main_arg4)
abbrev aF (c : Dev nD) : FVec Ideal S1024 .f32 := m ((c : Thread nD τ).loc main_arg5)

theorem gain_pt (c : Dev nD) (d : Fin 1024) : (V m c main_v4 : FVec Ideal S1x1024 .f32) (ix2 0 d) = aG m c (ix3 1 2 d) := by
  have e : (V m c main_v4 : FVec Ideal S1x1024 .f32) = shapeCast _ (shapeCast S1024
      (extractStridedSlice S1x1x1024 ![1, 2, 0] (aG m c) slices_S2x3x1024_S1x1x1024_1_2_0)
      shapeCasts_S1x1x1024_S1024) shapeCasts_S1024_S1x1024 := by
    unfold V; simp only [hostOps0]; after_reads_simp; rfl
  rw [e]
  pointwise []

theorem last_pt (c : Dev nD) (d : Fin 1024) : (V m c main_v5 : FVec Ideal S1x1024 .f32) (ix2 0 d) = aF m c (ix1 d) := by
  have e : (V m c main_v5 : FVec Ideal S1x1024 .f32) = shapeCast _ (aF m c) shapeCasts_S1024_S1x1024 := by
    unfold V; simp only [hostOps0]; after_reads_simp; rfl
  rw [e]
  pointwise []

theorem in_eq (c : Dev nD) : (V m c main_v2 : FVec Ideal S2x2x1024x5632 .bf16) = aI m c := by
  unfold V; simp only [hostOps0]; after_reads_simp; rfl

theorem out_eq (c : Dev nD) : (V m c main_v3 : FVec Ideal S2x2x2816x1024 .bf16) = aO m c := by
  unfold V; simp only [hostOps0]; after_reads_simp; rfl

/-- The batch of a grid point, and its place in the sequence, in blocks of 1024 rows. -/
abbrev bq (t : Fin cfg0.N) : Fin 2 := grid0.coords t 0
abbrev iq (t : Fin cfg0.N) : Fin 16 := grid0.coords t 1

theorem idx : ∀ t : Fin cfg0.N,
    win0_0.index t = ![(grid0.coords t 0).val, (grid0.coords t 1).val, 0] ∧
    win0_1.index t = ![(grid0.coords t 0).val, 0, 0] ∧ win0_2.index t = ![0, 0] ∧ win0_3.index t = ![1, 1, 0, 0] ∧
    win0_4.index t = ![1, 1, 0, 0] ∧ win0_5.index t = ![0, 0] ∧
    win0_6.index t = ![(grid0.coords t 0).val, (grid0.coords t 1).val, 0] :=
  (by decide +kernel : ∀ t : Fin grid0.N, _)

theorem blk0 (c : Dev nD) (t : Fin cfg0.N) (r l : Fin 1024) :
    (iblk m c 0 t : Vec Ideal S1x1024x1024 .f32) (ix3 0 r l) = aX m c (ix3 (bq t) ⟨(iq t).val * 1024 + r.val, by omega⟩ l) := by
  unfold aX
  rw [← V_main_arg0 m c]
  blk_ext [iblk, idx t] <;> exact Nat.add_zero _

theorem blk1 (c : Dev nD) (t : Fin cfg0.N) (k : Fin 3) (l : Fin 1024) :
    (iblk m c 1 t : Vec Ideal S1x3x1024 .f32) (ix3 0 k l) = aM m c (ix3 (bq t) k l) := by
  unfold aM
  rw [← V_main_arg1 m c]
  blk_ext [iblk, idx t] <;> exact Nat.add_zero _

theorem blk2 (c : Dev nD) (t : Fin cfg0.N) (l : Fin 1024) :
    (iblk m c 2 t : Vec Ideal S1x1024 .f32) (ix2 0 l) = aG m c (ix3 1 2 l) := by
  rw [← gain_pt]
  blk_ext [iblk, idx t]

theorem blk3 (c : Dev nD) (t : Fin cfg0.N) (d : Fin 1024) (j : Fin 5632) :
    (iblk m c 3 t : Vec Ideal S1x1x1024x5632 .bf16) (ix4 0 0 d j) = aI m c (ix4 1 1 d j) := by
  rw [← in_eq]
  blk_ext [iblk, idx t]

theorem blk4 (c : Dev nD) (t : Fin cfg0.N) (j : Fin 2816) (l : Fin 1024) :
    (iblk m c 4 t : Vec Ideal S1x1x2816x1024 .bf16) (ix4 0 0 j l) = aO m c (ix4 1 1 j l) := by
  rw [← out_eq]
  blk_ext [iblk, idx t]

theorem blk5 (c : Dev nD) (t : Fin cfg0.N) (l : Fin 1024) :
    (iblk m c 5 t : Vec Ideal S1x1024 .f32) (ix2 0 l) = aF m c (ix1 l) := by
  rw [← last_pt]
  blk_ext [iblk, idx t]

theorem emb6 (t : Fin cfg0.N) (y : S1x1024x1024.Idx) :
    (((cfg0.win 6).blk t).view.emb y : S2x16384x1024.Idx) =
      ix3 (bq t) ⟨(iq t).val * 1024 + (y 1).val, by have : (y 1).val < 1024 := (y 1).isLt; have := (iq t).isLt; omega⟩ (y 2) := by
  blk_ext [idx t]

/-- The reference's result. -/
def res (X : FVec Ideal S2x16384x1024 .f32) (M G : FVec Ideal S2x3x1024 .f32) (I : FVec Ideal S2x2x1024x5632 .f32)
    (O : FVec Ideal S2x2x2816x1024 .f32) (Fg : FVec Ideal S1024 .f32) : FVec Ideal S2x16384x1024 .f32 :=
  norm (ffn X M (shapeCast S1024 (extractStridedSlice S1x1x1024 ![1, 2, 0] G Reference2Ideal.Gen.slices_S2x3x1024_S1x1x1024_1_2_0) Reference2Ideal.Gen.shapeCasts_S1x1x1024_S1024)
    (shapeCast Reference2Ideal.S1024x5632 (extractStridedSlice S1x1x1024x5632 ![1, 1, 0, 0] I Reference2Ideal.Gen.slices_S2x2x1024x5632_S1x1x1024x5632_1_1_0_0) Reference2Ideal.Gen.shapeCasts_S1x1x1024x5632_S1024x5632)
    (shapeCast S2816x1024 (extractStridedSlice S1x1x2816x1024 ![1, 1, 0, 0] O Reference2Ideal.Gen.slices_S2x2x2816x1024_S1x1x2816x1024_1_1_0_0) Reference2Ideal.Gen.shapeCasts_S1x1x2816x1024_S2816x1024)) Fg

theorem res_pt (X : FVec Ideal S2x16384x1024 .f32) (M G : FVec Ideal S2x3x1024 .f32) (I : FVec Ideal S2x2x1024x5632 .f32)
    (O : FVec Ideal S2x2x2816x1024 .f32) (Fg : FVec Ideal S1024 .f32) (b : Fin 2) (r : Fin 16384) (l : Fin 1024) :
    res X M G I O Fg (ix3 b r l) = normed (step (row X b r) (fun d => G (ix3 1 2 d)) (fun d => M (ix3 b 0 d))
      (fun d => M (ix3 b 1 d)) (fun d => M (ix3 b 2 d)) (fun d j => I (ix4 1 1 d (lo j))) (fun d j => I (ix4 1 1 d (hi j)))
      (fun j l => O (ix4 1 1 j l))) (fun d => Fg (ix1 d)) l := by
  unfold res
  rw [norm_pt]
  refine congrFun (congrArg (fun f => normed f (fun d => Fg (ix1 d))) (funext fun d => ?_)) l
  rw [row, ffn_pt]
  have e0 : ∀ d, shapeCast S1024 (extractStridedSlice S1x1x1024 ![1, 2, 0] G Reference2Ideal.Gen.slices_S2x3x1024_S1x1x1024_1_2_0)
      Reference2Ideal.Gen.shapeCasts_S1x1x1024_S1024 (ix1 d) = G (ix3 1 2 d) := fun d => by pointwise []
  have e1 : ∀ d j, shapeCast Reference2Ideal.S1024x5632 (extractStridedSlice S1x1x1024x5632 ![1, 1, 0, 0] I
      Reference2Ideal.Gen.slices_S2x2x1024x5632_S1x1x1024x5632_1_1_0_0) Reference2Ideal.Gen.shapeCasts_S1x1x1024x5632_S1024x5632
      (ix2 d j) = I (ix4 1 1 d j) := fun d j => by pointwise []
  have e2 : ∀ j l, shapeCast S2816x1024 (extractStridedSlice S1x1x2816x1024 ![1, 1, 0, 0] O
      Reference2Ideal.Gen.slices_S2x2x2816x1024_S1x1x2816x1024_1_1_0_0) Reference2Ideal.Gen.shapeCasts_S1x1x2816x1024_S2816x1024
      (ix2 j l) = O (ix4 1 1 j l) := fun j l => by pointwise []
  simp only [e0, e1, e2]

theorem block_eq (c : Dev nD) (t : Fin cfg0.N) (r l : Fin 1024) :
    out0_6 (iblk m c 0 t) (iblk m c 1 t) (iblk m c 2 t) (iblk m c 3 t) (iblk m c 4 t) (iblk m c 5 t) (ix3 0 r l) =
      res (aX m c) (aM m c) (aG m c) (aI m c) (aO m c) (aF m c) (ix3 (bq t) ⟨(iq t).val * 1024 + r.val, by omega⟩ l) := by
  rw [block_pt, res_pt]
  simp only [rowOf, blk0, blk1, blk2, blk3, blk4, blk5]

/-- The array the call leaves. -/
theorem final (c : Dev nD) : (dats m 0 c).arrAt 6 cfg0.N = res (aX m c) (aM m c) (aG m c) (aI m c) (aO m c) (aF m c) := by
  refine (dats m 0 c).arrAt_eq_of_covers 6 _ (by decide +kernel) fun t hf y => ?_
  blk_simp
  rw [after0_6]
  refine Eq.trans ?_ ((block_eq m c t (y 1) (y 2)).trans
    (congrArg (res (aX m c) (aM m c) (aG m c) (aI m c) (aO m c) (aF m c)) (emb6 t y).symm))
  exact congrArg (out0_6 (iblk m c 0 t) (iblk m c 1 t) (iblk m c 2 t) (iblk m c 3 t) (iblk m c 4 t) (iblk m c 5 t)) (by
    funext a
    fin_cases a
    · exact Fin.ext (by have : (y 0).val < 1 := (y 0).isLt; show (y 0).val = 0; omega)
    · rfl
    · rfl)

end Cert.Kernel2Ideal.Last

end

end
-- ==== Proof.LastSame.lean ====
/-
  The last feed-forward call: equal arguments, equal results.
-/
module

public import proofs.«01_k».proof.Defs
public import proofs.«01_k».proof.Proof.LastWin
public import proofs.«01_k».proof.Proof.Gen.Reference2Ideal.Run

@[expose] public section

set_option maxRecDepth 16384

noncomputable section

namespace Cert.Kernel2Ideal.Last

open Idealize.ShloMosaic Idealize.ShloMosaic.TcCoe
open Idealize.SL Idealize.SL.Sem

theorem ref_eq (m : (ℓ : Loc Cert.Reference2Ideal.nD Cert.Reference2Ideal.τ Cert.Reference2Ideal.sig) → Buf (Elt Ideal) ℓ)
    (c : Dev Cert.Reference2Ideal.nD) :
    Cert.Reference2Ideal.Value.res_out0 (F := Ideal) m c =
      res (m ((c.tc : Thread Cert.Reference2Ideal.nD Cert.Reference2Ideal.τ).loc Cert.Reference2Ideal.main_arg0))
        (m ((c.tc : Thread Cert.Reference2Ideal.nD Cert.Reference2Ideal.τ).loc Cert.Reference2Ideal.main_arg1))
        (m ((c.tc : Thread Cert.Reference2Ideal.nD Cert.Reference2Ideal.τ).loc Cert.Reference2Ideal.main_arg2))
        (m ((c.tc : Thread Cert.Reference2Ideal.nD Cert.Reference2Ideal.τ).loc Cert.Reference2Ideal.main_arg3))
        (m ((c.tc : Thread Cert.Reference2Ideal.nD Cert.Reference2Ideal.τ).loc Cert.Reference2Ideal.main_arg4))
        (m ((c.tc : Thread Cert.Reference2Ideal.nD Cert.Reference2Ideal.τ).loc Cert.Reference2Ideal.main_arg5)) := rfl

theorem same : Cert.algebraic_Kernel2Ideal_Reference2Ideal := by
  intro m ρ m' ρ' _ hagree
  refine ⟨_, Cert.Kernel2Ideal.Value.run_blocks m ρ, ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4, e5⟩ := hagree c
  refine (ref_eq m' c).trans ?_
  rw [final]
  unfold aX aM aG aI aO aF
  rw [e0, e1, e2, e3, e4, e5]

end Cert.Kernel2Ideal.Last

end

end
-- ==== Proof.ProjRef.lean ====
/-
  The reference of the call that makes the mixer's inputs, as array functions, and their values at an index.
-/
module

public import proofs.«01_k».proof.Proof.Ffn
public import proofs.«01_k».proof.Proof.Gen.Reference4Ideal.Run

@[expose] public section

set_option maxRecDepth 16384

noncomputable section

namespace Cert.Reference4Ideal.Proj

open Idealize.ShloMosaic Idealize.ShloMosaic.TcCoe Idealize.ShloMosaic.StableHlo
open Cert.Reference4Ideal Cert.Reference4Ideal.Gen Cert.Row Cert.Ffn

variable (X : FVec Ideal S2x16384x1024 .f32) (M N G : FVec Ideal S2x3x1024 .f32) (I : FVec Ideal S2x2x1024x5632 .f32)
  (O : FVec Ideal S2x2x2816x1024 .f32) (W : FVec Ideal S1024x2560 .f32)

/-- The residual after the half step. -/
def base : FVec Ideal S2x16384x1024 .f32 :=
  ffn X M (shapeCast S1024 (extractStridedSlice S1x1x1024 ![0, 0, 0] G slices_S2x3x1024_S1x1x1024_0_0_0) shapeCasts_S1x1x1024_S1024)
    (shapeCast S1024x5632 (extractStridedSlice S1x1x1024x5632 ![0, 0, 0, 0] I slices_S2x2x1024x5632_S1x1x1024x5632_0_0_0_0) shapeCasts_S1x1x1024x5632_S1024x5632)
    (shapeCast S2816x1024 (extractStridedSlice S1x1x2816x1024 ![0, 0, 0, 0] O slices_S2x2x2816x1024_S1x1x2816x1024_0_0_0_0) shapeCasts_S1x1x2816x1024_S2816x1024)

/-- The projection of the normalised, modulated residual. -/
def proj : FVec Ideal S2x16384x2560 .f32 :=
  Host.dotGeneral dot_S2x16384x1024_S1024x2560_S2x16384x2560_2_0_01_1_n_n none
    (modulate (base X M G I O) (shapeCast S1024 (extractStridedSlice S1x1x1024 ![0, 1, 0] G slices_S2x3x1024_S1x1x1024_0_1_0) shapeCasts_S1x1x1024_S1024) N) W

/-- The gated half of the projection's first part. -/
def glued (P : FVec Ideal S2x16384x2560 .f32) : FVec Ideal S2x16384x512 .f32 :=
  mulf (extractStridedSlice S2x16384x512 ![0, 0, 0] (extractStridedSlice S2x16384x1024 ![0, 0, 0] P slices_S2x16384x2560_S2x16384x1024_0_0_0) slices_S2x16384x1024_S2x16384x512_0_0_0)
    (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extractStridedSlice S2x16384x512 ![0, 0, 512] (extractStridedSlice S2x16384x1024 ![0, 0, 0] P slices_S2x16384x2560_S2x16384x1024_0_0_0) slices_S2x16384x1024_S2x16384x512_0_0_512)))))

/-- The projection's last part, with the sequence last. -/
def turned (P : FVec Ideal S2x16384x2560 .f32) : FVec Ideal S2x1536x16384 .f32 :=
  transpose S2x1536x16384 [0, 2, 1] (extractStridedSlice S2x16384x1536 ![0, 0, 1024] P slices_S2x16384x2560_S2x16384x1536_0_0_1024) transposes_S2x16384x1536_S2x1536x16384_0_2_1

/-- A row after the half step, and the row the projection takes. -/
abbrev xrow (b : Fin 2) (r : Fin 16384) : Fin 1024 → EReal :=
  step (row X b r) (fun d => G (ix3 0 0 d)) (fun d => M (ix3 b 0 d)) (fun d => M (ix3 b 1 d)) (fun d => M (ix3 b 2 d))
    (fun d j => I (ix4 0 0 d (lo j))) (fun d j => I (ix4 0 0 d (hi j))) (fun j l => O (ix4 0 0 j l))

abbrev nrow (b : Fin 2) (r : Fin 16384) : Fin 1024 → EReal :=
  modded (xrow X M G I O b r) (fun d => G (ix3 0 1 d)) (fun d => N (ix3 b 0 d)) (fun d => N (ix3 b 1 d))

theorem base_pt (b : Fin 2) (r : Fin 16384) (l : Fin 1024) : base X M G I O (ix3 b r l) = xrow X M G I O b r l := by
  unfold base
  rw [ffn_pt]
  have e0 : ∀ d, shapeCast S1024 (extractStridedSlice S1x1x1024 ![0, 0, 0] G slices_S2x3x1024_S1x1x1024_0_0_0)
      shapeCasts_S1x1x1024_S1024 (ix1 d) = G (ix3 0 0 d) := fun d => by pointwise []
  have e1 : ∀ d j, shapeCast S1024x5632 (extractStridedSlice S1x1x1024x5632 ![0, 0, 0, 0] I
      slices_S2x2x1024x5632_S1x1x1024x5632_0_0_0_0) shapeCasts_S1x1x1024x5632_S1024x5632
      (ix2 d j) = I (ix4 0 0 d j) := fun d j => by pointwise []
  have e2 : ∀ j l, shapeCast S2816x1024 (extractStridedSlice S1x1x2816x1024 ![0, 0, 0, 0] O
      slices_S2x2x2816x1024_S1x1x2816x1024_0_0_0_0) shapeCasts_S1x1x2816x1024_S2816x1024
      (ix2 j l) = O (ix4 0 0 j l) := fun j l => by pointwise []
  simp only [e0, e1, e2]

theorem proj_pt (b : Fin 2) (r : Fin 16384) (j : Fin 2560) :
    proj X M N G I O W (ix3 b r j) = times (nrow X M N G I O b r) (fun d j => W (ix2 d j)) j := by
  have e0 : ∀ d, shapeCast S1024 (extractStridedSlice S1x1x1024 ![0, 1, 0] G slices_S2x3x1024_S1x1x1024_0_1_0)
      shapeCasts_S1x1x1024_S1024 (ix1 d) = G (ix3 0 1 d) := fun d => by pointwise []
  have e : ∀ d, modulate (base X M G I O) (shapeCast S1024 (extractStridedSlice S1x1x1024 ![0, 1, 0] G
      slices_S2x3x1024_S1x1x1024_0_1_0) shapeCasts_S1x1x1024_S1024) N (ix3 b r d) = nrow X M N G I O b r d := fun d => by
    rw [modulate_pt]
    simp only [e0]
    exact congrFun (congrArg (fun f => modded f _ _ _) (funext fun d => base_pt X M G I O b r d)) d
  unfold times
  simp only [← e]
  pointwise [proj]

/-- The first 1024 columns of the projection, the last 1536, and the gate on the first. -/
abbrev fst (j : Fin 1024) : Fin 2560 := ⟨j.val, by omega⟩
abbrev snd (n : Fin 1536) : Fin 2560 := ⟨1024 + n.val, by omega⟩
def half2 (p : Fin 1024 → EReal) (j : Fin 512) : EReal := p ⟨j.val, by omega⟩ * Ideal.logistic (p ⟨512 + j.val, by omega⟩)

theorem glued_pt (P : FVec Ideal S2x16384x2560 .f32) (b : Fin 2) (r : Fin 16384) (j : Fin 512) :
    glued P (ix3 b r j) = half2 (fun j => P (ix3 b r (fst j))) j := by
  unfold half2
  rw [← logistic_eq]
  pointwise [glued]

theorem turned_pt (P : FVec Ideal S2x16384x2560 .f32) (b : Fin 2) (n : Fin 1536) (r : Fin 16384) :
    turned P (ix3 b n r) = P (ix3 b r (snd n)) := by
  pointwise [turned]

theorem resA_pt (b : Fin 2) (r : Fin 16384) (j : Fin 512) : glued (proj X M N G I O W) (ix3 b r j) =
    half2 (times (nrow X M N G I O b r) (fun d j => W (ix2 d (fst j)))) j := by
  rw [glued_pt]
  simp only [proj_pt]
  rfl

theorem resZ_pt (b : Fin 2) (n : Fin 1536) (r : Fin 16384) : turned (proj X M N G I O W) (ix3 b n r) =
    times (nrow X M N G I O b r) (fun d n => W (ix2 d (snd n))) n := by
  rw [turned_pt, proj_pt]
  rfl

end Cert.Reference4Ideal.Proj

end

end
-- ==== Proof.Proj.lean ====
/-
  The call that makes the mixer's inputs: the values its body computes, at an index.
-/
module

public import proofs.«01_k».proof.Proof.Blocks
public import proofs.«01_k».proof.Proof.ProjRef
public import proofs.«01_k».proof.Proof.Gen.Kernel4Ideal.Value

@[expose] public section

set_option maxRecDepth 16384

noncomputable section

namespace Cert.Kernel4Ideal.Proj

open Idealize.ShloMosaic Idealize.ShloMosaic.TcCoe
open Cert.Kernel4Ideal Cert.Kernel4Ideal.Gen Cert.Row Cert.Ffn Cert.Blocks
open Cert.Reference4Ideal.Proj (half2)

theorem hid_pt (x : Vec Ideal S1x256x1024 .f32) (g : Vec Ideal S1x1024 .f32) (sh sc : Vec Ideal S1x1x1024 .f32)
    (r : Fin 256) (d : Fin 1024) :
    k0_pay3 (F := Ideal) x g sh sc (ix2 r d) =
      modded (fun d => x (ix3 0 r d)) (fun d => g (ix2 0 d)) (fun d => sh (ix3 0 0 d)) (fun d => sc (ix3 0 0 d)) d := by
  unfold modded normed rinv
  pointwise [k0_pay3, k0_pay2]

theorem gate_pt (x : Vec Ideal S1x256x1024 .f32) (g : Vec Ideal S1x1024 .f32) (sh sc : Vec Ideal S1x1x1024 .f32)
    (w : Vec Ideal S1x1x1024x2816 .bf16) (r : Fin 256) (j : Fin 2816) :
    k0_pay4 (F := Ideal) x g sh sc w (ix2 r j) =
      times (modded (fun d => x (ix3 0 r d)) (fun d => g (ix2 0 d)) (fun d => sh (ix3 0 0 d)) (fun d => sc (ix3 0 0 d)))
        (fun d j => w (ix4 0 0 d j)) j := by
  unfold times
  simp only [← hid_pt]
  pointwise [k0_pay4]

theorem out_pt (v : FVec Ideal S256x1024 .f32) (p q : FVec Ideal S256x2816 .f32) (gt : Vec Ideal S1x1x1024 .f32)
    (w : Vec Ideal S1x1x2816x1024 .bf16) (r : Fin 256) (l : Fin 1024) :
    k0_pay6 (F := Ideal) v p q gt w (ix2 r l) = v (ix2 r l) + half * gt (ix3 0 0 l) *
        times (gated (fun j => p (ix2 r j)) (fun j => q (ix2 r j))) (fun j l => w (ix4 0 0 j l)) l := by
  unfold times gated
  pointwise [k0_pay6]

theorem store_pt (v : FVec Ideal S256x1024 .f32) (r : Fin 256) (l : Fin 1024) :
    k0_pay23 (F := Ideal) v (ix3 0 r l) = v (ix2 r l) := by
  pointwise [k0_pay23]

theorem next_pt (v : FVec Ideal S256x1024 .f32) (g : Vec Ideal S1x1024 .f32) (sh sc : Vec Ideal S1x1x1024 .f32)
    (r : Fin 256) (d : Fin 1024) :
    k0_pay24 (F := Ideal) v g sh sc (ix2 r d) =
      modded (fun d => v (ix2 r d)) (fun d => g (ix2 0 d)) (fun d => sh (ix3 0 0 d)) (fun d => sc (ix3 0 0 d)) d := by
  unfold modded normed rinv
  pointwise [k0_pay24]

theorem a_pt (v : FVec Ideal S256x1024 .f32) (g : Vec Ideal S1x1024 .f32) (sh sc : Vec Ideal S1x1x1024 .f32)
    (w : Vec Ideal S1024x1024 .bf16) (r : Fin 256) (j : Fin 512) :
    k0_pay25 (F := Ideal) v g sh sc w (ix3 0 r j) =
      half2 (times (modded (fun d => v (ix2 r d)) (fun d => g (ix2 0 d)) (fun d => sh (ix3 0 0 d)) (fun d => sc (ix3 0 0 d)))
        (fun d j => w (ix2 d j))) j := by
  unfold half2 times
  simp only [← next_pt]
  pointwise [k0_pay25]

theorem z_pt (h : FVec Ideal S256x1024 .bf16) (w : Vec Ideal S1536x1024 .bf16) (n : Fin 1536) (r : Fin 256) :
    k0_pay1 (F := Ideal) h w (ix3 0 n r) = times (fun d => h (ix2 r d)) (fun d n => w (ix2 n d)) n := by
  have e : k0_pay1 (F := Ideal) h w (ix3 0 n r) = ∑ d : Fin 1024, w (ix2 n d) * h (ix2 r d) := by pointwise [k0_pay1]
  exact e.trans (Finset.sum_congr rfl fun _ _ => mul_comm _ _)

/-- 256 rows after the half step. -/
def body (x : Vec Ideal S1x256x1024 .f32) (x1 : Vec Ideal S1x3x1024 .f32) (x2 : Vec Ideal S1x1024 .f32)
    (x3 : Vec Ideal S1x1x1024x5632 .bf16) (x4 : Vec Ideal S1x1x2816x1024 .bf16) : FVec Ideal S256x1024 .f32 :=
  k0_pay6 (k0_pay2 x) (k0_pay4 x (View.ld x2 r0_1) (View.ld x1 r0_2) (View.ld x1 r0_3) (View.ld x3 r0_4))
    (k0_pay5 x (View.ld x2 r0_1) (View.ld x1 r0_2) (View.ld x1 r0_3) (View.ld x3 r0_5)) (View.ld x1 r0_6) (View.ld x4 r0_7)

/-- A row after the half step, and the row the projection takes, from the blocks of the arguments. -/
abbrev xOf (x : Fin 1024 → EReal) (x1 : Vec Ideal S1x3x1024 .f32) (x2 : Vec Ideal S1x1024 .f32)
    (x3 : Vec Ideal S1x1x1024x5632 .bf16) (x4 : Vec Ideal S1x1x2816x1024 .bf16) : Fin 1024 → EReal :=
  step x (fun d => x2 (ix2 0 d)) (fun d => x1 (ix3 0 0 d)) (fun d => x1 (ix3 0 1 d)) (fun d => x1 (ix3 0 2 d))
    (fun d j => x3 (ix4 0 0 d (lo j))) (fun d j => x3 (ix4 0 0 d (hi j))) (fun j l => x4 (ix4 0 0 j l))

abbrev nOf (x : Fin 1024 → EReal) (x1 : Vec Ideal S1x3x1024 .f32) (x2 : Vec Ideal S1x1024 .f32)
    (x3 : Vec Ideal S1x1x1024x5632 .bf16) (x4 : Vec Ideal S1x1x2816x1024 .bf16) (x5 : Vec Ideal S1x3x1024 .f32)
    (x6 : Vec Ideal S1x1024 .f32) : Fin 1024 → EReal :=
  modded (xOf x x1 x2 x3 x4) (fun d => x6 (ix2 0 d)) (fun d => x5 (ix3 0 0 d)) (fun d => x5 (ix3 0 1 d))

theorem gain_at (x2 : Vec Ideal S1x1024 .f32) (d : Fin 1024) : View.ld x2 r0_1 (ix2 0 d) = x2 (ix2 0 d) :=
  at2 x2 _ _ 0 d 0 d rfl (Nat.zero_add _).symm

theorem shift_at (x1 : Vec Ideal S1x3x1024 .f32) (d : Fin 1024) : View.ld x1 r0_2 (ix3 0 0 d) = x1 (ix3 0 0 d) :=
  at3 x1 _ _ 0 0 d 0 0 d rfl rfl (Nat.zero_add _).symm

theorem scale_at (x1 : Vec Ideal S1x3x1024 .f32) (d : Fin 1024) : View.ld x1 r0_3 (ix3 0 0 d) = x1 (ix3 0 1 d) :=
  at3 x1 _ _ 0 0 d 0 1 d rfl rfl (Nat.zero_add _).symm

variable (x1 : Vec Ideal S1x3x1024 .f32) (x2 : Vec Ideal S1x1024 .f32) (x3 : Vec Ideal S1x1x1024x5632 .bf16)
  (x4 : Vec Ideal S1x1x2816x1024 .bf16) (x5 : Vec Ideal S1x3x1024 .f32) (x6 : Vec Ideal S1x1024 .f32)
  (x7 : Vec Ideal S1024x1024 .bf16) (x8 : Vec Ideal S1536x1024 .bf16)

theorem body_pt (x : Vec Ideal S1x256x1024 .f32) (r : Fin 256) (l : Fin 1024) :
    body x x1 x2 x3 x4 (ix2 r l) = xOf (fun d => x (ix3 0 r d)) x1 x2 x3 x4 l := by
  have e0 : ∀ l, k0_pay2 (F := Ideal) x (ix2 r l) = x (ix3 0 r l) := fun l => by pointwise [k0_pay2]
  have e4 : ∀ d j, View.ld x3 r0_4 (ix4 0 0 d j) = x3 (ix4 0 0 d (lo j)) := fun d j =>
    at4 x3 _ _ 0 0 d j 0 0 d (lo j) rfl rfl (Nat.zero_add _).symm (Nat.zero_add _).symm
  have e5 : ∀ d j, View.ld x3 r0_5 (ix4 0 0 d j) = x3 (ix4 0 0 d (hi j)) := fun d j =>
    at4 x3 _ _ 0 0 d j 0 0 d (hi j) rfl rfl (Nat.zero_add _).symm rfl
  have e6 : ∀ d, View.ld x1 r0_6 (ix3 0 0 d) = x1 (ix3 0 2 d) := fun d => at3 x1 _ _ 0 0 d 0 2 d rfl rfl (Nat.zero_add _).symm
  have e7 : ∀ j l, View.ld x4 r0_7 (ix4 0 0 j l) = x4 (ix4 0 0 j l) := fun j l =>
    at4 x4 _ _ 0 0 j l 0 0 j l rfl rfl (Nat.zero_add _).symm (Nat.zero_add _).symm
  unfold body xOf step
  rw [out_pt]
  simp only [gate_pt, show ∀ x g sh sc w, k0_pay5 (F := Ideal) x g sh sc w = k0_pay4 x g sh sc w from fun _ _ _ _ _ => rfl,
    e0, gain_at x2, shift_at x1, scale_at x1, e4, e5, e6, e7]

/-- The three blocks the body stores for 256 rows. -/
def pieceX (x : Vec Ideal S1x256x1024 .f32) : FVec Ideal S1x256x1024 .f32 := k0_pay23 (body x x1 x2 x3 x4)
def pieceA (x : Vec Ideal S1x256x1024 .f32) : FVec Ideal S1x256x512 .f32 :=
  k0_pay25 (body x x1 x2 x3 x4) (View.ld x6 r0_1) (View.ld x5 r0_2) (View.ld x5 r0_3) (View.ld x7 r0_9)
def pieceZ (x : Vec Ideal S1x256x1024 .f32) : FVec Ideal S1x1536x256 .f32 :=
  k0_pay1 (k0_pay24 (body x x1 x2 x3 x4) (View.ld x6 r0_1) (View.ld x5 r0_2) (View.ld x5 r0_3)) (View.ld x8 r0_11)

theorem pieceX_pt (x : Vec Ideal S1x256x1024 .f32) (r : Fin 256) (l : Fin 1024) :
    pieceX x1 x2 x3 x4 x (ix3 0 r l) = xOf (fun d => x (ix3 0 r d)) x1 x2 x3 x4 l := by
  unfold pieceX
  rw [store_pt, body_pt]

theorem pieceA_pt (x : Vec Ideal S1x256x1024 .f32) (r : Fin 256) (j : Fin 512) :
    pieceA x1 x2 x3 x4 x5 x6 x7 x (ix3 0 r j) =
      half2 (times (nOf (fun d => x (ix3 0 r d)) x1 x2 x3 x4 x5 x6) (fun d j => x7 (ix2 d j))) j := by
  have e : ∀ d j, View.ld x7 r0_9 (ix2 d j) = x7 (ix2 d j) := fun d j =>
    at2 x7 _ _ d j d j (Nat.zero_add _).symm (Nat.zero_add _).symm
  unfold pieceA
  rw [a_pt]
  simp only [body_pt, gain_at x6, shift_at x5, scale_at x5, e]

theorem pieceZ_pt (x : Vec Ideal S1x256x1024 .f32) (n : Fin 1536) (r : Fin 256) :
    pieceZ x1 x2 x3 x4 x5 x6 x8 x (ix3 0 n r) =
      times (nOf (fun d => x (ix3 0 r d)) x1 x2 x3 x4 x5 x6) (fun d n => x8 (ix2 n d)) n := by
  have e : ∀ n d, View.ld x8 r0_11 (ix2 n d) = x8 (ix2 n d) := fun n d =>
    at2 x8 _ _ n d n d (Nat.zero_add _).symm (Nat.zero_add _).symm
  unfold pieceZ
  rw [z_pt]
  simp only [next_pt, body_pt, gain_at x6, shift_at x5, scale_at x5, e]

variable (x0 : Vec Ideal S1x512x1024 .f32)

/-- A row of the block is in the first or in the second half of it. -/
theorem halves (r : Fin 512) : (∃ y : Fin 256, r.val = 0 + y.val) ∨ ∃ y : Fin 256, r.val = 256 + y.val := by
  by_cases h : r.val < 256
  · exact .inl ⟨⟨r.val, h⟩, (Nat.zero_add _).symm⟩
  · exact .inr ⟨⟨r.val - 256, by omega⟩, by show r.val = 256 + (r.val - 256); omega⟩

theorem row_lo (r : Fin 512) (y : Fin 256) (h : r.val = 0 + y.val) :
    (fun d : Fin 1024 => View.ld x0 r0_0 (ix3 0 y d)) = fun d => x0 (ix3 0 r d) :=
  funext fun d => at3 x0 _ _ 0 y d 0 r d rfl h (Nat.zero_add _).symm

theorem row_hi (r : Fin 512) (y : Fin 256) (h : r.val = 256 + y.val) :
    (fun d : Fin 1024 => View.ld x0 r0_8 (ix3 0 y d)) = fun d => x0 (ix3 0 r d) :=
  funext fun d => at3 x0 _ _ 0 y d 0 r d rfl h (Nat.zero_add _).symm

/-- The blocks a grid point leaves, at an index. -/
theorem blockX_pt (r : Fin 512) (l : Fin 1024) :
    out0_9 x0 x1 x2 x3 x4 x5 x6 x7 x8 (ix3 0 r l) = xOf (fun d => x0 (ix3 0 r d)) x1 x2 x3 x4 l := by
  have e : out0_9 x0 x1 x2 x3 x4 x5 x6 x7 x8 = View.canon [⟨r0_8, pieceX x1 x2 x3 x4 (View.ld x0 r0_8)⟩,
      ⟨r0_0, pieceX x1 x2 x3 x4 (View.ld x0 r0_0)⟩] := rfl
  rw [e]
  refine two_pt _ _ _ _ _ _ 0 r l _ ?_ ?_ ?_
  · rcases halves r with ⟨y, h⟩ | ⟨y, h⟩
    · exact .inl ⟨0, y, l, rfl, h, (Nat.zero_add _).symm⟩
    · exact .inr ⟨0, y, l, rfl, h, (Nat.zero_add _).symm⟩
  · intro x y z h0 h1 h2
    obtain rfl : l = z := Fin.ext (h2.trans (Nat.zero_add _))
    rw [Subsingleton.elim x 0, pieceX_pt, row_lo x0 r y h1]
  · intro x y z h0 h1 h2
    obtain rfl : l = z := Fin.ext (h2.trans (Nat.zero_add _))
    rw [Subsingleton.elim x 0, pieceX_pt, row_hi x0 r y h1]

theorem blockA_pt (r : Fin 512) (j : Fin 512) :
    out0_10 x0 x1 x2 x3 x4 x5 x6 x7 x8 (ix3 0 r j) =
      half2 (times (nOf (fun d => x0 (ix3 0 r d)) x1 x2 x3 x4 x5 x6) (fun d j => x7 (ix2 d j))) j := by
  have e : out0_10 x0 x1 x2 x3 x4 x5 x6 x7 x8 = View.canon [⟨r0_13, pieceA x1 x2 x3 x4 x5 x6 x7 (View.ld x0 r0_8)⟩,
      ⟨r0_10, pieceA x1 x2 x3 x4 x5 x6 x7 (View.ld x0 r0_0)⟩] := rfl
  rw [e]
  refine two_pt _ _ _ _ _ _ 0 r j _ ?_ ?_ ?_
  · rcases halves r with ⟨y, h⟩ | ⟨y, h⟩
    · exact .inl ⟨0, y, j, rfl, h, (Nat.zero_add _).symm⟩
    · exact .inr ⟨0, y, j, rfl, h, (Nat.zero_add _).symm⟩
  · intro x y z h0 h1 h2
    obtain rfl : j = z := Fin.ext (h2.trans (Nat.zero_add _))
    rw [Subsingleton.elim x 0, pieceA_pt, row_lo x0 r y h1]
  · intro x y z h0 h1 h2
    obtain rfl : j = z := Fin.ext (h2.trans (Nat.zero_add _))
    rw [Subsingleton.elim x 0, pieceA_pt, row_hi x0 r y h1]

theorem blockZ_pt (n : Fin 1536) (r : Fin 512) :
    out0_11 x0 x1 x2 x3 x4 x5 x6 x7 x8 (ix3 0 n r) =
      times (nOf (fun d => x0 (ix3 0 r d)) x1 x2 x3 x4 x5 x6) (fun d n => x8 (ix2 n d)) n := by
  have e : out0_11 x0 x1 x2 x3 x4 x5 x6 x7 x8 = View.canon [⟨r0_14, pieceZ x1 x2 x3 x4 x5 x6 x8 (View.ld x0 r0_8)⟩,
      ⟨r0_12, pieceZ x1 x2 x3 x4 x5 x6 x8 (View.ld x0 r0_0)⟩] := rfl
  rw [e]
  refine two_pt _ _ _ _ _ _ 0 n r _ ?_ ?_ ?_
  · rcases halves r with ⟨y, h⟩ | ⟨y, h⟩
    · exact .inl ⟨0, n, y, rfl, (Nat.zero_add _).symm, h⟩
    · exact .inr ⟨0, n, y, rfl, (Nat.zero_add _).symm, h⟩
  · intro x y z h0 h1 h2
    obtain rfl : n = y := Fin.ext (h1.trans (Nat.zero_add _))
    rw [Subsingleton.elim x 0, pieceZ_pt, row_lo x0 r z h2]
  · intro x y z h0 h1 h2
    obtain rfl : n = y := Fin.ext (h1.trans (Nat.zero_add _))
    rw [Subsingleton.elim x 0, pieceZ_pt, row_hi x0 r z h2]

end Cert.Kernel4Ideal.Proj

end

end
-- ==== Proof.ProjWin.lean ====
/-
  The call that makes the mixer's inputs: which part of each array a grid point reads, and the arrays the call leaves.
-/
module

public import proofs.«01_k».proof.Defs
public import proofs.«01_k».proof.Proof.Proj
public import Idealize.ShloMosaic.Lib.StableHlo.ReadAt

@[expose] public section

set_option maxRecDepth 16384

noncomputable section

namespace Cert.Kernel4Ideal.Proj

open Idealize.ShloMosaic Idealize.ShloMosaic.TcCoe
open Idealize.SL Idealize.SL.Sem
open Cert.Kernel4Ideal Cert.Kernel4Ideal.Gen Cert.Row Cert.Ffn Cert.Blocks
open Cert.Reference4Ideal.Proj (half2 base proj glued turned base_pt resA_pt resZ_pt xrow nrow fst snd)

variable (m : (ℓ : Loc nD τ sig) → Buf (Elt Ideal) ℓ)

abbrev aX (c : Dev nD) : FVec Ideal S2x16384x1024 .f32 := m ((c : Thread nD τ).loc main_arg0)
abbrev aM (c : Dev nD) : FVec Ideal S2x3x1024 .f32 := m ((c : Thread nD τ).loc main_arg1)
abbrev aN (c : Dev nD) : FVec Ideal S2x3x1024 .f32 := m ((c : Thread nD τ).loc main_arg2)
abbrev aG (c : Dev nD) : FVec Ideal S2x3x1024 .f32 := m ((c : Thread nD τ).loc main_arg3)
abbrev aI (c : Dev nD) : FVec Ideal S2x2x1024x5632 .f32 := m ((c : Thread nD τ).loc main_arg4)
abbrev aO (c : Dev nD) : FVec Ideal S2x2x2816x1024 .f32 := m ((c : Thread nD τ).loc main_arg5)
abbrev aW (c : Dev nD) : FVec Ideal S1024x2560 .f32 := m ((c : Thread nD τ).loc main_arg6)

theorem gain_pt (c : Dev nD) (d : Fin 1024) : (V m c main_v11 : FVec Ideal S1x1024 .f32) (ix2 0 d) = aG m c (ix3 0 0 d) := by
  have e : (V m c main_v11 : FVec Ideal S1x1024 .f32) = shapeCast _ (shapeCast S1024
      (extractStridedSlice S1x1x1024 ![0, 0, 0] (aG m c) slices_S2x3x1024_S1x1x1024_0_0_0)
      shapeCasts_S1x1x1024_S1024) shapeCasts_S1024_S1x1024 := by
    unfold V; simp only [hostOps0]; after_reads_simp; rfl
  rw [e]
  pointwise []

theorem gain2_pt (c : Dev nD) (d : Fin 1024) : (V m c main_v12 : FVec Ideal S1x1024 .f32) (ix2 0 d) = aG m c (ix3 0 1 d) := by
  have e : (V m c main_v12 : FVec Ideal S1x1024 .f32) = shapeCast _ (shapeCast S1024
      (extractStridedSlice S1x1x1024 ![0, 1, 0] (aG m c) slices_S2x3x1024_S1x1x1024_0_1_0)
      shapeCasts_S1x1x1024_S1024) shapeCasts_S1024_S1x1024 := by
    unfold V; simp only [hostOps0]; after_reads_simp; rfl
  rw [e]
  pointwise []

theorem in_eq (c : Dev nD) : (V m c main_v7 : FVec Ideal S2x2x1024x5632 .bf16) = aI m c := by
  unfold V; simp only [hostOps0]; after_reads_simp; rfl

theorem out_eq (c : Dev nD) : (V m c main_v8 : FVec Ideal S2x2x2816x1024 .bf16) = aO m c := by
  unfold V; simp only [hostOps0]; after_reads_simp; rfl

theorem wa_pt (c : Dev nD) (d j : Fin 1024) : (V m c main_v1 : FVec Ideal S1024x1024 .bf16) (ix2 d j) = aW m c (ix2 d (fst j)) := by
  have e : (V m c main_v1 : FVec Ideal S1024x1024 .bf16) =
      extractStridedSlice S1024x1024 ![0, 0] (aW m c) slices_S1024x2560_S1024x1024_0_0 := by
    unfold V; simp only [hostOps0]; after_reads_simp; rfl
  rw [e]
  pointwise []

theorem wz_pt (c : Dev nD) (n : Fin 1536) (d : Fin 1024) :
    (V m c main_v4 : FVec Ideal S1536x1024 .bf16) (ix2 n d) = aW m c (ix2 d (snd n)) := by
  have e : (V m c main_v4 : FVec Ideal S1536x1024 .bf16) = transpose S1536x1024 [1, 0]
      (extractStridedSlice S1024x1536 ![0, 1024] (aW m c) slices_S1024x2560_S1024x1536_0_1024) transposes_S1024x1536_S1536x1024_1_0 := by
    unfold V; simp only [hostOps0]; after_reads_simp; rfl
  rw [e]
  pointwise []

/-- The batch of a grid point, and its place in the sequence, in blocks of 512 rows. -/
abbrev bq (t : Fin cfg0.N) : Fin 2 := grid0.coords t 0
abbrev iq (t : Fin cfg0.N) : Fin 32 := grid0.coords t 1
abbrev at' (t : Fin cfg0.N) (r : Fin 512) : Fin 16384 := ⟨(iq t).val * 512 + r.val, by omega⟩

theorem idx : ∀ t : Fin cfg0.N,
    win0_0.index t = ![(grid0.coords t 0).val, (grid0.coords t 1).val, 0] ∧
    win0_1.index t = ![(grid0.coords t 0).val, 0, 0] ∧ win0_2.index t = ![0, 0] ∧ win0_3.index t = ![0, 0, 0, 0] ∧
    win0_4.index t = ![0, 0, 0, 0] ∧ win0_5.index t = ![(grid0.coords t 0).val, 0, 0] ∧ win0_6.index t = ![0, 0] ∧
    win0_7.index t = ![0, 0] ∧ win0_8.index t = ![0, 0] ∧
    win0_9.index t = ![(grid0.coords t 0).val, (grid0.coords t 1).val, 0] ∧
    win0_10.index t = ![(grid0.coords t 0).val, (grid0.coords t 1).val, 0] ∧
    win0_11.index t = ![(grid0.coords t 0).val, 0, (grid0.coords t 1).val] :=
  (by decide +kernel : ∀ t : Fin grid0.N, _)

theorem blk0 (c : Dev nD) (t : Fin cfg0.N) (r : Fin 512) (l : Fin 1024) :
    (iblk m c 0 t : Vec Ideal S1x512x1024 .f32) (ix3 0 r l) = aX m c (ix3 (bq t) (at' t r) l) := by
  unfold aX
  rw [← V_main_arg0 m c]
  blk_ext [iblk, idx t] <;> exact Nat.add_zero _

theorem blk1 (c : Dev nD) (t : Fin cfg0.N) (k : Fin 3) (l : Fin 1024) :
    (iblk m c 1 t : Vec Ideal S1x3x1024 .f32) (ix3 0 k l) = aM m c (ix3 (bq t) k l) := by
  unfold aM
  rw [← V_main_arg1 m c]
  blk_ext [iblk, idx t] <;> exact Nat.add_zero _

theorem blk2 (c : Dev nD) (t : Fin cfg0.N) (l : Fin 1024) :
    (iblk m c 2 t : Vec Ideal S1x1024 .f32) (ix2 0 l) = aG m c (ix3 0 0 l) := by
  rw [← gain_pt]
  blk_ext [iblk, idx t]

theorem blk3 (c : Dev nD) (t : Fin cfg0.N) (d : Fin 1024) (j : Fin 5632) :
    (iblk m c 3 t : Vec Ideal S1x1x1024x5632 .bf16) (ix4 0 0 d j) = aI m c (ix4 0 0 d j) := by
  rw [← in_eq]
  blk_ext [iblk, idx t]

theorem blk4 (c : Dev nD) (t : Fin cfg0.N) (j : Fin 2816) (l : Fin 1024) :
    (iblk m c 4 t : Vec Ideal S1x1x2816x1024 .bf16) (ix4 0 0 j l) = aO m c (ix4 0 0 j l) := by
  rw [← out_eq]
  blk_ext [iblk, idx t]

theorem blk5 (c : Dev nD) (t : Fin cfg0.N) (k : Fin 3) (l : Fin 1024) :
    (iblk m c 5 t : Vec Ideal S1x3x1024 .f32) (ix3 0 k l) = aN m c (ix3 (bq t) k l) := by
  unfold aN
  rw [← V_main_arg2 m c]
  blk_ext [iblk, idx t] <;> exact Nat.add_zero _

theorem blk6 (c : Dev nD) (t : Fin cfg0.N) (l : Fin 1024) :
    (iblk m c 6 t : Vec Ideal S1x1024 .f32) (ix2 0 l) = aG m c (ix3 0 1 l) := by
  rw [← gain2_pt]
  blk_ext [iblk, idx t]

theorem blk7 (c : Dev nD) (t : Fin cfg0.N) (d j : Fin 1024) :
    (iblk m c 7 t : Vec Ideal S1024x1024 .bf16) (ix2 d j) = aW m c (ix2 d (fst j)) := by
  rw [← wa_pt]
  blk_ext [iblk, idx t]

theorem blk8 (c : Dev nD) (t : Fin cfg0.N) (n : Fin 1536) (d : Fin 1024) :
    (iblk m c 8 t : Vec Ideal S1536x1024 .bf16) (ix2 n d) = aW m c (ix2 d (snd n)) := by
  rw [← wz_pt]
  blk_ext [iblk, idx t]

theorem emb9 (t : Fin cfg0.N) (y : S1x512x1024.Idx) :
    (((cfg0.win 9).blk t).view.emb y : S2x16384x1024.Idx) = ix3 (bq t) (at' t (y 1)) (y 2) := by
  blk_ext [idx t]

theorem emb10 (t : Fin cfg0.N) (y : S1x512x512.Idx) :
    (((cfg0.win 10).blk t).view.emb y : S2x16384x512.Idx) = ix3 (bq t) (at' t (y 1)) (y 2) := by
  blk_ext [idx t]

theorem emb11 (t : Fin cfg0.N) (y : S1x1536x512.Idx) :
    (((cfg0.win 11).blk t).view.emb y : S2x1536x16384.Idx) = ix3 (bq t) (y 1) (at' t (y 2)) := by
  blk_ext [idx t]

theorem x_eq (c : Dev nD) (t : Fin cfg0.N) (r : Fin 512) :
    xOf (fun d => (iblk m c 0 t : Vec Ideal S1x512x1024 .f32) (ix3 0 r d)) (iblk m c 1 t) (iblk m c 2 t) (iblk m c 3 t) (iblk m c 4 t) =
      xrow (aX m c) (aM m c) (aG m c) (aI m c) (aO m c) (bq t) (at' t r) := by
  unfold xOf xrow
  simp only [blk0, blk1, blk2, blk3, blk4]

theorem n_eq (c : Dev nD) (t : Fin cfg0.N) (r : Fin 512) :
    nOf (fun d => (iblk m c 0 t : Vec Ideal S1x512x1024 .f32) (ix3 0 r d)) (iblk m c 1 t) (iblk m c 2 t) (iblk m c 3 t) (iblk m c 4 t)
        (iblk m c 5 t) (iblk m c 6 t) =
      nrow (aX m c) (aM m c) (aN m c) (aG m c) (aI m c) (aO m c) (bq t) (at' t r) := by
  unfold nOf nrow
  rw [x_eq]
  simp only [blk5, blk6]

/-- The blocks and the arrays the call leaves. -/
theorem blockX_eq (c : Dev nD) (t : Fin cfg0.N) (r : Fin 512) (l : Fin 1024) :
    out0_9 (iblk m c 0 t) (iblk m c 1 t) (iblk m c 2 t) (iblk m c 3 t) (iblk m c 4 t) (iblk m c 5 t) (iblk m c 6 t)
    (iblk m c 7 t) (iblk m c 8 t) (ix3 0 r l) =
      base (aX m c) (aM m c) (aG m c) (aI m c) (aO m c) (ix3 (bq t) (at' t r) l) := by
  rw [blockX_pt, x_eq]
  exact (base_pt _ _ _ _ _ _ _ _).symm

theorem finalX (c : Dev nD) : (dats m 0 c).arrAt 9 cfg0.N = base (aX m c) (aM m c) (aG m c) (aI m c) (aO m c) := by
  refine (dats m 0 c).arrAt_eq_of_covers 9 _ (by decide +kernel) fun t hf y => ?_
  blk_simp
  rw [after0_9]
  exact (congrArg (out0_9 (iblk m c 0 t) (iblk m c 1 t) (iblk m c 2 t) (iblk m c 3 t) (iblk m c 4 t) (iblk m c 5 t) (iblk m c 6 t)
    (iblk m c 7 t) (iblk m c 8 t)) (eq3 y)).trans
    ((blockX_eq m c t (y 1) (y 2)).trans (congrArg (base (aX m c) (aM m c) (aG m c) (aI m c) (aO m c)) (emb9 t y).symm))

theorem blockA_eq (c : Dev nD) (t : Fin cfg0.N) (r : Fin 512) (j : Fin 512) :
    out0_10 (iblk m c 0 t) (iblk m c 1 t) (iblk m c 2 t) (iblk m c 3 t) (iblk m c 4 t) (iblk m c 5 t) (iblk m c 6 t)
    (iblk m c 7 t) (iblk m c 8 t) (ix3 0 r j) =
      glued (proj (aX m c) (aM m c) (aN m c) (aG m c) (aI m c) (aO m c) (aW m c)) (ix3 (bq t) (at' t r) j) := by
  rw [blockA_pt, n_eq]
  simp only [blk7]
  exact (resA_pt _ _ _ _ _ _ _ _ _ _).symm

theorem finalA (c : Dev nD) : (dats m 0 c).arrAt 10 cfg0.N = glued (proj (aX m c) (aM m c) (aN m c) (aG m c) (aI m c) (aO m c) (aW m c)) := by
  refine (dats m 0 c).arrAt_eq_of_covers 10 _ (by decide +kernel) fun t hf y => ?_
  blk_simp
  rw [after0_10]
  exact (congrArg (out0_10 (iblk m c 0 t) (iblk m c 1 t) (iblk m c 2 t) (iblk m c 3 t) (iblk m c 4 t) (iblk m c 5 t) (iblk m c 6 t)
    (iblk m c 7 t) (iblk m c 8 t)) (eq3 y)).trans
    ((blockA_eq m c t (y 1) (y 2)).trans (congrArg (glued (proj (aX m c) (aM m c) (aN m c) (aG m c) (aI m c) (aO m c) (aW m c))) (emb10 t y).symm))

theorem blockZ_eq (c : Dev nD) (t : Fin cfg0.N) (n : Fin 1536) (r : Fin 512) :
    out0_11 (iblk m c 0 t) (iblk m c 1 t) (iblk m c 2 t) (iblk m c 3 t) (iblk m c 4 t) (iblk m c 5 t) (iblk m c 6 t)
    (iblk m c 7 t) (iblk m c 8 t) (ix3 0 n r) =
      turned (proj (aX m c) (aM m c) (aN m c) (aG m c) (aI m c) (aO m c) (aW m c)) (ix3 (bq t) n (at' t r)) := by
  rw [blockZ_pt, n_eq]
  simp only [blk8]
  exact (resZ_pt _ _ _ _ _ _ _ _ _ _).symm

theorem finalZ (c : Dev nD) : (dats m 0 c).arrAt 11 cfg0.N = turned (proj (aX m c) (aM m c) (aN m c) (aG m c) (aI m c) (aO m c) (aW m c)) := by
  refine (dats m 0 c).arrAt_eq_of_covers 11 _ (by decide +kernel) fun t hf y => ?_
  blk_simp
  rw [after0_11]
  exact (congrArg (out0_11 (iblk m c 0 t) (iblk m c 1 t) (iblk m c 2 t) (iblk m c 3 t) (iblk m c 4 t) (iblk m c 5 t) (iblk m c 6 t)
    (iblk m c 7 t) (iblk m c 8 t)) (eq3 y)).trans
    ((blockZ_eq m c t (y 1) (y 2)).trans (congrArg (turned (proj (aX m c) (aM m c) (aN m c) (aG m c) (aI m c) (aO m c) (aW m c))) (emb11 t y).symm))

/-- Equal arguments, equal results. -/
theorem same : Cert.algebraic_Kernel4Ideal_Reference4Ideal := by
  intro m ρ m' ρ' _ hagree
  refine ⟨_, _, _, Cert.Kernel4Ideal.Value.run_blocks m ρ, ?_⟩
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  all_goals obtain ⟨e0, e1, e2, e3, e4, e5, e6⟩ := hagree c
  · rw [finalX]
    unfold aX aM aG aI aO
    rw [← e0, ← e1, ← e3, ← e4, ← e5]
    rfl
  · rw [finalA]
    unfold aX aM aN aG aI aO aW
    rw [← e0, ← e1, ← e2, ← e3, ← e4, ← e5, ← e6]
    rfl
  · rw [finalZ]
    unfold aX aM aN aG aI aO aW
    rw [← e0, ← e1, ← e2, ← e3, ← e4, ← e5, ← e6]
    rfl

end Cert.Kernel4Ideal.Proj

end

end
-- ==== Proof.QkvRef.lean ====
/-
  The reference of the call that makes the queries, keys and values, as array functions, and their values at an index.
-/
module

public import proofs.«01_k».proof.Proof.HostPt
public import proofs.«01_k».proof.Proof.Ffn
public import proofs.«01_k».proof.Proof.Gen.Reference3Ideal.Run

@[expose] public section

set_option maxRecDepth 16384

noncomputable section

namespace Cert.Reference3Ideal.Qkv

open Idealize.ShloMosaic Idealize.ShloMosaic.TcCoe Idealize.ShloMosaic.StableHlo
open Cert.Reference3Ideal Cert.Reference3Ideal.Gen Cert.Row Cert.Ffn
open Cert.KernelIdeal.Heads (lg log2_pos div_log eighth_bits)

variable (X : FVec Ideal S2x16384x1024 .f32) (M N G : FVec Ideal S2x3x1024 .f32) (I : FVec Ideal S2x2x1024x5632 .f32)
  (O : FVec Ideal S2x2x2816x1024 .f32) (W : FVec Ideal S1024x1536 .f32)

/-- The residual after the half step. -/
def base : FVec Ideal S2x16384x1024 .f32 :=
  ffn X M (shapeCast S1024 (extractStridedSlice S1x1x1024 ![1, 0, 0] G slices_S2x3x1024_S1x1x1024_1_0_0) shapeCasts_S1x1x1024_S1024)
    (shapeCast S1024x5632 (extractStridedSlice S1x1x1024x5632 ![1, 0, 0, 0] I slices_S2x2x1024x5632_S1x1x1024x5632_1_0_0_0) shapeCasts_S1x1x1024x5632_S1024x5632)
    (shapeCast S2816x1024 (extractStridedSlice S1x1x2816x1024 ![1, 0, 0, 0] O slices_S2x2x2816x1024_S1x1x2816x1024_1_0_0_0) shapeCasts_S1x1x2816x1024_S2816x1024)

/-- The projection of the normalised, modulated residual. -/
def proj : FVec Ideal S2x16384x1536 .f32 :=
  Host.dotGeneral dot_S2x16384x1024_S1024x1536_S2x16384x1536_2_0_01_1_n_n none
    (modulate (base X M G I O) (shapeCast S1024 (extractStridedSlice S1x1x1024 ![1, 1, 0] G slices_S2x3x1024_S1x1x1024_1_1_0) shapeCasts_S1x1x1024_S1024) N) W

/-- The queries, over eight and over `log 2`. -/
def query (P : FVec Ideal S2x16384x1536 .f32) : FVec Ideal S2x16384x1024 .bf16 :=
  truncf .bf16 (Host.divf (mulf (extractStridedSlice S2x16384x1024 ![0, 0, 0] P slices_S2x16384x1536_S2x16384x1024_0_0_0)
    (broadcastInDim S2x16384x1024 ![] bcast_S_S2x16384x1024 (constant S_ .f32 0x3E000000#32)))
    (broadcastInDim S2x16384x1024 ![] bcast_S_S2x16384x1024 (Host.log (constant S_ .f32 0x40000000#32)))) bitsLt_bf16_f32

/-- The columns as they are, then with the two heads of each pair swapped. -/
def both (T : FVec Ideal S2x16384x256 .f32) : FVec Ideal S2x16384x512 .bf16 :=
  truncf .bf16 (concatenate S2x16384x512 2 [⟨S2x16384x256, T⟩, ⟨S2x16384x256, shapeCast _
    (Host.reverse [3] (shapeCast _ T shapeCasts_S2x16384x256_S2x16384x2x2x64)) shapeCasts_S2x16384x2x2x64_S2x16384x256⟩]
    concatenates_S2x16384x256_S2x16384x256_S2x16384x512_d2) bitsLt_bf16_f32

def key (P : FVec Ideal S2x16384x1536 .f32) : FVec Ideal S2x16384x512 .bf16 :=
  both (extractStridedSlice S2x16384x256 ![0, 0, 1024] P slices_S2x16384x1536_S2x16384x256_0_0_1024)

def value (P : FVec Ideal S2x16384x1536 .f32) : FVec Ideal S2x16384x512 .bf16 :=
  both (extractStridedSlice S2x16384x256 ![0, 0, 1280] P slices_S2x16384x1536_S2x16384x256_0_0_1280)

/-- A row after the half step, and the row the projection takes. -/
abbrev xrow (b : Fin 2) (r : Fin 16384) : Fin 1024 → EReal :=
  step (row X b r) (fun d => G (ix3 1 0 d)) (fun d => M (ix3 b 0 d)) (fun d => M (ix3 b 1 d)) (fun d => M (ix3 b 2 d))
    (fun d j => I (ix4 1 0 d (lo j))) (fun d j => I (ix4 1 0 d (hi j))) (fun j l => O (ix4 1 0 j l))

abbrev nrow (b : Fin 2) (r : Fin 16384) : Fin 1024 → EReal :=
  modded (xrow X M G I O b r) (fun d => G (ix3 1 1 d)) (fun d => N (ix3 b 0 d)) (fun d => N (ix3 b 1 d))

theorem base_pt (b : Fin 2) (r : Fin 16384) (l : Fin 1024) : base X M G I O (ix3 b r l) = xrow X M G I O b r l := by
  unfold base
  rw [ffn_pt]
  have e0 : ∀ d, shapeCast S1024 (extractStridedSlice S1x1x1024 ![1, 0, 0] G slices_S2x3x1024_S1x1x1024_1_0_0)
      shapeCasts_S1x1x1024_S1024 (ix1 d) = G (ix3 1 0 d) := fun d => by pointwise []
  have e1 : ∀ d j, shapeCast S1024x5632 (extractStridedSlice S1x1x1024x5632 ![1, 0, 0, 0] I
      slices_S2x2x1024x5632_S1x1x1024x5632_1_0_0_0) shapeCasts_S1x1x1024x5632_S1024x5632
      (ix2 d j) = I (ix4 1 0 d j) := fun d j => by pointwise []
  have e2 : ∀ j l, shapeCast S2816x1024 (extractStridedSlice S1x1x2816x1024 ![1, 0, 0, 0] O
      slices_S2x2x2816x1024_S1x1x2816x1024_1_0_0_0) shapeCasts_S1x1x2816x1024_S2816x1024
      (ix2 j l) = O (ix4 1 0 j l) := fun j l => by pointwise []
  simp only [e0, e1, e2]

theorem proj_pt (b : Fin 2) (r : Fin 16384) (j : Fin 1536) :
    proj X M N G I O W (ix3 b r j) = times (nrow X M N G I O b r) (fun d j => W (ix2 d j)) j := by
  have e0 : ∀ d, shapeCast S1024 (extractStridedSlice S1x1x1024 ![1, 1, 0] G slices_S2x3x1024_S1x1x1024_1_1_0)
      shapeCasts_S1x1x1024_S1024 (ix1 d) = G (ix3 1 1 d) := fun d => by pointwise []
  have e : ∀ d, modulate (base X M G I O) (shapeCast S1024 (extractStridedSlice S1x1x1024 ![1, 1, 0] G
      slices_S2x3x1024_S1x1x1024_1_1_0) shapeCasts_S1x1x1024_S1024) N (ix3 b r d) = nrow X M N G I O b r d := fun d => by
    rw [modulate_pt]
    simp only [e0]
    exact congrFun (congrArg (fun f => modded f _ _ _) (funext fun d => base_pt X M G I O b r d)) d
  unfold times
  simp only [← e]
  pointwise [proj]

/-- The column that each column of `both` copies. -/
def place (j : Fin 512) : Fin 256 :=
  ⟨if j.val < 256 then j.val else if j.val < 384 then (j.val - 192) % 128 else 128 + (j.val - 320) % 128, by split_ifs <;> omega⟩

theorem place_of (f : Fin 256 → EReal) (j : Fin 512) (w : Fin 256)
    (h : w.val = if j.val < 256 then j.val else if j.val < 384 then (j.val - 192) % 128 else 128 + (j.val - 320) % 128) :
    f w = f (place j) := congrArg f (Fin.ext h)

/-- The columns of the queries, of the keys and of the values. -/
abbrev qcol (j : Fin 1024) : Fin 1536 := ⟨j.val, by omega⟩
abbrev kcol (j : Fin 256) : Fin 1536 := ⟨1024 + j.val, by omega⟩
abbrev vcol (j : Fin 256) : Fin 1536 := ⟨1280 + j.val, by omega⟩

/-- The factor `1 / (8 log 2)`. -/
def qs : EReal := (((Real.log 256)⁻¹ : ℝ) : EReal)

theorem qs_eq (x : EReal) : Ideal.div (x * Ideal.ofBits FTy.f32 0x3E000000#32) (Ideal.log (Ideal.ofBits FTy.f32 0x40000000#32)) = x * qs := by
  have h : Real.log 256 = 8 * Real.log 2 := by
    rw [show (256 : ℝ) = 2 ^ 8 by norm_num, Real.log_pow]
    norm_num
  rw [div_log, eighth_bits, mul_comm, mul_assoc]
  unfold lg qs
  rw [← EReal.coe_mul, h, mul_inv]

theorem query_pt (P : FVec Ideal S2x16384x1536 .f32) (b : Fin 2) (r : Fin 16384) (j : Fin 1024) :
    query P (ix3 b r j) = P (ix3 b r (qcol j)) * qs := by
  rw [← qs_eq]
  pointwise [query]

theorem both_raw (T : FVec Ideal S2x16384x256 .f32) (b : Fin 2) (r : Fin 16384) (j : Fin 512) :
    both T (ix3 b r j) = if h : j.val < 256 then T (ix3 b r ⟨j.val, h⟩)
      else T (ix3 b r ⟨(j.val - 256) / 128 * 128 + (2 - ((j.val - 256) / 64 % 2 + 1)) * 64 + (j.val - 256) % 64, by omega⟩) := by
  pointwise [both]
  rfl

theorem both_pt (T : FVec Ideal S2x16384x256 .f32) (b : Fin 2) (r : Fin 16384) (j : Fin 512) :
    both T (ix3 b r j) = T (ix3 b r (place j)) := by
  rw [both_raw]
  by_cases h : j.val < 256
  · rw [dif_pos h]
    exact place_of (fun w => T (ix3 b r w)) j _ (if_pos h).symm
  · rw [dif_neg h]
    refine place_of (fun w => T (ix3 b r w)) j _ ((if_neg h).trans ?_).symm
    simp only
    split_ifs <;> omega

theorem key_pt (P : FVec Ideal S2x16384x1536 .f32) (b : Fin 2) (r : Fin 16384) (j : Fin 512) :
    key P (ix3 b r j) = P (ix3 b r (kcol (place j))) := by
  unfold key
  rw [both_pt]
  pointwise []

theorem value_pt (P : FVec Ideal S2x16384x1536 .f32) (b : Fin 2) (r : Fin 16384) (j : Fin 512) :
    value P (ix3 b r j) = P (ix3 b r (vcol (place j))) := by
  unfold value
  rw [both_pt]
  pointwise []

end Cert.Reference3Ideal.Qkv

end

end
-- ==== Proof.Qkv.lean ====
/-
  The call that makes the queries, keys and values: the values its body computes, at an index. Up to the projection
  the body is that of the call that makes the mixer's inputs.
-/
module

public import proofs.«01_k».proof.Proof.Proj
public import proofs.«01_k».proof.Proof.QkvRef
public import proofs.«01_k».proof.Proof.Gen.Kernel3Ideal.Value

@[expose] public section

set_option maxRecDepth 16384

noncomputable section

namespace Cert.Kernel3Ideal.Qkv

open Idealize.ShloMosaic Idealize.ShloMosaic.TcCoe
open Cert.Kernel3Ideal Cert.Kernel3Ideal.Gen Cert.Row Cert.Ffn Cert.Blocks
open Cert.Reference3Ideal.Qkv (place place_of qcol kcol vcol qs)
open Cert.Kernel4Ideal.Proj (body body_pt xOf nOf next_pt pieceX pieceX_pt gain_at shift_at scale_at halves row_lo row_hi)

/-- The product of the projection for 256 rows. -/
def prod (v : FVec Ideal S256x1024 .f32) (g : Vec Ideal S1x1024 .f32) (sh sc : Vec Ideal S1x1x1024 .f32)
    (w : Vec Ideal S1024x1536 .bf16) : FVec Ideal S256x1536 .f32 :=
  matmul dot_S256x1024_S1024x1536_S256x1536_1_0_0_1_n_n none (Cert.Kernel4Ideal.Gen.k0_pay24 v g sh sc : FVec Ideal S256x1024 .bf16)
    (shapeCast S1024x1536 w shapeCasts_S1024x1536_S1024x1536 : FVec Ideal S1024x1536 .bf16) (constant S256x1536 .f32 0x00000000#32)

theorem prod_pt (v : FVec Ideal S256x1024 .f32) (g : Vec Ideal S1x1024 .f32) (sh sc : Vec Ideal S1x1x1024 .f32)
    (w : Vec Ideal S1024x1536 .bf16) (r : Fin 256) (j : Fin 1536) : prod v g sh sc w (ix2 r j) =
      times (modded (fun d => v (ix2 r d)) (fun d => g (ix2 0 d)) (fun d => sh (ix3 0 0 d)) (fun d => sc (ix3 0 0 d)))
        (fun d j => w (ix2 d j)) j := by
  unfold times
  simp only [← next_pt]
  pointwise [prod]

/-- The queries stored, from the product. -/
def query (P : FVec Ideal S256x1536 .f32) : FVec Ideal S1x256x1024 .bf16 :=
  shapeCast S1x256x1024 (truncf .bf16 (mulf (extractStridedSlice S256x1024 ![0, 0] P slices_S256x1536_o0_0_S256x1024)
    (broadcast S256x1024 (Named.named κ "qscale" 0x3E38AA3B#32))) bitsLt_bf16_f32 : FVec Ideal S256x1024 .bf16) shapeCasts_S256x1024_S1x256x1024

/-- The keys or the values stored, from their columns of the product. -/
def both (T : FVec Ideal S256x256 .f32) : FVec Ideal S1x256x512 .bf16 :=
  shapeCast S1x256x512 (truncf .bf16 (concatenate S256x512 1 [⟨S256x256, T⟩,
    ⟨S256x128, dynamicRotate 1 64#32 none (extractStridedSlice S256x128 ![0, 0] T slices_S256x256_o0_0_S256x128) rotates_S256x128_d1⟩,
    ⟨S256x128, dynamicRotate 1 64#32 none (extractStridedSlice S256x128 ![0, 128] T slices_S256x256_o0_128_S256x128) rotates_S256x128_d1⟩]
    concatenates_S256x256_S256x128_S256x128_S256x512_d1) bitsLt_bf16_f32 : FVec Ideal S256x512 .bf16) shapeCasts_S256x512_S1x256x512

theorem query_pt (P : FVec Ideal S256x1536 .f32) (r : Fin 256) (j : Fin 1024) : query P (ix3 0 r j) = P (ix2 r (qcol j)) * qs := by
  have e : (Named.named κ "qscale" 0x3E38AA3B#32 : Ideal .f32) = qs := rfl
  rw [← e]
  pointwise [query]

theorem both_pt (T : FVec Ideal S256x256 .f32) (r : Fin 256) (j : Fin 512) : both T (ix3 0 r j) = T (ix2 r (place j)) := by
  have e : both T (ix3 0 r j) = if h : j.val < 256 then T (ix2 r ⟨j.val, h⟩)
      else if h : j.val - 256 < 128 then T (ix2 r ⟨(j.val - 256 + 128 - 64) % 128, by omega⟩)
      else T (ix2 r ⟨128 + (j.val - 256 - 128 + 128 - 64) % 128, by omega⟩) := by pointwise [both]
  rw [e]
  by_cases h : j.val < 256
  · rw [dif_pos h]
    exact place_of (fun w => T (ix2 r w)) j _ (if_pos h).symm
  · rw [dif_neg h]
    by_cases h' : j.val - 256 < 128
    · rw [dif_pos h']
      exact place_of (fun w => T (ix2 r w)) j _ (by simp only; split_ifs <;> omega)
    · rw [dif_neg h']
      exact place_of (fun w => T (ix2 r w)) j _ (by simp only; split_ifs <;> omega)

variable (x1 : Vec Ideal S1x3x1024 .f32) (x2 : Vec Ideal S1x1024 .f32) (x3 : Vec Ideal S1x1x1024x5632 .bf16)
  (x4 : Vec Ideal S1x1x2816x1024 .bf16) (x5 : Vec Ideal S1x3x1024 .f32) (x6 : Vec Ideal S1x1024 .f32)
  (x7 : Vec Ideal S1024x1536 .bf16)

/-- The product and the blocks the body stores for 256 rows. -/
def rows (x : Vec Ideal S1x256x1024 .f32) : FVec Ideal S256x1536 .f32 :=
  prod (body x x1 x2 x3 x4) (View.ld x6 r0_1) (View.ld x5 r0_2) (View.ld x5 r0_3) (View.ld x7 r0_9)
def pieceQ (x : Vec Ideal S1x256x1024 .f32) : FVec Ideal S1x256x1024 .bf16 := query (rows x1 x2 x3 x4 x5 x6 x7 x)
def pieceK (x : Vec Ideal S1x256x1024 .f32) : FVec Ideal S1x256x512 .bf16 :=
  both (extractStridedSlice S256x256 ![0, 1024] (rows x1 x2 x3 x4 x5 x6 x7 x) slices_S256x1536_o0_1024_S256x256)
def pieceV (x : Vec Ideal S1x256x1024 .f32) : FVec Ideal S1x256x512 .bf16 :=
  both (extractStridedSlice S256x256 ![0, 1280] (rows x1 x2 x3 x4 x5 x6 x7 x) slices_S256x1536_o0_1280_S256x256)

/-- An entry of the projection of a row. -/
abbrev pOf (x : Fin 1024 → EReal) : Fin 1536 → EReal := times (nOf x x1 x2 x3 x4 x5 x6) (fun d j => x7 (ix2 d j))

theorem rows_pt (x : Vec Ideal S1x256x1024 .f32) (r : Fin 256) (j : Fin 1536) :
    rows x1 x2 x3 x4 x5 x6 x7 x (ix2 r j) = pOf x1 x2 x3 x4 x5 x6 x7 (fun d => x (ix3 0 r d)) j := by
  have e : ∀ d j, View.ld x7 r0_9 (ix2 d j) = x7 (ix2 d j) := fun d j =>
    at2 x7 _ _ d j d j (Nat.zero_add _).symm (Nat.zero_add _).symm
  have e6 := gain_at x6
  have e5 := shift_at x5
  have e5' := scale_at x5
  unfold rows
  rw [prod_pt]
  simp only [body_pt, e6, e5, e5', e]

theorem pieceQ_pt (x : Vec Ideal S1x256x1024 .f32) (r : Fin 256) (j : Fin 1024) :
    pieceQ x1 x2 x3 x4 x5 x6 x7 x (ix3 0 r j) = pOf x1 x2 x3 x4 x5 x6 x7 (fun d => x (ix3 0 r d)) (qcol j) * qs := by
  unfold pieceQ
  rw [query_pt, rows_pt]

theorem pieceK_pt (x : Vec Ideal S1x256x1024 .f32) (r : Fin 256) (j : Fin 512) :
    pieceK x1 x2 x3 x4 x5 x6 x7 x (ix3 0 r j) = pOf x1 x2 x3 x4 x5 x6 x7 (fun d => x (ix3 0 r d)) (kcol (place j)) := by
  unfold pieceK
  rw [both_pt, ← rows_pt]
  pointwise []

theorem pieceV_pt (x : Vec Ideal S1x256x1024 .f32) (r : Fin 256) (j : Fin 512) :
    pieceV x1 x2 x3 x4 x5 x6 x7 x (ix3 0 r j) = pOf x1 x2 x3 x4 x5 x6 x7 (fun d => x (ix3 0 r d)) (vcol (place j)) := by
  unfold pieceV
  rw [both_pt, ← rows_pt]
  pointwise []

variable (x0 : Vec Ideal S1x512x1024 .f32)

/-- A block of rows stored in two halves, each a function of its row, read at an index. -/
theorem halves_pt {φ : EltTy} {n : ℕ} (inb0 inb1) (A : Vec Ideal S1x256x1024 .f32 → Vec Ideal ⟨3, ![1, 256, n]⟩ φ)
    (f : (Fin 1024 → EReal) → Fin n → Elt Ideal φ) (hA : ∀ x r j, A x (ix3 0 r j) = f (fun d => x (ix3 0 r d)) j)
    (r : Fin 512) (j : Fin n) :
    View.canon (Val := Elt Ideal) (e := φ)
      [⟨Rect.unit (s := ⟨3, ![1, 512, n]⟩) ![0, 256, 0] ![1, 256, n] inb1, A (View.ld x0 r0_8)⟩,
        ⟨Rect.unit (s := ⟨3, ![1, 512, n]⟩) ![0, 0, 0] ![1, 256, n] inb0, A (View.ld x0 r0_0)⟩] (ix3 0 r j) =
      f (fun d => x0 (ix3 0 r d)) j := by
  refine two_pt _ _ _ _ _ _ 0 r j _ ?_ ?_ ?_
  · rcases halves r with ⟨y, h⟩ | ⟨y, h⟩
    · exact .inl ⟨0, y, j, rfl, h, (Nat.zero_add _).symm⟩
    · exact .inr ⟨0, y, j, rfl, h, (Nat.zero_add _).symm⟩
  · intro x y z h0 h1 h2
    obtain rfl : j = z := Fin.ext (h2.trans (Nat.zero_add _))
    rw [Subsingleton.elim x 0, hA]
    exact congrArg (fun g => f g j) (row_lo x0 r y h1)
  · intro x y z h0 h1 h2
    obtain rfl : j = z := Fin.ext (h2.trans (Nat.zero_add _))
    rw [Subsingleton.elim x 0, hA]
    exact congrArg (fun g => f g j) (row_hi x0 r y h1)

/-- The blocks a grid point leaves, at an index. -/
theorem blockX_pt (r : Fin 512) (l : Fin 1024) :
    out0_8 x0 x1 x2 x3 x4 x5 x6 x7 (ix3 0 r l) = xOf (fun d => x0 (ix3 0 r d)) x1 x2 x3 x4 l := by
  have e : out0_8 x0 x1 x2 x3 x4 x5 x6 x7 = View.canon [⟨r0_8, pieceX x1 x2 x3 x4 (View.ld x0 r0_8)⟩,
      ⟨r0_0, pieceX x1 x2 x3 x4 (View.ld x0 r0_0)⟩] := rfl
  rw [e]
  exact halves_pt (φ := .f32) (n := 1024) x0 _ _ (pieceX x1 x2 x3 x4) (fun x => xOf x x1 x2 x3 x4) (pieceX_pt x1 x2 x3 x4) r l

theorem blockQ_pt (r : Fin 512) (j : Fin 1024) :
    out0_9 x0 x1 x2 x3 x4 x5 x6 x7 (ix3 0 r j) = pOf x1 x2 x3 x4 x5 x6 x7 (fun d => x0 (ix3 0 r d)) (qcol j) * qs := by
  have e : out0_9 x0 x1 x2 x3 x4 x5 x6 x7 = View.canon [⟨r0_8, pieceQ x1 x2 x3 x4 x5 x6 x7 (View.ld x0 r0_8)⟩,
      ⟨r0_0, pieceQ x1 x2 x3 x4 x5 x6 x7 (View.ld x0 r0_0)⟩] := rfl
  rw [e]
  exact halves_pt (φ := .bf16) (n := 1024) x0 _ _ (pieceQ x1 x2 x3 x4 x5 x6 x7) (fun x j => pOf x1 x2 x3 x4 x5 x6 x7 x (qcol j) * qs)
    (pieceQ_pt x1 x2 x3 x4 x5 x6 x7) r j

theorem blockK_pt (r : Fin 512) (j : Fin 512) :
    out0_10 x0 x1 x2 x3 x4 x5 x6 x7 (ix3 0 r j) = pOf x1 x2 x3 x4 x5 x6 x7 (fun d => x0 (ix3 0 r d)) (kcol (place j)) := by
  have e : out0_10 x0 x1 x2 x3 x4 x5 x6 x7 = View.canon [⟨r0_11, pieceK x1 x2 x3 x4 x5 x6 x7 (View.ld x0 r0_8)⟩,
      ⟨r0_10, pieceK x1 x2 x3 x4 x5 x6 x7 (View.ld x0 r0_0)⟩] := rfl
  rw [e]
  exact halves_pt (φ := .bf16) (n := 512) x0 _ _ (pieceK x1 x2 x3 x4 x5 x6 x7) (fun x j => pOf x1 x2 x3 x4 x5 x6 x7 x (kcol (place j)))
    (pieceK_pt x1 x2 x3 x4 x5 x6 x7) r j

theorem blockV_pt (r : Fin 512) (j : Fin 512) :
    out0_11 x0 x1 x2 x3 x4 x5 x6 x7 (ix3 0 r j) = pOf x1 x2 x3 x4 x5 x6 x7 (fun d => x0 (ix3 0 r d)) (vcol (place j)) := by
  have e : out0_11 x0 x1 x2 x3 x4 x5 x6 x7 = View.canon [⟨r0_11, pieceV x1 x2 x3 x4 x5 x6 x7 (View.ld x0 r0_8)⟩,
      ⟨r0_10, pieceV x1 x2 x3 x4 x5 x6 x7 (View.ld x0 r0_0)⟩] := rfl
  rw [e]
  exact halves_pt (φ := .bf16) (n := 512) x0 _ _ (pieceV x1 x2 x3 x4 x5 x6 x7) (fun x j => pOf x1 x2 x3 x4 x5 x6 x7 x (vcol (place j)))
    (pieceV_pt x1 x2 x3 x4 x5 x6 x7) r j

end Cert.Kernel3Ideal.Qkv

end

end
-- ==== Proof.QkvWin.lean ====
/-
  The call that makes the queries, keys and values: which part of each array a grid point reads, and the arrays the call leaves.
-/
module

public import proofs.«01_k».proof.Defs
public import proofs.«01_k».proof.Proof.Qkv
public import Idealize.ShloMosaic.Lib.StableHlo.ReadAt

@[expose] public section

set_option maxRecDepth 16384

noncomputable section

namespace Cert.Kernel3Ideal.Qkv

open Idealize.ShloMosaic Idealize.ShloMosaic.TcCoe
open Idealize.SL Idealize.SL.Sem
open Cert.Kernel3Ideal Cert.Kernel3Ideal.Gen Cert.Row Cert.Ffn Cert.Blocks
open Cert.Reference3Ideal.Qkv (base proj key value base_pt proj_pt key_pt value_pt xrow nrow qcol kcol vcol place)
open Cert.Kernel4Ideal.Proj (xOf nOf)

variable (m : (ℓ : Loc nD τ sig) → Buf (Elt Ideal) ℓ)

abbrev aX (c : Dev nD) : FVec Ideal S2x16384x1024 .f32 := m ((c : Thread nD τ).loc main_arg0)
abbrev aM (c : Dev nD) : FVec Ideal S2x3x1024 .f32 := m ((c : Thread nD τ).loc main_arg1)
abbrev aN (c : Dev nD) : FVec Ideal S2x3x1024 .f32 := m ((c : Thread nD τ).loc main_arg2)
abbrev aG (c : Dev nD) : FVec Ideal S2x3x1024 .f32 := m ((c : Thread nD τ).loc main_arg3)
abbrev aI (c : Dev nD) : FVec Ideal S2x2x1024x5632 .f32 := m ((c : Thread nD τ).loc main_arg4)
abbrev aO (c : Dev nD) : FVec Ideal S2x2x2816x1024 .f32 := m ((c : Thread nD τ).loc main_arg5)
abbrev aW (c : Dev nD) : FVec Ideal S1024x1536 .f32 := m ((c : Thread nD τ).loc main_arg6)

theorem gain_pt (c : Dev nD) (d : Fin 1024) : (V m c main_v7 : FVec Ideal S1x1024 .f32) (ix2 0 d) = aG m c (ix3 1 0 d) := by
  have e : (V m c main_v7 : FVec Ideal S1x1024 .f32) = shapeCast _ (shapeCast S1024
      (extractStridedSlice S1x1x1024 ![1, 0, 0] (aG m c) slices_S2x3x1024_S1x1x1024_1_0_0)
      shapeCasts_S1x1x1024_S1024) shapeCasts_S1024_S1x1024 := by
    unfold V; simp only [hostOps0]; after_reads_simp; rfl
  rw [e]
  pointwise []

theorem gain2_pt (c : Dev nD) (d : Fin 1024) : (V m c main_v8 : FVec Ideal S1x1024 .f32) (ix2 0 d) = aG m c (ix3 1 1 d) := by
  have e : (V m c main_v8 : FVec Ideal S1x1024 .f32) = shapeCast _ (shapeCast S1024
      (extractStridedSlice S1x1x1024 ![1, 1, 0] (aG m c) slices_S2x3x1024_S1x1x1024_1_1_0)
      shapeCasts_S1x1x1024_S1024) shapeCasts_S1024_S1x1024 := by
    unfold V; simp only [hostOps0]; after_reads_simp; rfl
  rw [e]
  pointwise []

theorem in_eq (c : Dev nD) : (V m c main_v2 : FVec Ideal S2x2x1024x5632 .bf16) = aI m c := by
  unfold V; simp only [hostOps0]; after_reads_simp; rfl

theorem out_eq (c : Dev nD) : (V m c main_v3 : FVec Ideal S2x2x2816x1024 .bf16) = aO m c := by
  unfold V; simp only [hostOps0]; after_reads_simp; rfl

theorem w_eq (c : Dev nD) : (V m c main_v6 : FVec Ideal S1024x1536 .bf16) = aW m c := by
  unfold V; simp only [hostOps0]; after_reads_simp; rfl

/-- The batch of a grid point, and its place in the sequence, in blocks of 512 rows. -/
abbrev bq (t : Fin cfg0.N) : Fin 2 := grid0.coords t 0
abbrev iq (t : Fin cfg0.N) : Fin 32 := grid0.coords t 1
abbrev at' (t : Fin cfg0.N) (r : Fin 512) : Fin 16384 := ⟨(iq t).val * 512 + r.val, by omega⟩

theorem idx : ∀ t : Fin cfg0.N,
    win0_0.index t = ![(grid0.coords t 0).val, (grid0.coords t 1).val, 0] ∧
    win0_1.index t = ![(grid0.coords t 0).val, 0, 0] ∧ win0_2.index t = ![0, 0] ∧ win0_3.index t = ![1, 0, 0, 0] ∧
    win0_4.index t = ![1, 0, 0, 0] ∧ win0_5.index t = ![(grid0.coords t 0).val, 0, 0] ∧ win0_6.index t = ![0, 0] ∧
    win0_7.index t = ![0, 0] ∧
    win0_8.index t = ![(grid0.coords t 0).val, (grid0.coords t 1).val, 0] ∧
    win0_9.index t = ![(grid0.coords t 0).val, (grid0.coords t 1).val, 0] ∧
    win0_10.index t = ![(grid0.coords t 0).val, (grid0.coords t 1).val, 0] ∧
    win0_11.index t = ![(grid0.coords t 0).val, (grid0.coords t 1).val, 0] :=
  (by decide +kernel : ∀ t : Fin grid0.N, _)

theorem blk0 (c : Dev nD) (t : Fin cfg0.N) (r : Fin 512) (l : Fin 1024) :
    (iblk m c 0 t : Vec Ideal S1x512x1024 .f32) (ix3 0 r l) = aX m c (ix3 (bq t) (at' t r) l) := by
  unfold aX
  rw [← V_main_arg0 m c]
  blk_ext [iblk, idx t] <;> exact Nat.add_zero _

theorem blk1 (c : Dev nD) (t : Fin cfg0.N) (k : Fin 3) (l : Fin 1024) :
    (iblk m c 1 t : Vec Ideal S1x3x1024 .f32) (ix3 0 k l) = aM m c (ix3 (bq t) k l) := by
  unfold aM
  rw [← V_main_arg1 m c]
  blk_ext [iblk, idx t] <;> exact Nat.add_zero _

theorem blk2 (c : Dev nD) (t : Fin cfg0.N) (l : Fin 1024) :
    (iblk m c 2 t : Vec Ideal S1x1024 .f32) (ix2 0 l) = aG m c (ix3 1 0 l) := by
  rw [← gain_pt]
  blk_ext [iblk, idx t]

theorem blk3 (c : Dev nD) (t : Fin cfg0.N) (d : Fin 1024) (j : Fin 5632) :
    (iblk m c 3 t : Vec Ideal S1x1x1024x5632 .bf16) (ix4 0 0 d j) = aI m c (ix4 1 0 d j) := by
  rw [← in_eq]
  blk_ext [iblk, idx t]

theorem blk4 (c : Dev nD) (t : Fin cfg0.N) (j : Fin 2816) (l : Fin 1024) :
    (iblk m c 4 t : Vec Ideal S1x1x2816x1024 .bf16) (ix4 0 0 j l) = aO m c (ix4 1 0 j l) := by
  rw [← out_eq]
  blk_ext [iblk, idx t]

theorem blk5 (c : Dev nD) (t : Fin cfg0.N) (k : Fin 3) (l : Fin 1024) :
    (iblk m c 5 t : Vec Ideal S1x3x1024 .f32) (ix3 0 k l) = aN m c (ix3 (bq t) k l) := by
  unfold aN
  rw [← V_main_arg2 m c]
  blk_ext [iblk, idx t] <;> exact Nat.add_zero _

theorem blk6 (c : Dev nD) (t : Fin cfg0.N) (l : Fin 1024) :
    (iblk m c 6 t : Vec Ideal S1x1024 .f32) (ix2 0 l) = aG m c (ix3 1 1 l) := by
  rw [← gain2_pt]
  blk_ext [iblk, idx t]

theorem blk7 (c : Dev nD) (t : Fin cfg0.N) (d : Fin 1024) (j : Fin 1536) :
    (iblk m c 7 t : Vec Ideal S1024x1536 .bf16) (ix2 d j) = aW m c (ix2 d j) := by
  rw [← w_eq]
  blk_ext [iblk, idx t]

theorem emb8 (t : Fin cfg0.N) (y : S1x512x1024.Idx) :
    (((cfg0.win 8).blk t).view.emb y : S2x16384x1024.Idx) = ix3 (bq t) (at' t (y 1)) (y 2) := by
  blk_ext [idx t]

theorem emb9 (t : Fin cfg0.N) (y : S1x512x1024.Idx) :
    (((cfg0.win 9).blk t).view.emb y : S2x16384x1024.Idx) = ix3 (bq t) (at' t (y 1)) (y 2) := by
  blk_ext [idx t]

theorem emb10 (t : Fin cfg0.N) (y : S1x512x512.Idx) :
    (((cfg0.win 10).blk t).view.emb y : S2x16384x512.Idx) = ix3 (bq t) (at' t (y 1)) (y 2) := by
  blk_ext [idx t]

theorem emb11 (t : Fin cfg0.N) (y : S1x512x512.Idx) :
    (((cfg0.win 11).blk t).view.emb y : S2x16384x512.Idx) = ix3 (bq t) (at' t (y 1)) (y 2) := by
  blk_ext [idx t]

theorem x_eq (c : Dev nD) (t : Fin cfg0.N) (r : Fin 512) :
    xOf (fun d => (iblk m c 0 t : Vec Ideal S1x512x1024 .f32) (ix3 0 r d)) (iblk m c 1 t) (iblk m c 2 t) (iblk m c 3 t) (iblk m c 4 t) =
      xrow (aX m c) (aM m c) (aG m c) (aI m c) (aO m c) (bq t) (at' t r) := by
  unfold xOf xrow
  simp only [blk0, blk1, blk2, blk3, blk4]

theorem n_eq (c : Dev nD) (t : Fin cfg0.N) (r : Fin 512) :
    nOf (fun d => (iblk m c 0 t : Vec Ideal S1x512x1024 .f32) (ix3 0 r d)) (iblk m c 1 t) (iblk m c 2 t) (iblk m c 3 t) (iblk m c 4 t)
        (iblk m c 5 t) (iblk m c 6 t) =
      nrow (aX m c) (aM m c) (aN m c) (aG m c) (aI m c) (aO m c) (bq t) (at' t r) := by
  unfold nOf nrow
  rw [x_eq]
  simp only [blk5, blk6]

/-- The projection of a row of a block is the reference's. -/
theorem p_eq (c : Dev nD) (t : Fin cfg0.N) (r : Fin 512) (j : Fin 1536) :
    pOf (iblk m c 1 t) (iblk m c 2 t) (iblk m c 3 t) (iblk m c 4 t) (iblk m c 5 t) (iblk m c 6 t) (iblk m c 7 t)
        (fun d => (iblk m c 0 t : Vec Ideal S1x512x1024 .f32) (ix3 0 r d)) j =
      proj (aX m c) (aM m c) (aN m c) (aG m c) (aI m c) (aO m c) (aW m c) (ix3 (bq t) (at' t r) j) := by
  unfold pOf
  rw [n_eq, proj_pt]
  simp only [blk7]

/-- The blocks and the arrays the call leaves. -/
theorem blockX_eq (c : Dev nD) (t : Fin cfg0.N) (r : Fin 512) (j : Fin 1024) :
    out0_8 (iblk m c 0 t) (iblk m c 1 t) (iblk m c 2 t) (iblk m c 3 t) (iblk m c 4 t) (iblk m c 5 t) (iblk m c 6 t)
    (iblk m c 7 t) (ix3 0 r j) =
      base (aX m c) (aM m c) (aG m c) (aI m c) (aO m c) (ix3 (bq t) (at' t r) j) := by
  rw [blockX_pt, x_eq]
  exact (base_pt _ _ _ _ _ _ _ _).symm

theorem finalX (c : Dev nD) : (dats m 0 c).arrAt 8 cfg0.N = base (aX m c) (aM m c) (aG m c) (aI m c) (aO m c) := by
  refine (dats m 0 c).arrAt_eq_of_covers 8 _ (by decide +kernel) fun t hf y => ?_
  blk_simp
  rw [after0_8]
  exact (congrArg (out0_8 (iblk m c 0 t) (iblk m c 1 t) (iblk m c 2 t) (iblk m c 3 t) (iblk m c 4 t) (iblk m c 5 t) (iblk m c 6 t)
    (iblk m c 7 t)) (eq3 y)).trans
    ((blockX_eq m c t (y 1) (y 2)).trans (congrArg (base (aX m c) (aM m c) (aG m c) (aI m c) (aO m c)) (emb8 t y).symm))

theorem blockQ_eq (c : Dev nD) (t : Fin cfg0.N) (r : Fin 512) (j : Fin 1024) :
    out0_9 (iblk m c 0 t) (iblk m c 1 t) (iblk m c 2 t) (iblk m c 3 t) (iblk m c 4 t) (iblk m c 5 t) (iblk m c 6 t)
    (iblk m c 7 t) (ix3 0 r j) =
      Cert.Reference3Ideal.Qkv.query (proj (aX m c) (aM m c) (aN m c) (aG m c) (aI m c) (aO m c) (aW m c)) (ix3 (bq t) (at' t r) j) := by
  rw [blockQ_pt, p_eq]
  exact (Cert.Reference3Ideal.Qkv.query_pt _ _ _ _).symm

theorem finalQ (c : Dev nD) : (dats m 0 c).arrAt 9 cfg0.N = Cert.Reference3Ideal.Qkv.query (proj (aX m c) (aM m c) (aN m c) (aG m c) (aI m c) (aO m c) (aW m c)) := by
  refine (dats m 0 c).arrAt_eq_of_covers 9 _ (by decide +kernel) fun t hf y => ?_
  blk_simp
  rw [after0_9]
  exact (congrArg (out0_9 (iblk m c 0 t) (iblk m c 1 t) (iblk m c 2 t) (iblk m c 3 t) (iblk m c 4 t) (iblk m c 5 t) (iblk m c 6 t)
    (iblk m c 7 t)) (eq3 y)).trans
    ((blockQ_eq m c t (y 1) (y 2)).trans (congrArg (Cert.Reference3Ideal.Qkv.query (proj (aX m c) (aM m c) (aN m c) (aG m c) (aI m c) (aO m c) (aW m c))) (emb9 t y).symm))

theorem blockK_eq (c : Dev nD) (t : Fin cfg0.N) (r : Fin 512) (j : Fin 512) :
    out0_10 (iblk m c 0 t) (iblk m c 1 t) (iblk m c 2 t) (iblk m c 3 t) (iblk m c 4 t) (iblk m c 5 t) (iblk m c 6 t)
    (iblk m c 7 t) (ix3 0 r j) =
      key (proj (aX m c) (aM m c) (aN m c) (aG m c) (aI m c) (aO m c) (aW m c)) (ix3 (bq t) (at' t r) j) := by
  rw [blockK_pt, p_eq]
  exact (key_pt _ _ _ _).symm

theorem finalK (c : Dev nD) : (dats m 0 c).arrAt 10 cfg0.N = key (proj (aX m c) (aM m c) (aN m c) (aG m c) (aI m c) (aO m c) (aW m c)) := by
  refine (dats m 0 c).arrAt_eq_of_covers 10 _ (by decide +kernel) fun t hf y => ?_
  blk_simp
  rw [after0_10]
  exact (congrArg (out0_10 (iblk m c 0 t) (iblk m c 1 t) (iblk m c 2 t) (iblk m c 3 t) (iblk m c 4 t) (iblk m c 5 t) (iblk m c 6 t)
    (iblk m c 7 t)) (eq3 y)).trans
    ((blockK_eq m c t (y 1) (y 2)).trans (congrArg (key (proj (aX m c) (aM m c) (aN m c) (aG m c) (aI m c) (aO m c) (aW m c))) (emb10 t y).symm))

theorem blockV_eq (c : Dev nD) (t : Fin cfg0.N) (r : Fin 512) (j : Fin 512) :
    out0_11 (iblk m c 0 t) (iblk m c 1 t) (iblk m c 2 t) (iblk m c 3 t) (iblk m c 4 t) (iblk m c 5 t) (iblk m c 6 t)
    (iblk m c 7 t) (ix3 0 r j) =
      value (proj (aX m c) (aM m c) (aN m c) (aG m c) (aI m c) (aO m c) (aW m c)) (ix3 (bq t) (at' t r) j) := by
  rw [blockV_pt, p_eq]
  exact (value_pt _ _ _ _).symm

theorem finalV (c : Dev nD) : (dats m 0 c).arrAt 11 cfg0.N = value (proj (aX m c) (aM m c) (aN m c) (aG m c) (aI m c) (aO m c) (aW m c)) := by
  refine (dats m 0 c).arrAt_eq_of_covers 11 _ (by decide +kernel) fun t hf y => ?_
  blk_simp
  rw [after0_11]
  exact (congrArg (out0_11 (iblk m c 0 t) (iblk m c 1 t) (iblk m c 2 t) (iblk m c 3 t) (iblk m c 4 t) (iblk m c 5 t) (iblk m c 6 t)
    (iblk m c 7 t)) (eq3 y)).trans
    ((blockV_eq m c t (y 1) (y 2)).trans (congrArg (value (proj (aX m c) (aM m c) (aN m c) (aG m c) (aI m c) (aO m c) (aW m c))) (emb11 t y).symm))

/-- Equal arguments, equal results. -/
theorem same : Cert.algebraic_Kernel3Ideal_Reference3Ideal := by
  intro m ρ m' ρ' _ hagree
  refine ⟨_, _, _, _, Cert.Kernel3Ideal.Value.run_blocks m ρ, ?_⟩
  refine (θ_run Cert.Reference3Ideal.defs _ _).mono (fun _ h c => ⟨(h c).1.trans ?_, (h c).2.1.trans ?_, (h c).2.2.1.trans ?_,
    (h c).2.2.2.1.trans ?_, (h c).2.2.2.2⟩) (Cert.Reference3Ideal.Value.run (F := Ideal) m' ρ')
  all_goals obtain ⟨e0, e1, e2, e3, e4, e5, e6⟩ := hagree c
  · rw [finalX]
    unfold aX aM aG aI aO
    rw [← e0, ← e1, ← e3, ← e4, ← e5]
    rfl
  · rw [finalQ]
    unfold aX aM aN aG aI aO aW
    rw [← e0, ← e1, ← e2, ← e3, ← e4, ← e5, ← e6]
    rfl
  · rw [finalK]
    unfold aX aM aN aG aI aO aW
    rw [← e0, ← e1, ← e2, ← e3, ← e4, ← e5, ← e6]
    rfl
  · rw [finalV]
    unfold aX aM aN aG aI aO aW
    rw [← e0, ← e1, ← e2, ← e3, ← e4, ← e5, ← e6]
    rfl

end Cert.Kernel3Ideal.Qkv

end

end
-- ==== Proof.MixRef.lean ====
/-
  The reference of the mixer's feed-forward call, as array functions, and its values at an index: the depthwise
  convolution over the sequence, the layer norm with its gate, the product with the output weight, and the half step.
-/
module

public import proofs.«01_k».proof.Proof.Ffn
public import proofs.«01_k».proof.Proof.Gen.Reference5Ideal
public import Idealize.ShloMosaic.Lib.KernelVsHost

@[expose] public section

set_option maxRecDepth 16384

noncomputable section

namespace Cert.Mix

open Idealize.ShloMosaic Idealize.ShloMosaic.TcCoe Idealize.ShloMosaic.StableHlo
open Cert.Reference5Ideal Cert.Reference5Ideal.Gen Cert.Row Cert.Ffn

/-- A starting value and the first `n` products of two sequences, added one after the other. -/
def acc (z : EReal) (w a : ℕ → EReal) : ℕ → EReal
  | 0 => z
  | n + 1 => acc z w a n + w n * a n

/-- What is added at the start may be added at the end. -/
theorem acc_start (z b : EReal) (w a : ℕ → EReal) (n : ℕ) : acc (z + b) w a n = acc z w a n + b := by
  induction n with
  | zero => rfl
  | succ n ih => simp only [acc, ih, add_right_comm]

/-- The width of the normalised row of the mixer. -/
abbrev wide2 : EReal := Ideal.ofBits FTy.f32 0x44000000#32

/-- A row less its mean, and the row normalised with gain and bias and then gated by its logistic. -/
def dev (v : Fin 512 → EReal) (d : Fin 512) : EReal := v d - Ideal.div (∑ k, v k) wide2

def lnorm (v g b : Fin 512 → EReal) (d : Fin 512) : EReal :=
  dev v d * Ideal.rsqrt (Ideal.div (∑ k, dev v k * dev v k) wide2 + eps) * g d + b d

def silu (v : Fin 512 → EReal) (d : Fin 512) : EReal := v d * Ideal.logistic (v d)

/-- The two halves of the rows of the output weight. -/
abbrev fst (d : Fin 512) : Fin 1024 := ⟨d.val, by omega⟩
abbrev snd (d : Fin 512) : Fin 1024 := ⟨512 + d.val, by omega⟩

/-- A row of the residual after the mixer. -/
def mixed (x gm : Fin 1024 → EReal) (a z : Fin 512 → EReal) (wa wz : Fin 512 → Fin 1024 → EReal) (l : Fin 1024) : EReal :=
  x l + gm l * (times a wa l + times z wz l)

variable (A Z : FVec Ideal S2x16384x512 .f32) (Cw : FVec Ideal S31x512 .f32) (Cb Lg Lb : FVec Ideal S512 .f32)

/-- The sequence with fifteen rows of zeros at each end. -/
def padded : FVec Ideal S2x16414x512 .f32 :=
  pad S2x16414x512 ![0, 15, 0] ![0, 15, 0] ![0, 0, 0] A (sitofp .f32 (constantI S_ 32 0#32)) pads_S2x16384x512_S2x16414x512_000_15150_000 h_S_

theorem slices_rows (j : ℕ) (h : j ≤ 30) : S2x16414x512.Slices ![0, j, 0] S2x16384x512 :=
  ⟨rfl, fun a => by fin_cases a <;> simp [S2x16414x512, S2x16384x512] <;> omega⟩

theorem slices_tap (j : ℕ) (h : j ≤ 30) : S31x512.Slices ![j, 0] S1x512 :=
  ⟨rfl, fun a => by fin_cases a <;> simp [S31x512, S1x512] <;> omega⟩

/-- One product of the convolution. -/
def tap (j : ℕ) (h : j ≤ 30) : FVec Ideal S2x16384x512 .f32 :=
  mulf (extractStridedSlice S2x16384x512 ![0, j, 0] (padded A) (slices_rows j h))
    (broadcastInDim S2x16384x512 ![0, 1, 2] bcast_S1x1x512_S2x16384x512_0_1_2 (broadcastInDim S1x1x512 ![2] bcast_S512_S1x1x512_2
      (shapeCast S512 (extractStridedSlice S1x512 ![j, 0] Cw (slices_tap j h)) shapeCasts_S1x512_S512)))

/-- The first `n` products of the convolution, added up. -/
def taps : (n : ℕ) → n ≤ 31 → FVec Ideal S2x16384x512 .f32
  | 0, _ => broadcastInDim S2x16384x512 ![] bcast_S_S2x16384x512 (constant S_ .f32 0x00000000#32)
  | n + 1, h => addf (taps n (by omega)) (tap A Cw n (by omega))

/-- A vector added to every row, and one multiplied with every row. -/
def every (G : FVec Ideal S512 .f32) : FVec Ideal S2x16384x512 .f32 :=
  broadcastInDim S2x16384x512 ![0, 1, 2] bcast_S1x1x512_S2x16384x512_0_1_2 (broadcastInDim S1x1x512 ![2] bcast_S512_S1x1x512_2 G)

def conv : FVec Ideal S2x16384x512 .f32 := addf (taps A Cw 31 (Nat.le_refl 31)) (every Cb)

/-- The mean of each row. -/
def mean (C : FVec Ideal S2x16384x512 .f32) : FVec Ideal S2x16384x1 .f32 :=
  Host.divf (broadcastInDim S2x16384x1 ![0, 1] bcast_S2x16384_S2x16384x1_0_1 (Host.reduceAdd C (constant S_ .f32 0x00000000#32) reducesTo_S2x16384x512_S2x16384_d2 h_S_)) (broadcastInDim S2x16384x1 ![] bcast_S_S2x16384x1 (constant S_ .f32 0x44000000#32))

def centred (C : FVec Ideal S2x16384x512 .f32) : FVec Ideal S2x16384x512 .f32 :=
  subf C (broadcastInDim S2x16384x512 ![0, 1, 2] bcast_S2x16384x1_S2x16384x512_0_1_2 (mean C))

def lnArr (C : FVec Ideal S2x16384x512 .f32) : FVec Ideal S2x16384x512 .f32 :=
  addf (mulf (mulf (centred C) (broadcastInDim S2x16384x512 ![0, 1, 2] bcast_S2x16384x1_S2x16384x512_0_1_2 (Host.rsqrt (addf (mean (mulf (centred C) (centred C))) (broadcastInDim S2x16384x1 ![] bcast_S_S2x16384x1 (constant S_ .f32 0x358637BD#32)))))) (every Lg)) (every Lb)

def siluArr (C : FVec Ideal S2x16384x512 .f32) : FVec Ideal S2x16384x512 .f32 :=
  mulf C (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf C))))

/-- The two halves side by side. -/
def beside (C : FVec Ideal S2x16384x512 .f32) : FVec Ideal S2x16384x1024 .f32 :=
  concatenate S2x16384x1024 2 [⟨S2x16384x512, C⟩, ⟨S2x16384x512, Z⟩] concatenates_S2x16384x512_S2x16384x512_S2x16384x1024_d2

variable (X : FVec Ideal S2x16384x1024 .f32) (N M G : FVec Ideal S2x3x1024 .f32) (I : FVec Ideal S2x2x1024x5632 .f32)
  (O : FVec Ideal S2x2x2816x1024 .f32) (W : FVec Ideal S1024x1024 .f32)

/-- The residual after the mixer. -/
def mixArr : FVec Ideal S2x16384x1024 .f32 :=
  addf X (mulf (broadcastInDim S2x16384x1024 ![0, 1, 2] bcast_S2x1x1024_S2x16384x1024_0_1_2 (broadcastInDim S2x1x1024 ![0, 2] bcast_S2x1024_S2x1x1024_0_2 (shapeCast S2x1024 (extractStridedSlice S2x1x1024 ![0, 2, 0] N slices_S2x3x1024_S2x1x1024_0_2_0) shapeCasts_S2x1x1024_S2x1024)))
    (Host.dotGeneral dot_S2x16384x1024_S1024x1024_S2x16384x1024_2_0_01_1_n_n none (beside Z (siluArr (lnArr Lg Lb (conv A Cw Cb)))) W))

/-- The result of the call. -/
def res : FVec Ideal S2x16384x1024 .f32 :=
  ffn (mixArr A Z Cw Cb Lg Lb X N W) M
    (shapeCast S1024 (extractStridedSlice S1x1x1024 ![0, 2, 0] G slices_S2x3x1024_S1x1x1024_0_2_0) shapeCasts_S1x1x1024_S1024)
    (shapeCast S1024x5632 (extractStridedSlice S1x1x1024x5632 ![0, 1, 0, 0] I slices_S2x2x1024x5632_S1x1x1024x5632_0_1_0_0) shapeCasts_S1x1x1024x5632_S1024x5632)
    (shapeCast S2816x1024 (extractStridedSlice S1x1x2816x1024 ![0, 1, 0, 0] O slices_S2x2x2816x1024_S1x1x2816x1024_0_1_0_0) shapeCasts_S1x1x2816x1024_S2816x1024)

/-- Row `k` of the padded sequence, counted from the first of the zeros. -/
def seq (b : Fin 2) (l : Fin 512) (k : ℕ) : EReal :=
  if h : 15 ≤ k ∧ k < 16399 then A (ix3 b ⟨k - 15, by omega⟩ l) else 0

/-- The weight of tap `j`. -/
def wt (l : Fin 512) (j : ℕ) : EReal := Cw (ix2 (Fin.ofNat 31 j) l)

theorem padded_pt (b : Fin 2) (k : Fin 16414) (l : Fin 512) : padded A (ix3 b k l) = seq A b l k.val := by
  unfold padded seq
  split
  · next h =>
    refine (pad_apply_of_inside _ _ _ _ _ _ _ _ (ix3 b ⟨k.val - 15, by omega⟩ l) ?_)
    intro a
    fin_cases a
    · simp [ix3]
    · show k.val = 15 + (k.val - 15) * (0 + 1); omega
    · simp [ix3]
  · next h =>
    refine (pad_apply_of_not_inside _ _ _ _ _ _ _ _ (1 : Fin 3) ?_).trans ?_
    · show ¬(15 ≤ k.val ∧ (k.val - 15) % (0 + 1) = 0 ∧ (k.val - 15) / (0 + 1) < 16384)
      omega
    · show (((0#32 : BitVec 32).toInt : ℝ) : EReal) = 0
      simp

theorem tap_pt (j : ℕ) (h : j ≤ 30) (b : Fin 2) (r : Fin 16384) (l : Fin 512) :
    tap A Cw j h (ix3 b r l) = wt Cw l j * seq A b l (r.val + j) := by
  have e0 : extractStridedSlice S2x16384x512 ![0, j, 0] (padded A) (slices_rows j h) (ix3 b r l) = seq A b l (r.val + j) := by
    rw [show r.val + j = (⟨r.val + j, by omega⟩ : Fin 16414).val from rfl, ← padded_pt]
    pointwise []
    exact congrArg (fun k => padded A (ix3 b k l)) (Fin.ext (Nat.add_comm _ _))
  have e1 : extractStridedSlice S1x512 ![j, 0] Cw (slices_tap j h) (ix2 0 l) = wt Cw l j := by
    unfold wt
    pointwise []
    exact congrArg (fun k => Cw (ix2 k l)) (Fin.ext (Nat.mod_eq_of_lt (by omega)).symm)
  rw [← e0, ← e1, mul_comm]
  pointwise [tap]

theorem taps_pt (b : Fin 2) (r : Fin 16384) (l : Fin 512) (n : ℕ) (h : n ≤ 31) :
    taps A Cw n h (ix3 b r l) = acc 0 (wt Cw l) (fun j => seq A b l (r.val + j)) n := by
  induction n with
  | zero => pointwise [taps, acc]
  | succ n ih =>
    show taps A Cw n _ (ix3 b r l) + tap A Cw n _ (ix3 b r l) = _
    rw [ih, tap_pt]
    rfl

theorem every_pt (G : FVec Ideal S512 .f32) (b : Fin 2) (r : Fin 16384) (l : Fin 512) : every G (ix3 b r l) = G (ix1 l) := by
  pointwise [every]

/-- A row of the convolution. -/
def crow (b : Fin 2) (r : Fin 16384) (l : Fin 512) : EReal :=
  acc (0 + Cb (ix1 l)) (wt Cw l) (fun j => seq A b l (r.val + j)) 31

theorem conv_pt (b : Fin 2) (r : Fin 16384) (l : Fin 512) : conv A Cw Cb (ix3 b r l) = crow A Cw Cb b r l := by
  show taps A Cw 31 _ (ix3 b r l) + every Cb (ix3 b r l) = _
  rw [taps_pt, every_pt, crow, acc_start]

theorem mean_pt (C : FVec Ideal S2x16384x512 .f32) (b : Fin 2) (r : Fin 16384) :
    mean C (ix3 b r 0) = Ideal.div (∑ k, C (ix3 b r k)) wide2 := by
  pointwise [mean]

theorem centred_pt (C : FVec Ideal S2x16384x512 .f32) (b : Fin 2) (r : Fin 16384) (l : Fin 512) :
    centred C (ix3 b r l) = dev (fun k => C (ix3 b r k)) l := by
  unfold dev
  rw [← mean_pt]
  pointwise [centred]

theorem ln_pt (C : FVec Ideal S2x16384x512 .f32) (b : Fin 2) (r : Fin 16384) (l : Fin 512) :
    lnArr Lg Lb C (ix3 b r l) = lnorm (fun k => C (ix3 b r k)) (fun d => Lg (ix1 d)) (fun d => Lb (ix1 d)) l := by
  have e : ∀ k, mulf (centred C) (centred C) (ix3 b r k) = dev (fun k => C (ix3 b r k)) k * dev (fun k => C (ix3 b r k)) k := fun k => by
    rw [← centred_pt]
    rfl
  unfold lnorm
  simp only [← e]
  rw [← mean_pt, ← centred_pt, ← every_pt Lg b r, ← every_pt Lb b r]
  pointwise [lnArr]

theorem silu_pt (C : FVec Ideal S2x16384x512 .f32) (b : Fin 2) (r : Fin 16384) (l : Fin 512) :
    siluArr C (ix3 b r l) = silu (fun k => C (ix3 b r k)) l := by
  unfold silu
  rw [← logistic_eq]
  pointwise [siluArr]

theorem beside_fst (C : FVec Ideal S2x16384x512 .f32) (b : Fin 2) (r : Fin 16384) (d : Fin 512) :
    beside Z C (ix3 b r (fst d)) = C (ix3 b r d) := by
  pointwise [beside]

theorem beside_snd (C : FVec Ideal S2x16384x512 .f32) (b : Fin 2) (r : Fin 16384) (d : Fin 512) :
    beside Z C (ix3 b r (snd d)) = Z (ix3 b r d) := by
  pointwise [beside]

theorem two_sums (f : Fin 1024 → EReal) : ∑ d, f d = ∑ d, f (fst d) + ∑ d, f (snd d) :=
  Fin.sum_univ_add (a := 512) (b := 512) f

/-- The gated row of the convolution. -/
abbrev arow (b : Fin 2) (r : Fin 16384) : Fin 512 → EReal :=
  silu (lnorm (crow A Cw Cb b r) (fun d => Lg (ix1 d)) (fun d => Lb (ix1 d)))

/-- A row of the residual after the mixer. -/
abbrev mrow (b : Fin 2) (r : Fin 16384) : Fin 1024 → EReal :=
  mixed (row X b r) (fun d => N (ix3 b 2 d)) (arow A Cw Cb Lg Lb b r) (fun d => Z (ix3 b r d))
    (fun d l => W (ix2 (fst d) l)) (fun d l => W (ix2 (snd d) l))

theorem act_pt (b : Fin 2) (r : Fin 16384) (d : Fin 512) :
    siluArr (lnArr Lg Lb (conv A Cw Cb)) (ix3 b r d) = arow A Cw Cb Lg Lb b r d := by
  rw [silu_pt]
  refine congrFun (congrArg silu (funext fun k => ?_)) d
  rw [ln_pt]
  exact congrFun (congrArg (fun f => lnorm f _ _) (funext fun k => conv_pt A Cw Cb b r k)) k

theorem mix_pt (b : Fin 2) (r : Fin 16384) (l : Fin 1024) :
    mixArr A Z Cw Cb Lg Lb X N W (ix3 b r l) = mrow A Z Cw Cb Lg Lb X N W b r l := by
  have e : Host.dotGeneral (F := Ideal) dot_S2x16384x1024_S1024x1024_S2x16384x1024_2_0_01_1_n_n none
      (beside Z (siluArr (lnArr Lg Lb (conv A Cw Cb)))) W (ix3 b r l) =
      ∑ d, beside Z (siluArr (lnArr Lg Lb (conv A Cw Cb))) (ix3 b r d) * W (ix2 d l) := by pointwise []
  rw [two_sums] at e
  simp only [beside_fst, beside_snd, act_pt] at e
  unfold mrow mixed times
  rw [← e]
  pointwise [mixArr]

theorem res_pt (b : Fin 2) (r : Fin 16384) (l : Fin 1024) :
    res A Z Cw Cb Lg Lb X N M G I O W (ix3 b r l) =
      step (mrow A Z Cw Cb Lg Lb X N W b r) (fun d => G (ix3 0 2 d)) (fun d => M (ix3 b 0 d)) (fun d => M (ix3 b 1 d))
        (fun d => M (ix3 b 2 d)) (fun d j => I (ix4 0 1 d (lo j))) (fun d j => I (ix4 0 1 d (hi j))) (fun j l => O (ix4 0 1 j l)) l := by
  unfold res
  rw [ffn_pt]
  have e0 : ∀ d, shapeCast S1024 (extractStridedSlice S1x1x1024 ![0, 2, 0] G slices_S2x3x1024_S1x1x1024_0_2_0)
      shapeCasts_S1x1x1024_S1024 (ix1 d) = G (ix3 0 2 d) := fun d => by pointwise []
  have e1 : ∀ d j, shapeCast S1024x5632 (extractStridedSlice S1x1x1024x5632 ![0, 1, 0, 0] I
      slices_S2x2x1024x5632_S1x1x1024x5632_0_1_0_0) shapeCasts_S1x1x1024x5632_S1024x5632
      (ix2 d j) = I (ix4 0 1 d j) := fun d j => by pointwise []
  have e2 : ∀ j l, shapeCast S2816x1024 (extractStridedSlice S1x1x2816x1024 ![0, 1, 0, 0] O
      slices_S2x2x2816x1024_S1x1x2816x1024_0_1_0_0) shapeCasts_S1x1x2816x1024_S2816x1024
      (ix2 j l) = O (ix4 0 1 j l) := fun j l => by pointwise []
  have ex : row (mixArr A Z Cw Cb Lg Lb X N W) b r = mrow A Z Cw Cb Lg Lb X N W b r :=
    funext fun d => mix_pt A Z Cw Cb Lg Lb X N W b r d
  simp only [e0, e1, e2, ex]

end Cert.Mix

end

end
-- ==== Proof.MixPay.lean ====
/-
  The mixer's feed-forward call: the values its body computes, at an index.
-/
module

public import proofs.«01_k».proof.Proof.Blocks
public import proofs.«01_k».proof.Proof.MixRef
public import proofs.«01_k».proof.Proof.Gen.Kernel5Ideal.Skeleton

@[expose] public section

set_option maxRecDepth 16384

noncomputable section

namespace Cert.Kernel5Ideal.Mix

open Idealize.ShloMosaic Idealize.ShloMosaic.TcCoe
open Cert.Kernel5Ideal Cert.Kernel5Ideal.Gen Cert.Row Cert.Ffn Cert.Blocks Cert.Mix

/-! ## The convolution -/

section Conv

-- The taps' weights, the rows read from the block with its halo, and those read from its shifted copies.
variable (w : (j : ℕ) → j ≤ 30 → Vec Ideal S1x512 .f32) (a : (o : ℕ) → 1 ≤ o ∧ o ≤ 32 → Vec Ideal S512x512 .f32)
  (s : (k o : ℕ) → k < 7 → o ≤ 24 → Vec Ideal S1x512x512 .f32)

/-- The bias and the first 26 products. -/
def early (b : Vec Ideal S1x512 .f32) : FVec Ideal S512x512 .f32 :=
  k0_pay22 (k0_pay20 (k0_pay19 (k0_pay17
    (k0_pay16 (k0_pay6 b) (s 0 0 (by decide) (by decide)) (w 0 (by decide)) (s 1 0 (by decide) (by decide)) (w 1 (by decide))
      (s 2 0 (by decide) (by decide)) (w 2 (by decide)) (s 3 0 (by decide) (by decide)) (w 3 (by decide)))
    (s 4 0 (by decide) (by decide)) (w 4 (by decide)) (s 5 0 (by decide) (by decide)) (w 5 (by decide))
    (s 6 0 (by decide) (by decide)) (w 6 (by decide)) (a 8 (by decide)) (w 7 (by decide)) (s 0 8 (by decide) (by decide)) (w 8 (by decide)))
    (k0_pay18 (s 1 8 (by decide) (by decide))) (w 9 (by decide)) (s 2 8 (by decide) (by decide)) (w 10 (by decide))
    (s 3 8 (by decide) (by decide)) (w 11 (by decide)) (s 4 8 (by decide) (by decide)) (w 12 (by decide))
    (s 5 8 (by decide) (by decide)) (w 13 (by decide)) (s 6 8 (by decide) (by decide)) (w 14 (by decide)))
    (a 16 (by decide)) (w 15 (by decide)) (s 0 16 (by decide) (by decide)) (w 16 (by decide)) (s 1 16 (by decide) (by decide)) (w 17 (by decide))
    (s 2 16 (by decide) (by decide)) (w 18 (by decide)) (s 3 16 (by decide) (by decide)) (w 19 (by decide)))
    (k0_pay21 (s 4 16 (by decide) (by decide))) (w 20 (by decide)) (s 5 16 (by decide) (by decide)) (w 21 (by decide))
    (s 6 16 (by decide) (by decide)) (w 22 (by decide)) (a 24 (by decide)) (w 23 (by decide)) (s 0 24 (by decide) (by decide)) (w 24 (by decide))
    (s 1 24 (by decide) (by decide)) (w 25 (by decide))

/-- The convolution less the mean of its row. -/
def centre (b : Vec Ideal S1x512 .f32) : FVec Ideal S512x512 .f32 :=
  k0_pay23 (early w a s b) (s 2 24 (by decide) (by decide)) (w 26 (by decide)) (s 3 24 (by decide) (by decide)) (w 27 (by decide))
    (s 4 24 (by decide) (by decide)) (w 28 (by decide)) (s 5 24 (by decide) (by decide)) (w 29 (by decide))
    (s 6 24 (by decide) (by decide)) (w 30 (by decide))

variable (W F : Fin 512 → ℕ → EReal) (r : Fin 512)
  (hw : ∀ j h l, w j h (ix2 0 l) = W l j) (ha : ∀ o h l, a o h (ix2 r l) = F l (o - 1))
  (hs : ∀ k o h h' l, s k o h h' (ix3 0 r l) = F l (o + k))

include hw ha hs

theorem early_pt (b : Vec Ideal S1x512 .f32) (l : Fin 512) :
    early w a s b (ix2 r l) = acc (0 + b (ix2 0 l)) (W l) (F l) 26 := by
  pointwise [early, k0_pay6, k0_pay16, k0_pay17, k0_pay18, k0_pay19, k0_pay20, k0_pay21, k0_pay22]
  simp only [hw, ha, hs, acc]

theorem centre_pt (b : Vec Ideal S1x512 .f32) (l : Fin 512) :
    centre w a s b (ix2 r l) = dev (fun l => acc (0 + b (ix2 0 l)) (W l) (F l) 31) l := by
  have e : ∀ l, acc (0 + b (ix2 0 l)) (W l) (F l) 31 = early w a s b (ix2 r l)
      + w 26 (by decide) (ix2 0 l) * s 2 24 (by decide) (by decide) (ix3 0 r l)
      + w 27 (by decide) (ix2 0 l) * s 3 24 (by decide) (by decide) (ix3 0 r l)
      + w 28 (by decide) (ix2 0 l) * s 4 24 (by decide) (by decide) (ix3 0 r l)
      + w 29 (by decide) (ix2 0 l) * s 5 24 (by decide) (by decide) (ix3 0 r l)
      + w 30 (by decide) (ix2 0 l) * s 6 24 (by decide) (by decide) (ix3 0 r l) := fun l => by
    rw [early_pt w a s W F r hw ha hs]
    simp only [hw, hs]
    rfl
  unfold dev
  simp only [e]
  pointwise [centre, k0_pay23]

end Conv

/-! ## The mixer and the half step -/

/-- The residual after the mixer, from the centred convolution. -/
def mixBlk (x : Vec Ideal S1x512x1024 .f32) (g b : Vec Ideal S1x512 .f32) (q : FVec Ideal S512x512 .f32)
    (wa : Vec Ideal S512x1024 .bf16) (z : Vec Ideal S1x512x512 .bf16) (wz : Vec Ideal S512x1024 .bf16)
    (gm : Vec Ideal S1x1x1024 .f32) : FVec Ideal S512x1024 .f32 :=
  k0_pay25 (k0_pay5 x) (k0_pay7 g) (k0_pay8 b) q (mulf q q) wa z wz gm

theorem mixBlk_pt (x : Vec Ideal S1x512x1024 .f32) (g b : Vec Ideal S1x512 .f32) (q : FVec Ideal S512x512 .f32)
    (wa : Vec Ideal S512x1024 .bf16) (z : Vec Ideal S1x512x512 .bf16) (wz : Vec Ideal S512x1024 .bf16)
    (gm : Vec Ideal S1x1x1024 .f32) (v : Fin 512 → EReal) (r : Fin 512) (hq : ∀ d, q (ix2 r d) = dev v d) (l : Fin 1024) :
    mixBlk x g b q wa z wz gm (ix2 r l) = mixed (fun d => x (ix3 0 r d)) (fun d => gm (ix3 0 0 d))
      (silu (lnorm v (fun d => g (ix2 0 d)) (fun d => b (ix2 0 d)))) (fun d => z (ix3 0 d r))
      (fun d l => wa (ix2 d l)) (fun d l => wz (ix2 d l)) l := by
  unfold mixed times silu lnorm
  simp only [← hq]
  pointwise [mixBlk, k0_pay25, k0_pay5, k0_pay7, k0_pay8]

/-- What the body stores, from the residual after the mixer. -/
def stepBlk (v : FVec Ideal S512x1024 .f32) (g : Vec Ideal S1x1024 .f32) (sh sc : Vec Ideal S1x1x1024 .f32)
    (wg wu : Vec Ideal S1x1x1024x2816 .bf16) (gt : Vec Ideal S1x1x1024 .f32) (wo : Vec Ideal S1x1x2816x1024 .bf16) :
    FVec Ideal S1x512x1024 .f32 :=
  k0_pay1 v (k0_pay30 v (k0_pay26 g) (k0_pay27 sh) (k0_pay28 sc) (mulf v v) wg wu gt wo)

theorem stepBlk_pt (v : FVec Ideal S512x1024 .f32) (g : Vec Ideal S1x1024 .f32) (sh sc : Vec Ideal S1x1x1024 .f32)
    (wg wu : Vec Ideal S1x1x1024x2816 .bf16) (gt : Vec Ideal S1x1x1024 .f32) (wo : Vec Ideal S1x1x2816x1024 .bf16)
    (r : Fin 512) (l : Fin 1024) :
    stepBlk v g sh sc wg wu gt wo (ix3 0 r l) =
      step (fun d => v (ix2 r d)) (fun d => g (ix2 0 d)) (fun d => sh (ix3 0 0 d)) (fun d => sc (ix3 0 0 d)) (fun d => gt (ix3 0 0 d))
        (fun d j => wg (ix4 0 0 d j)) (fun d j => wu (ix4 0 0 d j)) (fun j l => wo (ix4 0 0 j l)) l := by
  unfold step gated times modded normed rinv
  pointwise [stepBlk, k0_pay1, k0_pay30, k0_pay26, k0_pay27, k0_pay28]

end Cert.Kernel5Ideal.Mix

end

end
-- ==== Proof.Mix.lean ====
/-
  The mixer's feed-forward call: the block a grid point leaves, from the point's input blocks.
-/
module

public import proofs.«01_k».proof.Proof.MixPay
public import proofs.«01_k».proof.Proof.Gen.Kernel5Ideal.Value
public import Idealize.ShloMosaic.Lib.Pipeline.ReadBack

@[expose] public section

set_option maxRecDepth 16384

noncomputable section

namespace Cert.Kernel5Ideal.Mix

open Idealize.ShloMosaic Idealize.ShloMosaic.TcCoe
open Idealize.SL Idealize.SL.Sem
open Cert.Kernel5Ideal Cert.Kernel5Ideal.Gen Cert.Row Cert.Ffn Cert.Blocks Cert.Mix

/-- The stores that fill the block with its halo. -/
def extL (i : grid0.Coords) (x5 : Vec Ideal S1x16x512 .f32) (x6 : Vec Ideal S1x512x512 .f32) (x7 : Vec Ideal S1x16x512 .f32) :
    List (View.Piece (Elt Ideal) S544x512 .f32) :=
  [⟨Rect.unit (s := S544x512) ![528, 0] S16x512.size inb_S544x512_S16x512_528_0, k0_pay4 i x7⟩,
    ⟨Rect.unit (s := S544x512) ![16, 0] S512x512.size inb_S544x512_S512x512_16_0, k0_pay3 x6⟩,
    ⟨Rect.unit (s := S544x512) ![0, 0] S16x512.size inb_S544x512_S16x512_0_0, k0_pay2 i x5⟩]

theorem inb_ext (n o : ℕ) (h : o + n ≤ 544) (d : Fin 2) :
    (![o, 0] : Fin 2 → ℕ) d + (![n, 512] : Fin 2 → ℕ) d ≤ S544x512.size d := by
  fin_cases d
  · exact h
  · exact Nat.le_refl 512

/-- `n` rows from row `o` of the block with its halo. -/
def extRd (L : List (View.Piece (Elt Ideal) S544x512 .f32)) (n o : ℕ) (h : o + n ≤ 544) : Vec Ideal ⟨2, ![n, 512]⟩ .f32 :=
  (View.whole cc0_scratch0).readCov (Val := Elt Ideal) L (Rect.unit (s := S544x512) ![o, 0] ![n, 512] (inb_ext n o h)).toLoadRect

/-- The stores that fill the seven shifted copies. -/
def shL (L : List (View.Piece (Elt Ideal) S544x512 .f32)) : List (View.Piece (Elt Ideal) S7x536x512 .f32) :=
  [⟨Rect.unit (s := S7x536x512) ![6, 0, 0] S1x536x512.size inb_S7x536x512_S1x536x512_6_0_0, k0_pay15 (extRd L 536 7 (by decide))⟩,
    ⟨Rect.unit (s := S7x536x512) ![5, 0, 0] S1x536x512.size inb_S7x536x512_S1x536x512_5_0_0, k0_pay14 (extRd L 536 6 (by decide))⟩,
    ⟨Rect.unit (s := S7x536x512) ![4, 0, 0] S1x536x512.size inb_S7x536x512_S1x536x512_4_0_0, k0_pay13 (extRd L 536 5 (by decide))⟩,
    ⟨Rect.unit (s := S7x536x512) ![3, 0, 0] S1x536x512.size inb_S7x536x512_S1x536x512_3_0_0, k0_pay12 (extRd L 536 4 (by decide))⟩,
    ⟨Rect.unit (s := S7x536x512) ![2, 0, 0] S1x536x512.size inb_S7x536x512_S1x536x512_2_0_0, k0_pay11 (extRd L 536 3 (by decide))⟩,
    ⟨Rect.unit (s := S7x536x512) ![1, 0, 0] S1x536x512.size inb_S7x536x512_S1x536x512_1_0_0, k0_pay10 (extRd L 536 2 (by decide))⟩,
    ⟨Rect.unit (s := S7x536x512) ![0, 0, 0] S1x536x512.size inb_S7x536x512_S1x536x512_0_0_0, k0_pay9 (extRd L 536 1 (by decide))⟩]

theorem inb_sh (k o : ℕ) (h : k < 7) (h' : o ≤ 24) (d : Fin 3) :
    (![k, o, 0] : Fin 3 → ℕ) d + S1x512x512.size d ≤ S7x536x512.size d := by
  fin_cases d
  · show k + 1 ≤ 7; omega
  · show o + 512 ≤ 536; omega
  · exact Nat.le_refl 512

/-- 512 rows from row `o` of shifted copy `k`. -/
def shRd (L : List (View.Piece (Elt Ideal) S7x536x512 .f32)) (k o : ℕ) (h : k < 7) (h' : o ≤ 24) : Vec Ideal S1x512x512 .f32 :=
  (View.whole cc0_scratch1).readCov (Val := Elt Ideal) L (Rect.unit (s := S7x536x512) ![k, o, 0] S1x512x512.size (inb_sh k o h h')).toLoadRect

theorem inb_tap (j : ℕ) (h : j ≤ 30) (d : Fin 2) : (![j, 0] : Fin 2 → ℕ) d + S1x512.size d ≤ S31x512.size d := by
  fin_cases d
  · show j + 1 ≤ 31; omega
  · exact Nat.le_refl 512

/-- The weights of tap `j`. -/
def tapRd (x : Vec Ideal S31x512 .f32) (j : ℕ) (h : j ≤ 30) : Vec Ideal S1x512 .f32 :=
  View.ld x (Rect.unit (s := S31x512) ![j, 0] S1x512.size (inb_tap j h))

/-- The block of a grid point, from the blocks of the arguments. -/
def outExpr (i : grid0.Coords) (x0 : Vec Ideal S1x512x1024 .f32) (x1 : Vec Ideal S1x3x1024 .f32) (x2 : Vec Ideal S1x1024 .f32)
    (x3 : Vec Ideal S1x1x1024x5632 .bf16) (x4 : Vec Ideal S1x1x2816x1024 .bf16) (x5 : Vec Ideal S1x16x512 .f32)
    (x6 : Vec Ideal S1x512x512 .f32) (x7 : Vec Ideal S1x16x512 .f32) (x8 : Vec Ideal S1x512x512 .bf16)
    (x9 : Vec Ideal S1x1x1024 .f32) (x10 x11 : Vec Ideal S512x1024 .bf16) (x12 : Vec Ideal S31x512 .f32)
    (x13 x14 x15 : Vec Ideal S1x512 .f32) : FVec Ideal S1x512x1024 .f32 :=
  stepBlk (mixBlk x0 x14 x15 (centre (tapRd x12) (fun o h => extRd (extL i x5 x6 x7) 512 o (by omega))
      (shRd (shL (extL i x5 x6 x7))) x13) x10 x8 x11 x9) x2
    (View.ld x1 (Rect.unit (s := S1x3x1024) ![0, 0, 0] S1x1x1024.size inb_S1x3x1024_S1x1x1024_0_0_0))
    (View.ld x1 (Rect.unit (s := S1x3x1024) ![0, 1, 0] S1x1x1024.size inb_S1x3x1024_S1x1x1024_0_1_0))
    (View.ld x3 (Rect.unit (s := S1x1x1024x5632) ![0, 0, 0, 0] S1x1x1024x2816.size inb_S1x1x1024x5632_S1x1x1024x2816_0_0_0_0))
    (View.ld x3 (Rect.unit (s := S1x1x1024x5632) ![0, 0, 0, 2816] S1x1x1024x2816.size inb_S1x1x1024x5632_S1x1x1024x2816_0_0_0_2816))
    (View.ld x1 (Rect.unit (s := S1x3x1024) ![0, 2, 0] S1x1x1024.size inb_S1x3x1024_S1x1x1024_0_2_0)) x4

variable (m : (ℓ : Loc nD τ sig) → Buf (Elt Ideal) ℓ)

/-- The block as one expression of the point's input blocks. -/
theorem out_block (c : Dev nD) (t : Fin cfg0.N) :
    outsAt0 m c t = outExpr (grid0.coords t) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t)
      (iblk m c 12 t) (iblk m c 13 t) (iblk m c 14 t) (iblk m c 15 t) := by
  unfold outsAt0
  frame_open
  frame_out
  rfl

/-! ## Reading back what the body stored -/

/-- Stores that agree with one array, read back at an index that one of them holds. -/
theorem filled {S : Shape} {φ : EltTy} (L : List (View.Piece (Elt Ideal) S φ)) (g : S.Idx → Elt Ideal φ) (y : S.Idx)
    (cover : ∃ p ∈ L, y ∈ p.1.set) (h : ∀ p ∈ L, ∀ x, p.2 x = g (p.1.emb x)) : View.canon L y = g y :=
  View.canon_eq_of_allAt L y (g y) cover fun p hp x hx => (h p hp x).trans (congrArg g hx)

variable (E : Fin 512 → ℕ → EReal)

theorem ext_piece {n o : ℕ} (inb) (P : Vec Ideal ⟨2, ![n, 512]⟩ .f32) (h : ∀ x l, P (ix2 x l) = E l (o + x.val))
    (x : (⟨2, ![n, 512]⟩ : Shape).Idx) :
    P x = E ((Rect.unit (s := S544x512) ![o, 0] ![n, 512] inb).emb x 1) ((Rect.unit (s := S544x512) ![o, 0] ![n, 512] inb).emb x 0).val := by
  have e : x = ix2 (x 0) (x 1) := by
    funext a
    fin_cases a <;> rfl
  have e0 : ((Rect.unit (s := S544x512) ![o, 0] ![n, 512] inb).emb x 0 : ℕ) = o + (x 0).val :=
    Rect.idx_unit_val (s := S544x512) ![o, 0] ![n, 512] inb x 0
  have e1 : ((Rect.unit (s := S544x512) ![o, 0] ![n, 512] inb).emb x 1 : ℕ) = 0 + (x 1).val :=
    Rect.idx_unit_val (s := S544x512) ![o, 0] ![n, 512] inb x 1
  refine (congrArg P e).trans ((h (x 0) (x 1)).trans ?_)
  exact congrArg₂ E (Fin.ext (e1.trans (Nat.zero_add _)).symm) e0.symm

theorem ext_in {n o : ℕ} (inb) (y : S544x512.Idx) (h : o ≤ (y 0).val ∧ (y 0).val < o + n) :
    y ∈ (Rect.unit (s := S544x512) ![o, 0] ![n, 512] inb).set :=
  Rect.mem_set_unit.mpr (Fin.forall_fin_two.mpr ⟨h, Nat.zero_le _, by have h1 : (y 1).val < 512 := (y 1).isLt; show (y 1).val < 0 + 512; omega⟩)

/-- The block with its halo, at an index. -/
theorem ext_pt (i : grid0.Coords) (x5 : Vec Ideal S1x16x512 .f32) (x6 : Vec Ideal S1x512x512 .f32) (x7 : Vec Ideal S1x16x512 .f32)
    (h5 : ∀ x l, k0_pay2 (F := Ideal) i x5 (ix2 x l) = E l (0 + x.val)) (h6 : ∀ x l, k0_pay3 (F := Ideal) x6 (ix2 x l) = E l (16 + x.val))
    (h7 : ∀ x l, k0_pay4 (F := Ideal) i x7 (ix2 x l) = E l (528 + x.val)) (y : S544x512.Idx) :
    View.canon (extL i x5 x6 x7) y = E (y 1) (y 0).val := by
  have hy : (y 0).val < 544 := (y 0).isLt
  refine filled (φ := .f32) _ (fun y : S544x512.Idx => E (y 1) (y 0).val) y ?_ ?_
  · simp only [extL, List.exists_mem_cons_iff]
    by_cases h : (y 0).val < 16
    · exact .inr (.inr (.inl (ext_in _ y ⟨Nat.zero_le _, by omega⟩)))
    · by_cases h' : (y 0).val < 528
      · exact .inr (.inl (ext_in _ y ⟨by omega, by omega⟩))
      · exact .inl (ext_in _ y ⟨by omega, by omega⟩)
  · intro p hp
    simp only [extL, List.mem_cons, List.not_mem_nil, or_false] at hp
    rcases hp with rfl | rfl | rfl
    · exact ext_piece E inb_S544x512_S16x512_528_0 _ h7
    · exact ext_piece E inb_S544x512_S512x512_16_0 _ h6
    · exact ext_piece E inb_S544x512_S16x512_0_0 _ h5

theorem extRd_pt (L : List (View.Piece (Elt Ideal) S544x512 .f32)) (hL : ∀ y : S544x512.Idx, View.canon L y = E (y 1) (y 0).val)
    (n o : ℕ) (h : o + n ≤ 544) (r : Fin n) (l : Fin 512) : extRd L n o h (ix2 r l) = E l (o + r.val) := by
  unfold extRd
  rw [View.readCov_eq_canon']
  refine (hL _).trans (congrArg₂ E (Fin.ext ?_) ?_)
  · exact (Rect.idx_unit_val (s := S544x512) ![o, 0] ![n, 512] (inb_ext n o h) (ix2 r l) 1).trans (Nat.zero_add _)
  · exact Rect.idx_unit_val (s := S544x512) ![o, 0] ![n, 512] (inb_ext n o h) (ix2 r l) 0

theorem sh_piece (k : ℕ) (inb) (P : Vec Ideal S1x536x512 .f32) (h : ∀ r l, P (ix3 0 r l) = E l (k + 1 + r.val)) (x : S1x536x512.Idx) :
    P x = (fun y : S7x536x512.Idx => E (y 2) ((y 0).val + 1 + (y 1).val))
      ((Rect.unit (s := S7x536x512) ![k, 0, 0] S1x536x512.size inb).emb x) := by
  have e : ∀ a, ((Rect.unit (s := S7x536x512) ![k, 0, 0] S1x536x512.size inb).emb x a : ℕ) = ![k, 0, 0] a + (x a).val := fun a =>
    Rect.idx_unit_val (s := S7x536x512) ![k, 0, 0] S1x536x512.size inb x a
  have hx : (x 0).val < 1 := (x 0).isLt
  have e0 : ((Rect.unit (s := S7x536x512) ![k, 0, 0] S1x536x512.size inb).emb x 0 : ℕ) = k :=
    (e 0).trans (by show k + (x 0).val = k; omega)
  have e1 : ((Rect.unit (s := S7x536x512) ![k, 0, 0] S1x536x512.size inb).emb x 1 : ℕ) = (x 1).val := (e 1).trans (Nat.zero_add _)
  have e2 : ((Rect.unit (s := S7x536x512) ![k, 0, 0] S1x536x512.size inb).emb x 2 : ℕ) = (x 2).val := (e 2).trans (Nat.zero_add _)
  refine (congrArg P (eq3 x)).trans ((h (x 1) (x 2)).trans ?_)
  exact congrArg₂ E (Fin.ext e2.symm) (congrArg₂ (· + ·) (congrArg (· + 1) e0.symm) e1.symm)

theorem sh_in (k : ℕ) (inb) (y : S7x536x512.Idx) (h : (y 0).val = k) :
    y ∈ (Rect.unit (s := S7x536x512) ![k, 0, 0] S1x536x512.size inb).set := by
  have h1 : (y 1).val < 536 := (y 1).isLt
  have h2 : (y 2).val < 512 := (y 2).isLt
  exact Rect.mem_set_unit.mpr (Fin.forall_fin_succ.mpr ⟨⟨by show k ≤ (y 0).val; omega, by show (y 0).val < k + 1; omega⟩,
    Fin.forall_fin_two.mpr ⟨⟨Nat.zero_le _, by show (y 1).val < 0 + 536; omega⟩, ⟨Nat.zero_le _, by show (y 2).val < 0 + 512; omega⟩⟩⟩)

/-- The shifted copies, at an index. -/
theorem sh_pt (L : List (View.Piece (Elt Ideal) S544x512 .f32)) (hL : ∀ y : S544x512.Idx, View.canon L y = E (y 1) (y 0).val)
    (y : S7x536x512.Idx) : View.canon (shL L) y = E (y 2) ((y 0).val + 1 + (y 1).val) := by
  have cast : ∀ (v : Vec Ideal S536x512 .f32) r l, k0_pay9 (F := Ideal) v (ix3 0 r l) = v (ix2 r l) := fun v r l => by pointwise [k0_pay9]
  have hP : ∀ (k : ℕ) (h : k + 1 + 536 ≤ 544) r l, k0_pay9 (F := Ideal) (extRd L 536 (k + 1) h) (ix3 0 r l) = E l (k + 1 + r.val) :=
    fun k h r l => (cast _ r l).trans (extRd_pt E L hL 536 (k + 1) h r l)
  have hy : (y 0).val < 7 := (y 0).isLt
  refine filled (φ := .f32) _ (fun y : S7x536x512.Idx => E (y 2) ((y 0).val + 1 + (y 1).val)) y ?_ ?_
  · have : (y 0).val = 0 ∨ (y 0).val = 1 ∨ (y 0).val = 2 ∨ (y 0).val = 3 ∨ (y 0).val = 4 ∨ (y 0).val = 5 ∨ (y 0).val = 6 := by omega
    simp only [shL, List.exists_mem_cons_iff]
    rcases this with h | h | h | h | h | h | h
    · exact .inr (.inr (.inr (.inr (.inr (.inr ((.inl (sh_in 0 _ y h))))))))
    · exact .inr (.inr (.inr (.inr (.inr ((.inl (sh_in 1 _ y h)))))))
    · exact .inr (.inr (.inr (.inr ((.inl (sh_in 2 _ y h))))))
    · exact .inr (.inr (.inr ((.inl (sh_in 3 _ y h)))))
    · exact .inr (.inr ((.inl (sh_in 4 _ y h))))
    · exact .inr ((.inl (sh_in 5 _ y h)))
    · exact .inl (sh_in 6 _ y h)
  · intro p hp
    simp only [shL, List.mem_cons, List.not_mem_nil, or_false] at hp
    rcases hp with rfl | rfl | rfl | rfl | rfl | rfl | rfl
    · exact sh_piece E 6 inb_S7x536x512_S1x536x512_6_0_0 _ (hP 6 (by decide))
    · exact sh_piece E 5 inb_S7x536x512_S1x536x512_5_0_0 _ (hP 5 (by decide))
    · exact sh_piece E 4 inb_S7x536x512_S1x536x512_4_0_0 _ (hP 4 (by decide))
    · exact sh_piece E 3 inb_S7x536x512_S1x536x512_3_0_0 _ (hP 3 (by decide))
    · exact sh_piece E 2 inb_S7x536x512_S1x536x512_2_0_0 _ (hP 2 (by decide))
    · exact sh_piece E 1 inb_S7x536x512_S1x536x512_1_0_0 _ (hP 1 (by decide))
    · exact sh_piece E 0 inb_S7x536x512_S1x536x512_0_0_0 _ (hP 0 (by decide))

theorem shRd_pt (L : List (View.Piece (Elt Ideal) S7x536x512 .f32))
    (hL : ∀ y : S7x536x512.Idx, View.canon L y = E (y 2) ((y 0).val + 1 + (y 1).val))
    (k o : ℕ) (h : k < 7) (h' : o ≤ 24) (r l : Fin 512) : shRd L k o h h' (ix3 0 r l) = E l (k + 1 + (o + r.val)) := by
  have e : ∀ a, ((Rect.unit (s := S7x536x512) ![k, o, 0] S1x512x512.size (inb_sh k o h h')).idx (ix3 0 r l) a : ℕ) =
      ![k, o, 0] a + ((ix3 0 r l : S1x512x512.Idx) a).val := fun a =>
    Rect.idx_unit_val (s := S7x536x512) ![k, o, 0] S1x512x512.size (inb_sh k o h h') (ix3 0 r l) a
  unfold shRd
  rw [View.readCov_eq_canon']
  refine (hL _).trans (congrArg₂ E (Fin.ext ((e 2).trans (Nat.zero_add _))) ?_)
  exact congrArg₂ (· + ·) (congrArg (· + 1) (e 0)) (e 1)

/-- The block of a grid point at an index, from what the block with its halo holds. -/
theorem outExpr_pt (i : grid0.Coords) (x0 : Vec Ideal S1x512x1024 .f32) (x1 : Vec Ideal S1x3x1024 .f32) (x2 : Vec Ideal S1x1024 .f32)
    (x3 : Vec Ideal S1x1x1024x5632 .bf16) (x4 : Vec Ideal S1x1x2816x1024 .bf16) (x5 : Vec Ideal S1x16x512 .f32)
    (x6 : Vec Ideal S1x512x512 .f32) (x7 : Vec Ideal S1x16x512 .f32) (x8 : Vec Ideal S1x512x512 .bf16)
    (x9 : Vec Ideal S1x1x1024 .f32) (x10 x11 : Vec Ideal S512x1024 .bf16) (x12 : Vec Ideal S31x512 .f32)
    (x13 x14 x15 : Vec Ideal S1x512 .f32)
    (h5 : ∀ x l, k0_pay2 (F := Ideal) i x5 (ix2 x l) = E l (0 + x.val)) (h6 : ∀ x l, k0_pay3 (F := Ideal) x6 (ix2 x l) = E l (16 + x.val))
    (h7 : ∀ x l, k0_pay4 (F := Ideal) i x7 (ix2 x l) = E l (528 + x.val)) (r : Fin 512) (l : Fin 1024) :
    outExpr i x0 x1 x2 x3 x4 x5 x6 x7 x8 x9 x10 x11 x12 x13 x14 x15 (ix3 0 r l) =
      step (mixed (fun d => x0 (ix3 0 r d)) (fun d => x9 (ix3 0 0 d))
          (silu (lnorm (fun l => acc (0 + x13 (ix2 0 l)) (wt x12 l) (fun j => E l (r.val + 1 + j)) 31)
            (fun d => x14 (ix2 0 d)) (fun d => x15 (ix2 0 d))))
          (fun d => x8 (ix3 0 d r)) (fun d l => x10 (ix2 d l)) (fun d l => x11 (ix2 d l)))
        (fun d => x2 (ix2 0 d)) (fun d => x1 (ix3 0 0 d)) (fun d => x1 (ix3 0 1 d)) (fun d => x1 (ix3 0 2 d))
        (fun d j => x3 (ix4 0 0 d (lo j))) (fun d j => x3 (ix4 0 0 d (hi j))) (fun j l => x4 (ix4 0 0 j l)) l := by
  have hL := ext_pt E i x5 x6 x7 h5 h6 h7
  have hS := sh_pt E _ hL
  have hq : ∀ d, centre (tapRd x12) (fun o h => extRd (extL i x5 x6 x7) 512 o (by omega)) (shRd (shL (extL i x5 x6 x7))) x13 (ix2 r d) =
      dev (fun l => acc (0 + x13 (ix2 0 l)) (wt x12 l) (fun j => E l (r.val + 1 + j)) 31) d := fun d => by
    refine centre_pt _ _ _ (wt x12) (fun l j => E l (r.val + 1 + j)) r ?_ ?_ ?_ x13 d
    · intro j h l
      exact at2 x12 _ _ 0 l (Fin.ofNat 31 j) l (Nat.mod_eq_of_lt (by omega)) (Nat.zero_add _).symm
    · intro o h l
      rw [extRd_pt E _ hL]
      exact congrArg (E l) (by omega)
    · intro k o h h' l
      rw [shRd_pt E _ hS]
      exact congrArg (E l) (by omega)
  have e1 : ∀ d, View.ld x1 (Rect.unit (s := S1x3x1024) ![0, 0, 0] S1x1x1024.size inb_S1x3x1024_S1x1x1024_0_0_0) (ix3 0 0 d) = x1 (ix3 0 0 d) :=
    fun d => at3 x1 _ _ 0 0 d 0 0 d rfl rfl (Nat.zero_add _).symm
  have e2 : ∀ d, View.ld x1 (Rect.unit (s := S1x3x1024) ![0, 1, 0] S1x1x1024.size inb_S1x3x1024_S1x1x1024_0_1_0) (ix3 0 0 d) = x1 (ix3 0 1 d) :=
    fun d => at3 x1 _ _ 0 0 d 0 1 d rfl rfl (Nat.zero_add _).symm
  have e3 : ∀ d, View.ld x1 (Rect.unit (s := S1x3x1024) ![0, 2, 0] S1x1x1024.size inb_S1x3x1024_S1x1x1024_0_2_0) (ix3 0 0 d) = x1 (ix3 0 2 d) :=
    fun d => at3 x1 _ _ 0 0 d 0 2 d rfl rfl (Nat.zero_add _).symm
  have e4 : ∀ d j, View.ld x3 (Rect.unit (s := S1x1x1024x5632) ![0, 0, 0, 0] S1x1x1024x2816.size inb_S1x1x1024x5632_S1x1x1024x2816_0_0_0_0)
      (ix4 0 0 d j) = x3 (ix4 0 0 d (lo j)) := fun d j =>
    at4 x3 _ _ 0 0 d j 0 0 d (lo j) rfl rfl (Nat.zero_add _).symm (Nat.zero_add _).symm
  have e5 : ∀ d j, View.ld x3 (Rect.unit (s := S1x1x1024x5632) ![0, 0, 0, 2816] S1x1x1024x2816.size inb_S1x1x1024x5632_S1x1x1024x2816_0_0_0_2816)
      (ix4 0 0 d j) = x3 (ix4 0 0 d (hi j)) := fun d j =>
    at4 x3 _ _ 0 0 d j 0 0 d (hi j) rfl rfl (Nat.zero_add _).symm rfl
  have em : ∀ d, mixBlk x0 x14 x15 (centre (tapRd x12) (fun o h => extRd (extL i x5 x6 x7) 512 o (by omega)) (shRd (shL (extL i x5 x6 x7))) x13)
      x10 x8 x11 x9 (ix2 r d) = _ := fun d => mixBlk_pt x0 x14 x15 _ x10 x8 x11 x9 _ r hq d
  unfold outExpr
  rw [stepBlk_pt]
  simp only [e1, e2, e3, e4, e5, em]

end Cert.Kernel5Ideal.Mix

end

end
-- ==== Proof.MixWin.lean ====
/-
  The mixer's feed-forward call: which part of each array a grid point reads, and the array the call leaves.
-/
module

public import proofs.«01_k».proof.Defs
public import proofs.«01_k».proof.Proof.Mix
public import proofs.«01_k».proof.Proof.Gen.Reference5Ideal.Run
public import Idealize.ShloMosaic.Lib.StableHlo.ReadAt

@[expose] public section

set_option maxRecDepth 16384

noncomputable section

namespace Cert.Kernel5Ideal.Mix

open Idealize.ShloMosaic Idealize.ShloMosaic.TcCoe
open Idealize.SL Idealize.SL.Sem
open Cert.Kernel5Ideal Cert.Kernel5Ideal.Gen Cert.Row Cert.Ffn Cert.Blocks Cert.Mix

variable (m : (ℓ : Loc nD τ sig) → Buf (Elt Ideal) ℓ)

abbrev aX (c : Dev nD) : FVec Ideal S2x16384x1024 .f32 := m ((c : Thread nD τ).loc main_arg0)
abbrev aA (c : Dev nD) : FVec Ideal S2x16384x512 .f32 := m ((c : Thread nD τ).loc main_arg1)
abbrev aZ (c : Dev nD) : FVec Ideal S2x16384x512 .f32 := m ((c : Thread nD τ).loc main_arg2)
abbrev aN (c : Dev nD) : FVec Ideal S2x3x1024 .f32 := m ((c : Thread nD τ).loc main_arg3)
abbrev aM (c : Dev nD) : FVec Ideal S2x3x1024 .f32 := m ((c : Thread nD τ).loc main_arg4)
abbrev aG (c : Dev nD) : FVec Ideal S2x3x1024 .f32 := m ((c : Thread nD τ).loc main_arg5)
abbrev aI (c : Dev nD) : FVec Ideal S2x2x1024x5632 .f32 := m ((c : Thread nD τ).loc main_arg6)
abbrev aO (c : Dev nD) : FVec Ideal S2x2x2816x1024 .f32 := m ((c : Thread nD τ).loc main_arg7)
abbrev aCw (c : Dev nD) : FVec Ideal S31x512 .f32 := m ((c : Thread nD τ).loc main_arg8)
abbrev aCb (c : Dev nD) : FVec Ideal S512 .f32 := m ((c : Thread nD τ).loc main_arg9)
abbrev aLg (c : Dev nD) : FVec Ideal S512 .f32 := m ((c : Thread nD τ).loc main_arg10)
abbrev aLb (c : Dev nD) : FVec Ideal S512 .f32 := m ((c : Thread nD τ).loc main_arg11)
abbrev aW (c : Dev nD) : FVec Ideal S1024x1024 .f32 := m ((c : Thread nD τ).loc main_arg12)

/-! ## What the operations before the kernel leave -/

theorem zt_pt (c : Dev nD) (b : Fin 2) (d : Fin 512) (r : Fin 16384) :
    (V m c main_v1 : FVec Ideal S2x512x16384 .bf16) (ix3 b d r) = aZ m c (ix3 b r d) := by
  have e : (V m c main_v1 : FVec Ideal S2x512x16384 .bf16) =
      truncf .bf16 (transpose S2x512x16384 [0, 2, 1] (aZ m c) transposes_S2x16384x512_S2x512x16384_0_2_1) bitsLt_bf16_f32 := by
    unfold V; simp only [hostOps0]; after_reads_simp
  rw [e]
  pointwise []

theorem wa_pt (c : Dev nD) (d : Fin 512) (l : Fin 1024) :
    (V m c main_v3 : FVec Ideal S512x1024 .bf16) (ix2 d l) = aW m c (ix2 (fst d) l) := by
  have e : (V m c main_v3 : FVec Ideal S512x1024 .bf16) =
      truncf .bf16 (extractStridedSlice S512x1024 ![0, 0] (aW m c) slices_S1024x1024_S512x1024_0_0) bitsLt_bf16_f32 := by
    unfold V; simp only [hostOps0]; after_reads_simp
  rw [e]
  pointwise []

theorem wz_pt (c : Dev nD) (d : Fin 512) (l : Fin 1024) :
    (V m c main_v5 : FVec Ideal S512x1024 .bf16) (ix2 d l) = aW m c (ix2 (snd d) l) := by
  have e : (V m c main_v5 : FVec Ideal S512x1024 .bf16) =
      truncf .bf16 (extractStridedSlice S512x1024 ![512, 0] (aW m c) slices_S1024x1024_S512x1024_512_0) bitsLt_bf16_f32 := by
    unfold V; simp only [hostOps0]; after_reads_simp
  rw [e]
  pointwise []

theorem gain_pt (c : Dev nD) (d : Fin 1024) : (V m c main_v11 : FVec Ideal S1x1024 .f32) (ix2 0 d) = aG m c (ix3 0 2 d) := by
  have e : (V m c main_v11 : FVec Ideal S1x1024 .f32) = shapeCast _ (shapeCast S1024
      (extractStridedSlice S1x1x1024 ![0, 2, 0] (aG m c) slices_S2x3x1024_S1x1x1024_0_2_0)
      shapeCasts_S1x1x1024_S1024) shapeCasts_S1024_S1x1024 := by
    unfold V; simp only [hostOps0]; after_reads_simp; rfl
  rw [e]
  pointwise []

theorem gm_pt (c : Dev nD) (b : Fin 2) (l : Fin 1024) :
    (V m c main_v10 : FVec Ideal S2x1x1024 .f32) (ix3 b 0 l) = aN m c (ix3 b 2 l) := by
  have e : (V m c main_v10 : FVec Ideal S2x1x1024 .f32) =
      extractStridedSlice S2x1x1024 ![0, 2, 0] (aN m c) slices_S2x3x1024_S2x1x1024_0_2_0 := by
    unfold V; simp only [hostOps0]; after_reads_simp
  rw [e]
  pointwise []

theorem in_eq (c : Dev nD) : (V m c main_v8 : FVec Ideal S2x2x1024x5632 .bf16) = aI m c := by
  unfold V; simp only [hostOps0]; after_reads_simp; rfl

theorem out_eq (c : Dev nD) : (V m c main_v9 : FVec Ideal S2x2x2816x1024 .bf16) = aO m c := by
  unfold V; simp only [hostOps0]; after_reads_simp; rfl

theorem cast_pt (x : FVec Ideal S512 .f32) (d : Fin 512) : shapeCast S1x512 x shapeCasts_S512_S1x512 (ix2 0 d) = x (ix1 d) := by
  pointwise []

theorem cb_pt (c : Dev nD) (d : Fin 512) : (V m c main_v12 : FVec Ideal S1x512 .f32) (ix2 0 d) = aCb m c (ix1 d) := by
  rw [← cast_pt (aCb m c)]
  refine congrFun ?_ _
  unfold V; simp only [hostOps0]; after_reads_simp; rfl

theorem lg_pt (c : Dev nD) (d : Fin 512) : (V m c main_v13 : FVec Ideal S1x512 .f32) (ix2 0 d) = aLg m c (ix1 d) := by
  rw [← cast_pt (aLg m c)]
  refine congrFun ?_ _
  unfold V; simp only [hostOps0]; after_reads_simp; rfl

theorem lb_pt (c : Dev nD) (d : Fin 512) : (V m c main_v14 : FVec Ideal S1x512 .f32) (ix2 0 d) = aLb m c (ix1 d) := by
  rw [← cast_pt (aLb m c)]
  refine congrFun ?_ _
  unfold V; simp only [hostOps0]; after_reads_simp; rfl

/-! ## The blocks -/

/-- The batch of a grid point, and its place in the sequence, in blocks of 512 rows. -/
abbrev bq (t : Fin cfg0.N) : Fin 2 := grid0.coords t 0
abbrev iq (t : Fin cfg0.N) : Fin 32 := grid0.coords t 1
abbrev at' (t : Fin cfg0.N) (r : Fin 512) : Fin 16384 := ⟨(iq t).val * 512 + r.val, by omega⟩

/-- The blocks of sixteen rows before and after those of a grid point, with the ends held inside. -/
abbrev before (t : Fin cfg0.N) (r : Fin 16) : Fin 16384 := ⟨((iq t).val * 32 - 1) * 16 + r.val, by omega⟩
abbrev after (t : Fin cfg0.N) (r : Fin 16) : Fin 16384 := ⟨min ((iq t).val * 32 + 32) 1023 * 16 + r.val, by omega⟩

theorem idx : ∀ t : Fin cfg0.N,
    win0_0.index t = ![(grid0.coords t 0).val, (grid0.coords t 1).val, 0] ∧
    win0_1.index t = ![(grid0.coords t 0).val, 0, 0] ∧ win0_2.index t = ![0, 0] ∧ win0_3.index t = ![0, 1, 0, 0] ∧
    win0_4.index t = ![0, 1, 0, 0] ∧
    win0_5.index t = ![(grid0.coords t 0).val, (grid0.coords t 1).val * 32 - 1, 0] ∧
    win0_6.index t = ![(grid0.coords t 0).val, (grid0.coords t 1).val, 0] ∧
    win0_7.index t = ![(grid0.coords t 0).val, min ((grid0.coords t 1).val * 32 + 32) 1023, 0] ∧
    win0_8.index t = ![(grid0.coords t 0).val, 0, (grid0.coords t 1).val] ∧
    win0_9.index t = ![(grid0.coords t 0).val, 0, 0] ∧
    win0_10.index t = ![0, 0] ∧ win0_11.index t = ![0, 0] ∧ win0_12.index t = ![0, 0] ∧ win0_13.index t = ![0, 0] ∧
    win0_14.index t = ![0, 0] ∧ win0_15.index t = ![0, 0] ∧
    win0_16.index t = ![(grid0.coords t 0).val, (grid0.coords t 1).val, 0] :=
  (by decide +kernel : ∀ t : Fin grid0.N, _)

theorem blk0 (c : Dev nD) (t : Fin cfg0.N) (r : Fin 512) (l : Fin 1024) :
    (iblk m c 0 t : Vec Ideal S1x512x1024 .f32) (ix3 0 r l) = aX m c (ix3 (bq t) (at' t r) l) := by
  unfold aX
  rw [← V_main_arg0 m c]
  blk_ext [iblk, idx t] <;> exact Nat.add_zero _

theorem blk1 (c : Dev nD) (t : Fin cfg0.N) (k : Fin 3) (l : Fin 1024) :
    (iblk m c 1 t : Vec Ideal S1x3x1024 .f32) (ix3 0 k l) = aM m c (ix3 (bq t) k l) := by
  unfold aM
  rw [← V_main_arg4 m c]
  blk_ext [iblk, idx t] <;> exact Nat.add_zero _

theorem blk2 (c : Dev nD) (t : Fin cfg0.N) (l : Fin 1024) :
    (iblk m c 2 t : Vec Ideal S1x1024 .f32) (ix2 0 l) = aG m c (ix3 0 2 l) := by
  rw [← gain_pt]
  blk_ext [iblk, idx t]

theorem blk3 (c : Dev nD) (t : Fin cfg0.N) (d : Fin 1024) (j : Fin 5632) :
    (iblk m c 3 t : Vec Ideal S1x1x1024x5632 .bf16) (ix4 0 0 d j) = aI m c (ix4 0 1 d j) := by
  rw [← in_eq]
  blk_ext [iblk, idx t]

theorem blk4 (c : Dev nD) (t : Fin cfg0.N) (j : Fin 2816) (l : Fin 1024) :
    (iblk m c 4 t : Vec Ideal S1x1x2816x1024 .bf16) (ix4 0 0 j l) = aO m c (ix4 0 1 j l) := by
  rw [← out_eq]
  blk_ext [iblk, idx t]

theorem blk5 (c : Dev nD) (t : Fin cfg0.N) (r : Fin 16) (l : Fin 512) :
    (iblk m c 5 t : Vec Ideal S1x16x512 .f32) (ix3 0 r l) = aA m c (ix3 (bq t) (before t r) l) := by
  unfold aA
  rw [← V_main_arg1 m c]
  blk_ext [iblk, idx t] <;> exact Nat.add_zero _

theorem blk6 (c : Dev nD) (t : Fin cfg0.N) (r : Fin 512) (l : Fin 512) :
    (iblk m c 6 t : Vec Ideal S1x512x512 .f32) (ix3 0 r l) = aA m c (ix3 (bq t) (at' t r) l) := by
  unfold aA
  rw [← V_main_arg1 m c]
  blk_ext [iblk, idx t] <;> exact Nat.add_zero _

theorem blk7 (c : Dev nD) (t : Fin cfg0.N) (r : Fin 16) (l : Fin 512) :
    (iblk m c 7 t : Vec Ideal S1x16x512 .f32) (ix3 0 r l) = aA m c (ix3 (bq t) (after t r) l) := by
  unfold aA
  rw [← V_main_arg1 m c]
  blk_ext [iblk, idx t] <;> exact Nat.add_zero _

theorem blk8 (c : Dev nD) (t : Fin cfg0.N) (d r : Fin 512) :
    (iblk m c 8 t : Vec Ideal S1x512x512 .bf16) (ix3 0 d r) = aZ m c (ix3 (bq t) (at' t r) d) := by
  rw [← zt_pt]
  blk_ext [iblk, idx t] <;> exact Nat.add_zero _

theorem blk9 (c : Dev nD) (t : Fin cfg0.N) (l : Fin 1024) :
    (iblk m c 9 t : Vec Ideal S1x1x1024 .f32) (ix3 0 0 l) = aN m c (ix3 (bq t) 2 l) := by
  rw [← gm_pt]
  blk_ext [iblk, idx t] <;> exact Nat.add_zero _

theorem blk10 (c : Dev nD) (t : Fin cfg0.N) (d : Fin 512) (l : Fin 1024) :
    (iblk m c 10 t : Vec Ideal S512x1024 .bf16) (ix2 d l) = aW m c (ix2 (fst d) l) := by
  rw [← wa_pt]
  blk_ext [iblk, idx t]

theorem blk11 (c : Dev nD) (t : Fin cfg0.N) (d : Fin 512) (l : Fin 1024) :
    (iblk m c 11 t : Vec Ideal S512x1024 .bf16) (ix2 d l) = aW m c (ix2 (snd d) l) := by
  rw [← wz_pt]
  blk_ext [iblk, idx t]

theorem blk12 (c : Dev nD) (t : Fin cfg0.N) (l : Fin 512) : wt (iblk m c 12 t : Vec Ideal S31x512 .f32) l = wt (aCw m c) l := by
  funext j
  unfold wt aCw
  rw [← V_main_arg8 m c]
  blk_ext [iblk, idx t]

theorem blk13 (c : Dev nD) (t : Fin cfg0.N) (d : Fin 512) :
    (iblk m c 13 t : Vec Ideal S1x512 .f32) (ix2 0 d) = aCb m c (ix1 d) := by
  rw [← cb_pt]
  blk_ext [iblk, idx t]

theorem blk14 (c : Dev nD) (t : Fin cfg0.N) (d : Fin 512) :
    (iblk m c 14 t : Vec Ideal S1x512 .f32) (ix2 0 d) = aLg m c (ix1 d) := by
  rw [← lg_pt]
  blk_ext [iblk, idx t]

theorem blk15 (c : Dev nD) (t : Fin cfg0.N) (d : Fin 512) :
    (iblk m c 15 t : Vec Ideal S1x512 .f32) (ix2 0 d) = aLb m c (ix1 d) := by
  rw [← lb_pt]
  blk_ext [iblk, idx t]

theorem emb16 (t : Fin cfg0.N) (y : S1x512x1024.Idx) :
    (((cfg0.win 16).blk t).view.emb y : S2x16384x1024.Idx) = ix3 (bq t) (at' t (y 1)) (y 2) := by
  blk_ext [idx t]

/-! ## The block with its halo -/

/-- Row `k` of a grid point's rows with sixteen before and sixteen after, zero beyond the ends of the sequence. -/
def halo (c : Dev nD) (t : Fin cfg0.N) (l : Fin 512) (k : ℕ) : EReal := seq (aA m c) (bq t) l ((iq t).val * 512 + k - 1)

theorem seq_in (A : FVec Ideal S2x16384x512 .f32) (b : Fin 2) (l : Fin 512) (k : ℕ) (r : Fin 16384) (h : k = r.val + 15) :
    seq A b l k = A (ix3 b r l) := by
  unfold seq
  rw [dif_pos (by omega)]
  exact congrArg (fun r => A (ix3 b r l)) (Fin.ext (by show k - 15 = r.val; omega))

theorem seq_out (A : FVec Ideal S2x16384x512 .f32) (b : Fin 2) (l : Fin 512) (k : ℕ) (h : ¬(15 ≤ k ∧ k < 16399)) :
    seq A b l k = 0 := dif_neg h

theorem place (t : Fin cfg0.N) : (iq t).val < 32 := (iq t).isLt

theorem first_pt (i : grid0.Coords) (v : Vec Ideal S1x16x512 .f32) (r : Fin 16) (l : Fin 512) :
    k0_pay2 (F := Ideal) i v (ix2 r l) = if 0 < (i 1).val then v (ix3 0 r l) else 0 := by
  have e : ∀ j : Fin 32, Scalar.cmpi .sgt (BitVec.ofNat 32 j.val) 0#32 = if 0 < j.val then 1#1 else 0#1 := by decide
  unfold k0_pay2
  simp only [e (i 1)]
  split
  · pointwise []
  · pointwise []

theorem last_pt (i : grid0.Coords) (v : Vec Ideal S1x16x512 .f32) (r : Fin 16) (l : Fin 512) :
    k0_pay4 (F := Ideal) i v (ix2 r l) = if (i 1).val < 31 then v (ix3 0 r l) else 0 := by
  have e : ∀ j : Fin 32, Scalar.cmpi .slt (BitVec.ofNat 32 j.val) 31#32 = if j.val < 31 then 1#1 else 0#1 := by decide
  unfold k0_pay4
  simp only [e (i 1)]
  split
  · pointwise []
  · pointwise []

theorem halo5 (c : Dev nD) (t : Fin cfg0.N) (r : Fin 16) (l : Fin 512) :
    k0_pay2 (F := Ideal) (grid0.coords t) (iblk m c 5 t) (ix2 r l) = halo m c t l (0 + r.val) := by
  rw [first_pt]
  unfold halo
  split
  · next h =>
    have h : 0 < (iq t).val := h
    rw [blk5]
    exact (seq_in _ _ _ _ _ (by show _ = ((iq t).val * 32 - 1) * 16 + r.val + 15; omega)).symm
  · next h =>
    have h : ¬0 < (iq t).val := h
    exact (seq_out _ _ _ _ (by omega)).symm

theorem halo6 (c : Dev nD) (t : Fin cfg0.N) (r : Fin 512) (l : Fin 512) :
    k0_pay3 (F := Ideal) (iblk m c 6 t) (ix2 r l) = halo m c t l (16 + r.val) := by
  have e : k0_pay3 (F := Ideal) (iblk m c 6 t) (ix2 r l) = (iblk m c 6 t : Vec Ideal S1x512x512 .f32) (ix3 0 r l) := by
    pointwise [k0_pay3]
  rw [e, blk6]
  exact (seq_in _ _ _ _ _ (by show _ = (iq t).val * 512 + r.val + 15; omega)).symm

theorem halo7 (c : Dev nD) (t : Fin cfg0.N) (r : Fin 16) (l : Fin 512) :
    k0_pay4 (F := Ideal) (grid0.coords t) (iblk m c 7 t) (ix2 r l) = halo m c t l (528 + r.val) := by
  rw [last_pt]
  unfold halo
  split
  · next h =>
    have h : (iq t).val < 31 := h
    rw [blk7]
    exact (seq_in _ _ _ _ _ (by show _ = min ((iq t).val * 32 + 32) 1023 * 16 + r.val + 15; omega)).symm
  · next h =>
    have h : ¬(iq t).val < 31 := h
    have := place t
    exact (seq_out _ _ _ _ (by omega)).symm

/-! ## The array the call leaves -/

/-- The result of the call, from the arguments. -/
abbrev resOf (c : Dev nD) : FVec Ideal S2x16384x1024 .f32 :=
  res (aA m c) (aZ m c) (aCw m c) (aCb m c) (aLg m c) (aLb m c) (aX m c) (aN m c) (aM m c) (aG m c) (aI m c) (aO m c) (aW m c)

theorem block_eq (c : Dev nD) (t : Fin cfg0.N) (r : Fin 512) (l : Fin 1024) :
    (outsAt0 m c t : FVec Ideal S1x512x1024 .f32) (ix3 0 r l) = resOf m c (ix3 (bq t) (at' t r) l) := by
  have e : ∀ l, (fun j => halo m c t l (r.val + 1 + j)) = fun j => seq (aA m c) (bq t) l ((at' t r).val + j) := fun l =>
    funext fun j => congrArg (seq (aA m c) (bq t) l) (by show (iq t).val * 512 + (r.val + 1 + j) - 1 = (iq t).val * 512 + r.val + j; omega)
  rw [out_block, outExpr_pt (halo m c t) _ _ _ _ _ _ _ _ _ _ _ _ _ _ _ _ _ (halo5 m c t) (halo6 m c t) (halo7 m c t)]
  unfold resOf
  rw [res_pt]
  unfold mrow arow crow
  simp only [e, blk0, blk1, blk2, blk3, blk4, blk8, blk9, blk10, blk11, blk12, blk13, blk14, blk15]

theorem final (c : Dev nD) : (dats m 0 c).arrAt 16 cfg0.N = resOf m c := by
  refine (dats m 0 c).arrAt_eq_of_covers 16 _ (by decide +kernel) fun t hf y => ?_
  blk_simp
  rw [after0_16]
  exact (congrArg (outsAt0 m c t) (eq3 y)).trans ((block_eq m c t (y 1) (y 2)).trans (congrArg (resOf m c) (emb16 t y).symm))

/-- Equal arguments, equal results. -/
theorem same : Cert.algebraic_Kernel5Ideal_Reference5Ideal := by
  intro m ρ m' ρ' _ hagree
  refine ⟨_, Cert.Kernel5Ideal.Value.run_blocks m ρ, ?_⟩
  refine (θ_run Cert.Reference5Ideal.defs _ _).mono (fun _ h c => ⟨(h c).1.trans ?_, (h c).2⟩)
    (Cert.Reference5Ideal.Value.run (F := Ideal) m' ρ')
  obtain ⟨e0, e1, e2, e3, e4, e5, e6, e7, e8, e9, e10, e11, e12⟩ := hagree c
  rw [final]
  unfold resOf aA aZ aCw aCb aLg aLb aX aN aM aG aI aO aW
  rw [← e0, ← e1, ← e2, ← e3, ← e4, ← e5, ← e6, ← e7, ← e8, ← e9, ← e10, ← e11, ← e12]
  rfl

end Cert.Kernel5Ideal.Mix

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2.Skeleton
public import proofs.«01_k».proof.Proof.Gen.Kernel2Ideal.Skeleton
public import proofs.«01_k».proof.Proof.Gen.Kernel2.Launch
public import proofs.«01_k».proof.Proof.Gen.Kernel2Ideal.Launch
public import proofs.«01_k».proof.Proof.Gen.Kernel2.Points
public import proofs.«01_k».proof.Proof.Gen.Kernel2Ideal.Points
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Kernel3.Skeleton
public import proofs.«01_k».proof.Proof.Gen.Kernel3Ideal.Skeleton
public import proofs.«01_k».proof.Proof.Gen.Kernel3.Launch
public import proofs.«01_k».proof.Proof.Gen.Kernel3Ideal.Launch
public import proofs.«01_k».proof.Proof.Gen.Kernel3.Points
public import proofs.«01_k».proof.Proof.Gen.Kernel3Ideal.Points
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Kernel4.Skeleton
public import proofs.«01_k».proof.Proof.Gen.Kernel4Ideal.Skeleton
public import proofs.«01_k».proof.Proof.Gen.Kernel4.Launch
public import proofs.«01_k».proof.Proof.Gen.Kernel4Ideal.Launch
public import proofs.«01_k».proof.Proof.Gen.Kernel4.Points
public import proofs.«01_k».proof.Proof.Gen.Kernel4Ideal.Points
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Kernel5.Skeleton
public import proofs.«01_k».proof.Proof.Gen.Kernel5Ideal.Skeleton
public import proofs.«01_k».proof.Proof.Gen.Kernel5.Launch
public import proofs.«01_k».proof.Proof.Gen.Kernel5Ideal.Launch
public import proofs.«01_k».proof.Proof.Gen.Kernel5.Points
public import proofs.«01_k».proof.Proof.Gen.Kernel5Ideal.Points
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Final
public import proofs.«01_k».proof.Proof.LastSame
public import proofs.«01_k».proof.Proof.ProjWin
public import proofs.«01_k».proof.Proof.QkvWin
public import proofs.«01_k».proof.Proof.MixWin
public import Idealize.ShloMosaic.Adequacy
public import Idealize.ShloMosaic.Init

@[expose] public section

noncomputable section

namespace Cert.Proof

open Idealize.ShloMosaic Idealize.SL.Sem

/-- Equal arguments, equal results. -/
theorem same : Cert.algebraic_KernelIdeal_ReferenceIdeal := by
  intro m ρ m' ρ' _ hagree
  refine ⟨_, Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Stage.res_eq, Cert.KernelIdeal.Heads.final]
  unfold Cert.KernelIdeal.Heads.aX Cert.KernelIdeal.Heads.aQ
  rw [e0, e1, e2, e3, e4, e5, e6]

/-- The reference of the last call runs and keeps its arguments. -/
theorem frame2 : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The reference of the call that makes the queries, keys and values runs and keeps its arguments. -/
theorem frame3 : Cert.quiescent_Reference3Ideal := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run m ρ)

/-- The reference of the call that makes the mixer's inputs runs and keeps its arguments. -/
theorem frame4 : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run m ρ)

/-- The reference of the mixer's feed-forward call runs and keeps its arguments. -/
theorem frame5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Gen.frame m ρ, fun m ρ _ => Cert.KernelIdeal.Gen.frame m ρ,
    fun m ρ _ => (θ_run Cert.ReferenceIdeal.defs _ _).mono
      (fun r h => ⟨fun c => (h c).2, Idealize.ShloMosaic.sem_eq_zero_of_no_sems (by decide) r.2⟩)
      (Cert.ReferenceIdeal.Value.run m ρ),
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ, frame5,
    IdealRules.named_const.statement _ _ _ _ _ rfl, same, trivial, Cert.Kernel2Ideal.Last.same,
    IdealRules.named_const.statement _ _ _ _ _ rfl, Cert.Kernel3Ideal.Qkv.same,
    trivial, Cert.Kernel4Ideal.Proj.same,
    trivial, Cert.Kernel5Ideal.Mix.same⟩

end Cert.Proof

end
